-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_either_half : Cert.Pre_either_half.Facts] (m : (ℓ : Loc Cert.Kernel5.nD Cert.Kernel5.τ Cert.Kernel5.sig) → Buf (Elt Bits) ℓ) : Prop :=
  ∀ c : Dev Cert.Kernel5.nD,
    (Cert.Pre_either_half.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2))) = (fun _ => 1#1)

def Pre_Kernel5Ideal [hPre_either_half : Cert.Pre_either_half.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_either_half.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_either_half [hPre_either_half : Cert.Pre_either_half.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_either_half.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 [hPre_either_half_dt : Cert.Pre_either_half_dt.Facts] (m : (ℓ : Loc Cert.Kernel19.nD Cert.Kernel19.τ Cert.Kernel19.sig) → Buf (Elt Bits) ℓ) : Prop :=
  ∀ c : Dev Cert.Kernel19.nD,
    (Cert.Pre_either_half_dt.fn (F := Bits) (m ((c.tc : Thread Cert.Kernel19.nD Cert.Kernel19.τ).loc Cert.Kernel19.main_arg0)) (m ((c.tc : Thread Cert.Kernel19.nD Cert.Kernel19.τ).loc Cert.Kernel19.main_arg1)) (m ((c.tc : Thread Cert.Kernel19.nD Cert.Kernel19.τ).loc Cert.Kernel19.main_arg2))) = (fun _ => 1#1)

def Pre_Kernel19Ideal [hPre_either_half_dt : Cert.Pre_either_half_dt.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_either_half_dt.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_either_half_dt [hPre_either_half_dt : Cert.Pre_either_half_dt.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_either_half_dt.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2))) = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] [hPre_either_half : Cert.Pre_either_half.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] [hPre_either_half : Cert.Pre_either_half.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_either_half [hReference5Ideal : Cert.Reference5Ideal.Facts] [hPre_either_half : Cert.Pre_either_half.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_either_half m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] [hPre_either_half_dt : Cert.Pre_either_half_dt.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] [hPre_either_half_dt : Cert.Pre_either_half_dt.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Reference19Ideal_pre_either_half_dt [hReference19Ideal : Cert.Reference19Ideal.Facts] [hPre_either_half_dt : Cert.Pre_either_half_dt.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_either_half_dt m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v234)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v234) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] [hPre_either_half : Cert.Pre_either_half.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_v13) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_v22) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v32) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] [hPre_either_half_dt : Cert.Pre_either_half_dt.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_either_half : Cert.Pre_either_half.Facts) (hPre_either_half_dt : Cert.Pre_either_half_dt.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_either_half := hPre_either_half)
    ∧ quiescent_Kernel5Ideal (hKernel5Ideal := hKernel5Ideal) (hPre_either_half := hPre_either_half)
    ∧ quiescent_Reference5Ideal (hReference5Ideal := hReference5Ideal)
    ∧ quiescent_Reference5Ideal_pre_either_half (hReference5Ideal := hReference5Ideal) (hPre_either_half := hPre_either_half)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19) (hPre_either_half_dt := hPre_either_half_dt)
    ∧ quiescent_Kernel19Ideal (hKernel19Ideal := hKernel19Ideal) (hPre_either_half_dt := hPre_either_half_dt)
    ∧ quiescent_Reference19Ideal (hReference19Ideal := hReference19Ideal)
    ∧ quiescent_Reference19Ideal_pre_either_half_dt (hReference19Ideal := hReference19Ideal) (hPre_either_half_dt := hPre_either_half_dt)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_either_half := hPre_either_half)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal) (hPre_either_half_dt := hPre_either_half_dt)
    ∧ preserves_Kernel20_Kernel20Ideal
    ∧ algebraic_Kernel20Ideal_Reference20Ideal (hKernel20Ideal := hKernel20Ideal) (hReference20Ideal := hReference20Ideal)
-- ==== Pre_either_half.lean ====
abbrev S2048x8192 : Shape := ⟨2, ![2048, 8192]⟩
abbrev S8192x22528 : Shape := ⟨2, ![8192, 22528]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2048x8192 .bf16) (main_arg1 : FVec F S8192x22528 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_either_half_dt.lean ====
abbrev S2048x8192 : Shape := ⟨2, ![2048, 8192]⟩
abbrev S8192x128 : Shape := ⟨2, ![8192, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2048x8192 .bf16) (main_arg1 : FVec F S8192x128 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_finite.lean ====
abbrev S8192x16384 : Shape := ⟨2, ![8192, 16384]⟩
abbrev S8192 : Shape := ⟨1, ![8192]⟩
abbrev S8192x2048 : Shape := ⟨2, ![8192, 2048]⟩
abbrev S8192x22528 : Shape := ⟨2, ![8192, 22528]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x16384 .bf16) (main_arg1 : IVec S8192 32) (main_arg2 : FVec F S8192x2048 .bf16) (main_arg3 : FVec F S8192x22528 .bf16) : IVec S_ 1 :=
  let main_v0 : FVec F S8192x16384 .bf16 := Host.absf main_arg0
  let main_cst : FVec F S_ .bf16 := constant S_ .bf16 0x7F80#16
  let main_v1 : FVec F S8192x16384 .bf16 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S8192x2048 .bf16 := Host.absf main_arg2
  let main_cst_0 : FVec F S_ .bf16 := constant S_ .bf16 0x7F80#16
  let main_v5 : FVec F S8192x2048 .bf16 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S8192x16384 : Shape := ⟨2, ![8192, 16384]⟩
abbrev S8192 : Shape := ⟨1, ![8192]⟩
abbrev S8192x2048 : Shape := ⟨2, ![8192, 2048]⟩
abbrev S8192x22528 : Shape := ⟨2, ![8192, 22528]⟩
abbrev S8192x8192 : Shape := ⟨2, ![8192, 8192]⟩
abbrev S8192x8x4x256 : Shape := ⟨4, ![8192, 8, 4, 256]⟩
abbrev S8192x8x1x256 : Shape := ⟨4, ![8192, 8, 1, 256]⟩
abbrev S8192x8x256 : Shape := ⟨3, ![8192, 8, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x8x128 : Shape := ⟨3, ![8192, 8, 128]⟩
abbrev S1x8192 : Shape := ⟨2, ![1, 8192]⟩
abbrev S8 : Shape := ⟨1, ![8]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S8x256x8192 : Shape := ⟨3, ![8, 256, 8192]⟩
abbrev S128x1 : Shape := ⟨2, ![128, 1]⟩
abbrev S128x8192 : Shape := ⟨2, ![128, 8192]⟩
abbrev S1x128x8192 : Shape := ⟨3, ![1, 128, 8192]⟩
abbrev S8x128x8192 : Shape := ⟨3, ![8, 128, 8192]⟩
abbrev S8x128x8192x1 : Shape := ⟨4, ![8, 128, 8192, 1]⟩
abbrev S8x8192x256 : Shape := ⟨3, ![8, 8192, 256]⟩
abbrev S8x1x8192x256 : Shape := ⟨4, ![8, 1, 8192, 256]⟩
abbrev S8x128x8192x256 : Shape := ⟨4, ![8, 128, 8192, 256]⟩
abbrev S8x128x256x256 : Shape := ⟨4, ![8, 128, 256, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S512x2048 : Shape := ⟨2, ![512, 2048]⟩
abbrev S512x128 : Shape := ⟨2, ![512, 128]⟩
abbrev S2x64x64 : Shape := ⟨3, ![2, 64, 64]⟩
abbrev S2x64x1 : Shape := ⟨3, ![2, 64, 1]⟩
abbrev S2x1x1 : Shape := ⟨3, ![2, 1, 1]⟩
abbrev S512x512 : Shape := ⟨2, ![512, 512]⟩
abbrev S2x8x256x256 : Shape := ⟨4, ![2, 8, 256, 256]⟩
abbrev S2x256x256 : Shape := ⟨3, ![2, 256, 256]⟩
abbrev S64x128 : Shape := ⟨2, ![64, 128]⟩
abbrev S1x64x1 : Shape := ⟨3, ![1, 64, 1]⟩
abbrev S1x1x1 : Shape := ⟨3, ![1, 1, 1]⟩
abbrev S1x1 : Shape := ⟨2, ![1, 1]⟩
abbrev S64x256 : Shape := ⟨2, ![64, 256]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 270
  | .vmem => 23
  | .smem => 0
  | _ => 0

abbrev hbmTy0_0 (i : Nat) : BufTy := match i % 128 with
  | 0 => ⟨S8192x16384, .bf16⟩
  | 1 => ⟨S8192, .i32⟩
  | 2 => ⟨S8192x2048, .bf16⟩
  | 3 => ⟨S8192x22528, .bf16⟩
  | 4 => ⟨S8192x8192, .bf16⟩
  | 5 => ⟨S8192x8192, .f32⟩
  | 6 => ⟨S8192x8x4x256, .f32⟩
  | 7 => ⟨S8192x8x1x256, .f32⟩
  | 8 => ⟨S8192x8x256, .f32⟩
  | 9 => ⟨S8192x8x1x256, .f32⟩
  | 10 => ⟨S8192x8x256, .f32⟩
  | 11 => ⟨S8192x8x1x256, .f32⟩
  | 12 => ⟨S8192x8x256, .f32⟩
  | 13 => ⟨S8192x8x1x256, .f32⟩
  | 14 => ⟨S8192x8x256, .f32⟩
  | 15 => ⟨S128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S8192, .f32⟩
  | 24 => ⟨S8192x1, .f32⟩
  | 25 => ⟨S1x128, .f32⟩
  | 26 => ⟨S8192x128, .f32⟩
  | 27 => ⟨S8192x128, .f32⟩
  | 28 => ⟨S8192x128, .f32⟩
  | 29 => ⟨S8192x128, .f32⟩
  | 30 => ⟨S8192x1x128, .f32⟩
  | 31 => ⟨S8192x128, .f32⟩
  | 32 => ⟨S8192x1x128, .f32⟩
  | 33 => ⟨S8192x8x128, .f32⟩
  | 34 => ⟨S8192x8x128, .f32⟩
  | 35 => ⟨S8192x8x128, .f32⟩
  | 36 => ⟨S8192x8x128, .f32⟩
  | 37 => ⟨S8192x8x128, .f32⟩
  | 38 => ⟨S8192x8x128, .f32⟩
  | 39 => ⟨S8192x8x128, .f32⟩
  | 40 => ⟨S8192x8x128, .f32⟩
  | 41 => ⟨S8192x8x128, .f32⟩
  | 42 => ⟨S8192x8x128, .f32⟩
  | 43 => ⟨S8192x8x128, .f32⟩
  | 44 => ⟨S8192x8x128, .f32⟩
  | 45 => ⟨S8192x8x256, .f32⟩
  | 46 => ⟨S128, .f32⟩
  | 47 => ⟨S128, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S8192, .f32⟩
  | 55 => ⟨S8192x1, .f32⟩
  | 56 => ⟨S1x128, .f32⟩
  | 57 => ⟨S8192x128, .f32⟩
  | 58 => ⟨S8192x128, .f32⟩
  | 59 => ⟨S8192x128, .f32⟩
  | 60 => ⟨S8192x128, .f32⟩
  | 61 => ⟨S8192x1x128, .f32⟩
  | 62 => ⟨S8192x128, .f32⟩
  | 63 => ⟨S8192x1x128, .f32⟩
  | 64 => ⟨S8192x8x128, .f32⟩
  | 65 => ⟨S8192x8x128, .f32⟩
  | 66 => ⟨S8192x8x128, .f32⟩
  | 67 => ⟨S8192x8x128, .f32⟩
  | 68 => ⟨S8192x8x128, .f32⟩
  | 69 => ⟨S8192x8x128, .f32⟩
  | 70 => ⟨S8192x8x128, .f32⟩
  | 71 => ⟨S8192x8x128, .f32⟩
  | 72 => ⟨S8192x8x128, .f32⟩
  | 73 => ⟨S8192x8x128, .f32⟩
  | 74 => ⟨S8192x8x128, .f32⟩
  | 75 => ⟨S8192x8x128, .f32⟩
  | 76 => ⟨S8192x8x256, .f32⟩
  | 77 => ⟨S_, .f32⟩
  | 78 => ⟨S8192x8x256, .f32⟩
  | 79 => ⟨S8192x8x256, .f32⟩
  | 80 => ⟨S8192, .f32⟩
  | 81 => ⟨S8192, .i32⟩
  | 82 => ⟨S_, .i32⟩
  | 83 => ⟨S8192, .i32⟩
  | 84 => ⟨S8192, .i32⟩
  | 85 => ⟨S1x8192, .i32⟩
  | 86 => ⟨S8192x1, .i32⟩
  | 87 => ⟨S8192x8192, .i32⟩
  | 88 => ⟨S8192x8192, .i32⟩
  | 89 => ⟨S8192x8192, .i1⟩
  | 90 => ⟨S8192x1, .f32⟩
  | 91 => ⟨S1x8192, .f32⟩
  | 92 => ⟨S8192x8192, .f32⟩
  | 93 => ⟨S8192x8192, .f32⟩
  | 94 => ⟨S8192x8192, .f32⟩
  | 95 => ⟨S8192x8192, .f32⟩
  | 96 => ⟨S8, .f32⟩
  | 97 => ⟨S_, .f32⟩
  | 98 => ⟨S8, .f32⟩
  | 99 => ⟨S8, .f32⟩
  | 100 => ⟨S_, .f32⟩
  | 101 => ⟨S8, .f32⟩
  | 102 => ⟨S8, .f32⟩
  | 103 => ⟨S8, .f32⟩
  | 104 => ⟨S8, .f32⟩
  | 105 => ⟨S8x1x1, .f32⟩
  | 106 => ⟨S1x8192x8192, .f32⟩
  | 107 => ⟨S8x8192x8192, .f32⟩
  | 108 => ⟨S8x8192x8192, .f32⟩
  | 109 => ⟨S8x8192x8192, .f32⟩
  | 110 => ⟨S8x8192x8192, .f32⟩
  | 111 => ⟨S_, .f32⟩
  | 112 => ⟨S_, .f32⟩
  | 113 => ⟨S8x8192x8192, .i1⟩
  | 114 => ⟨S8x8192x8192, .f32⟩
  | 115 => ⟨S8x8192x8192, .f32⟩
  | 116 => ⟨S8x8192x8192, .f32⟩
  | 117 => ⟨S8x8192x8192, .f32⟩
  | 118 => ⟨S8x256x8192, .f32⟩
  | 119 => ⟨S8192x8x256, .f32⟩
  | 120 => ⟨S8192x2048, .f32⟩
  | 121 => ⟨S128, .f32⟩
  | 122 => ⟨S128, .f32⟩
  | 123 => ⟨S_, .f32⟩
  | 124 => ⟨S128, .f32⟩
  | 125 => ⟨S128, .f32⟩
  | 126 => ⟨S_, .f32⟩
  | 127 => ⟨S128, .f32⟩
  | _ => ⟨S8192x16384, .bf16⟩

abbrev hbmTy0_1 (i : Nat) : BufTy := match i % 128 with
  | 0 => ⟨S128, .f32⟩
  | 1 => ⟨S8192, .f32⟩
  | 2 => ⟨S8192x1, .f32⟩
  | 3 => ⟨S1x128, .f32⟩
  | 4 => ⟨S8192x128, .f32⟩
  | 5 => ⟨S8192x128, .f32⟩
  | 6 => ⟨S8192x128, .f32⟩
  | 7 => ⟨S8192x128, .f32⟩
  | 8 => ⟨S8192x1x128, .f32⟩
  | 9 => ⟨S8192x128, .f32⟩
  | 10 => ⟨S8192x1x128, .f32⟩
  | 11 => ⟨S8192x8x128, .f32⟩
  | 12 => ⟨S8192x8x128, .f32⟩
  | 13 => ⟨S8192x8x128, .f32⟩
  | 14 => ⟨S8192x8x128, .f32⟩
  | 15 => ⟨S8192x8x128, .f32⟩
  | 16 => ⟨S8192x8x128, .f32⟩
  | 17 => ⟨S8192x8x128, .f32⟩
  | 18 => ⟨S8192x8x128, .f32⟩
  | 19 => ⟨S8192x8x128, .f32⟩
  | 20 => ⟨S8192x8x128, .f32⟩
  | 21 => ⟨S8192x8x128, .f32⟩
  | 22 => ⟨S8192x8x128, .f32⟩
  | 23 => ⟨S8192x8x256, .f32⟩
  | 24 => ⟨S_, .f32⟩
  | 25 => ⟨S8192x8x256, .f32⟩
  | 26 => ⟨S8192x8x256, .f32⟩
  | 27 => ⟨S8192, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S8192, .i32⟩
  | 36 => ⟨S_, .i32⟩
  | 37 => ⟨S8192, .i32⟩
  | 38 => ⟨S8192, .i32⟩
  | 39 => ⟨S1x8192, .i32⟩
  | 40 => ⟨S128, .i32⟩
  | 41 => ⟨S128x1, .i32⟩
  | 42 => ⟨S128x8192, .i32⟩
  | 43 => ⟨S128x8192, .i32⟩
  | 44 => ⟨S128x8192, .i1⟩
  | 45 => ⟨S128x1, .f32⟩
  | 46 => ⟨S1x8192, .f32⟩
  | 47 => ⟨S128x8192, .f32⟩
  | 48 => ⟨S128x8192, .f32⟩
  | 49 => ⟨S128x8192, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8, .f32⟩
  | 59 => ⟨S8x1x1, .f32⟩
  | 60 => ⟨S1x128x8192, .f32⟩
  | 61 => ⟨S8x128x8192, .f32⟩
  | 62 => ⟨S8x128x8192, .f32⟩
  | 63 => ⟨S8x128x8192, .f32⟩
  | 64 => ⟨S8x128x8192, .f32⟩
  | 65 => ⟨S_, .f32⟩
  | 66 => ⟨S_, .f32⟩
  | 67 => ⟨S8x128x8192, .i1⟩
  | 68 => ⟨S8x128x8192, .f32⟩
  | 69 => ⟨S8x128x8192, .f32⟩
  | 70 => ⟨S8x128x8192x1, .f32⟩
  | 71 => ⟨S8x8192x256, .f32⟩
  | 72 => ⟨S8x1x8192x256, .f32⟩
  | 73 => ⟨S8x128x8192x256, .f32⟩
  | 74 => ⟨S8x128x8192x256, .f32⟩
  | 75 => ⟨S8x128x8192x256, .f32⟩
  | 76 => ⟨S8x128x256x256, .f32⟩
  | 77 => ⟨S8x128x256x256, .bf16⟩
  | 78 => ⟨S128, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S8192, .f32⟩
  | 87 => ⟨S8192x1, .f32⟩
  | 88 => ⟨S1x128, .f32⟩
  | 89 => ⟨S8192x128, .f32⟩
  | 90 => ⟨S8192x128, .f32⟩
  | 91 => ⟨S8192x128, .f32⟩
  | 92 => ⟨S8192x128, .f32⟩
  | 93 => ⟨S8192x128, .f32⟩
  | 94 => ⟨S8, .f32⟩
  | 95 => ⟨S_, .f32⟩
  | 96 => ⟨S8, .f32⟩
  | 97 => ⟨S8, .f32⟩
  | 98 => ⟨S_, .f32⟩
  | 99 => ⟨S8, .f32⟩
  | 100 => ⟨S8, .f32⟩
  | 101 => ⟨S8, .f32⟩
  | 102 => ⟨S8, .f32⟩
  | 103 => ⟨S64, .f32⟩
  | 104 => ⟨S64x1, .f32⟩
  | 105 => ⟨S1x64, .f32⟩
  | 106 => ⟨S64x64, .f32⟩
  | 107 => ⟨S64x64, .f32⟩
  | 108 => ⟨S64x64, .f32⟩
  | 109 => ⟨S64x64, .f32⟩
  | 110 => ⟨S8x1x1, .f32⟩
  | 111 => ⟨S1x64x64, .f32⟩
  | 112 => ⟨S8x64x64, .f32⟩
  | 113 => ⟨S8x64x64, .f32⟩
  | 114 => ⟨S8x64x64, .f32⟩
  | 115 => ⟨S8x64x64, .f32⟩
  | 116 => ⟨S_, .f32⟩
  | 117 => ⟨S64, .f32⟩
  | 118 => ⟨S64, .f32⟩
  | 119 => ⟨S1x64, .f32⟩
  | 120 => ⟨S8x1, .f32⟩
  | 121 => ⟨S8x64, .f32⟩
  | 122 => ⟨S8x64, .f32⟩
  | 123 => ⟨S8x64, .f32⟩
  | 124 => ⟨S8x64, .f32⟩
  | 125 => ⟨S8x64x1, .f32⟩
  | 126 => ⟨S_, .f32⟩
  | 127 => ⟨S64, .f32⟩
  | _ => ⟨S8192x16384, .bf16⟩

abbrev hbmTy0_2 (i : Nat) : BufTy := match i % 128 with
  | 0 => ⟨S64, .f32⟩
  | 1 => ⟨S1x64, .f32⟩
  | 2 => ⟨S8x1, .f32⟩
  | 3 => ⟨S8x64, .f32⟩
  | 4 => ⟨S8x64, .f32⟩
  | 5 => ⟨S8x64, .f32⟩
  | 6 => ⟨S8x64, .f32⟩
  | 7 => ⟨S8x64x1, .f32⟩
  | 8 => ⟨S_, .f32⟩
  | 9 => ⟨S8, .f32⟩
  | 10 => ⟨S8, .f32⟩
  | 11 => ⟨S8, .f32⟩
  | 12 => ⟨S8x1x1, .f32⟩
  | 13 => ⟨S8192x22528, .bf16⟩
  | _ => ⟨S8192x16384, .bf16⟩

abbrev hbmTy (i : Nat) : BufTy := match i / 128 with
  | 0 => hbmTy0_0 i
  | 1 => hbmTy0_1 i
  | 2 => hbmTy0_2 i
  | _ => ⟨S8192x16384, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S2x64x64, .f32⟩
  | .local _ .vmem, ⟨7, _⟩ => ⟨S2x64x64, .f32⟩
  | .local _ .vmem, ⟨8, _⟩ => ⟨S2x64x1, .f32⟩
  | .local _ .vmem, ⟨9, _⟩ => ⟨S2x64x1, .f32⟩
  | .local _ .vmem, ⟨10, _⟩ => ⟨S2x64x1, .f32⟩
  | .local _ .vmem, ⟨11, _⟩ => ⟨S2x64x1, .f32⟩
  | .local _ .vmem, ⟨12, _⟩ => ⟨S2x1x1, .f32⟩
  | .local _ .vmem, ⟨13, _⟩ => ⟨S2x1x1, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | .local _ .vmem, ⟨18, _⟩ => ⟨S2x8x256x256, .bf16⟩
  | .local _ .vmem, ⟨19, _⟩ => ⟨S2x8x256x256, .bf16⟩
  | .local _ .vmem, ⟨20, _⟩ => ⟨S512x2048, .bf16⟩
  | .local _ .vmem, ⟨21, _⟩ => ⟨S512x2048, .bf16⟩
  | .local _ .vmem, ⟨22, _⟩ => ⟨S2x256x256, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_3 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_c : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_4 : Ref sig .tc := ⟨.hbm, 97, rfl⟩
abbrev main_v87 : Ref sig .tc := ⟨.hbm, 98, rfl⟩
abbrev main_v88 : Ref sig .tc := ⟨.hbm, 99, rfl⟩
abbrev main_cst_5 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_6 : Ref sig .tc := ⟨.hbm, 111, rfl⟩
abbrev main_call0_v0 : Ref sig .tc := ⟨.hbm, 112, rfl⟩
abbrev main_call0_v1 : Ref sig .tc := ⟨.hbm, 113, rfl⟩
abbrev main_call0_v2 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_7 : Ref sig .tc := ⟨.hbm, 123, rfl⟩
abbrev main_v107 : Ref sig .tc := ⟨.hbm, 124, rfl⟩
abbrev main_v108 : Ref sig .tc := ⟨.hbm, 125, rfl⟩
abbrev main_cst_8 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_cst_9 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_10 : Ref sig .tc := ⟨.hbm, 157, rfl⟩
abbrev main_v138 : Ref sig .tc := ⟨.hbm, 158, rfl⟩
abbrev main_v139 : Ref sig .tc := ⟨.hbm, 159, rfl⟩
abbrev main_cst_11 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_c_12 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_cst_13 : Ref sig .tc := ⟨.hbm, 179, rfl⟩
abbrev main_v157 : Ref sig .tc := ⟨.hbm, 180, rfl⟩
abbrev main_v158 : Ref sig .tc := ⟨.hbm, 181, rfl⟩
abbrev main_cst_14 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_cst_15 : Ref sig .tc := ⟨.hbm, 193, rfl⟩
abbrev main_call1_v0 : Ref sig .tc := ⟨.hbm, 194, rfl⟩
abbrev main_call1_v1 : Ref sig .tc := ⟨.hbm, 195, rfl⟩
abbrev main_call1_v2 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_cst_16 : Ref sig .tc := ⟨.hbm, 208, rfl⟩
abbrev main_v180 : Ref sig .tc := ⟨.hbm, 209, rfl⟩
abbrev main_v181 : Ref sig .tc := ⟨.hbm, 210, rfl⟩
abbrev main_cst_17 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_cst_18 : Ref sig .tc := ⟨.hbm, 223, rfl⟩
abbrev main_v193 : Ref sig .tc := ⟨.hbm, 224, rfl⟩
abbrev main_v194 : Ref sig .tc := ⟨.hbm, 225, rfl⟩
abbrev main_cst_19 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_cst_20 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_cst_21 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_cst_22 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_mult1 : BitVec 32 :=
  let c7_i32 : BitVec 32 := 7#32
  let c0_i32_1 : BitVec 32 := 0#32
  let v3 : BitVec 32 := Scalar.subi c7_i32 c0_i32_1
  let c64_i32 : BitVec 32 := 64#32
  let v4 : BitVec 32 := Scalar.muli v3 c64_i32
  v4
def k0_off1 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v6 : Index := Scalar.indexCast v5
  let c0 : Index := 0#32
  ![v6.toNat, 0]
def k0_off2 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v20 : Index := Scalar.indexCast v5
  let c0_15 : Index := 0#32
  ![v20.toNat, 0]
def k0_off3 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v32 : Index := Scalar.indexCast v5
  let c256 : Index := 256#32
  ![v32.toNat, 256]
def k0_off4 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v48 : Index := Scalar.indexCast v5
  let c512 : Index := 512#32
  ![v48.toNat, 512]
def k0_off5 (c0_i32_1 : BitVec 32) : Fin 4 → Nat :=
  let c0_16 : Index := 0#32
  let c7_i32 : BitVec 32 := 7#32
  let v3 : BitVec 32 := Scalar.subi c7_i32 c0_i32_1
  let v53 : Index := Scalar.indexCast v3
  let c0_17 : Index := 0#32
  let c0_18 : Index := 0#32
  ![0, v53.toNat, 0, 0]
def k0_off6 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v56 : Index := Scalar.indexCast v5
  let c0_19 : Index := 0#32
  ![v56.toNat, 0]
def k0_off7 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v59 : Index := Scalar.indexCast v5
  let c768 : Index := 768#32
  ![v59.toNat, 768]
def k0_off8 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v185 : Index := Scalar.indexCast v5
  let c1024 : Index := 1024#32
  ![v185.toNat, 1024]
def k0_off9 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v197 : Index := Scalar.indexCast v5
  let c1280 : Index := 1280#32
  ![v197.toNat, 1280]
def k0_off10 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v213 : Index := Scalar.indexCast v5
  let c1536 : Index := 1536#32
  ![v213.toNat, 1536]
def k0_off11 (c0_i32_1 : BitVec 32) : Fin 4 → Nat :=
  let c1_68 : Index := 1#32
  let c7_i32 : BitVec 32 := 7#32
  let v3 : BitVec 32 := Scalar.subi c7_i32 c0_i32_1
  let v218 : Index := Scalar.indexCast v3
  let c0_69 : Index := 0#32
  let c0_70 : Index := 0#32
  ![1, v218.toNat, 0, 0]
def k0_off12 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v221 : Index := Scalar.indexCast v5
  let c256_71 : Index := 256#32
  ![v221.toNat, 256]
def k0_off13 (c0_i32_1 : BitVec 32) : Fin 2 → Nat :=
  let c7_i32 : BitVec 32 := 7#32
  let v3 : BitVec 32 := Scalar.subi c7_i32 c0_i32_1
  let c64_i32 : BitVec 32 := 64#32
  let v4 : BitVec 32 := Scalar.muli v3 c64_i32
  let v5 : BitVec 32 := v4
  let v224 : Index := Scalar.indexCast v5
  let c1792 : Index := 1792#32
  ![v224.toNat, 1792]
def k0_mult2 : BitVec 32 :=
  let c7_i32_108 : BitVec 32 := 7#32
  let c1_i32 : BitVec 32 := 1#32
  let v342 : BitVec 32 := Scalar.subi c7_i32_108 c1_i32
  let c64_i32_109 : BitVec 32 := 64#32
  let v343 : BitVec 32 := Scalar.muli v342 c64_i32_109
  v343
def k0_mult3 : BitVec 32 :=
  let c7_i32_226 : BitVec 32 := 7#32
  let c2_i32 : BitVec 32 := 2#32
  let v681 : BitVec 32 := Scalar.subi c7_i32_226 c2_i32
  let c64_i32_227 : BitVec 32 := 64#32
  let v682 : BitVec 32 := Scalar.muli v681 c64_i32_227
  v682
def k0_mult4 : BitVec 32 :=
  let c7_i32_344 : BitVec 32 := 7#32
  let c3_i32 : BitVec 32 := 3#32
  let v1020 : BitVec 32 := Scalar.subi c7_i32_344 c3_i32
  let c64_i32_345 : BitVec 32 := 64#32
  let v1021 : BitVec 32 := Scalar.muli v1020 c64_i32_345
  v1021
def k0_mult5 : BitVec 32 :=
  let c7_i32_462 : BitVec 32 := 7#32
  let c4_i32 : BitVec 32 := 4#32
  let v1359 : BitVec 32 := Scalar.subi c7_i32_462 c4_i32
  let c64_i32_463 : BitVec 32 := 64#32
  let v1360 : BitVec 32 := Scalar.muli v1359 c64_i32_463
  v1360
def k0_mult6 : BitVec 32 :=
  let c7_i32_580 : BitVec 32 := 7#32
  let c5_i32 : BitVec 32 := 5#32
  let v1698 : BitVec 32 := Scalar.subi c7_i32_580 c5_i32
  let c64_i32_581 : BitVec 32 := 64#32
  let v1699 : BitVec 32 := Scalar.muli v1698 c64_i32_581
  v1699
def k0_mult7 : BitVec 32 :=
  let c7_i32_698 : BitVec 32 := 7#32
  let c6_i32 : BitVec 32 := 6#32
  let v2037 : BitVec 32 := Scalar.subi c7_i32_698 c6_i32
  let c64_i32_699 : BitVec 32 := 64#32
  let v2038 : BitVec 32 := Scalar.muli v2037 c64_i32_699
  v2038
def k0_mult8 : BitVec 32 :=
  let c7_i32_817 : BitVec 32 := 7#32
  let c7_i32_816 : BitVec 32 := 7#32
  let v2376 : BitVec 32 := Scalar.subi c7_i32_817 c7_i32_816
  let c64_i32_818 : BitVec 32 := 64#32
  let v2377 : BitVec 32 := Scalar.muli v2376 c64_i32_818
  v2377
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_9 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x8x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x16384 : Shape := ⟨2, ![8192, 16384]⟩
abbrev S8192 : Shape := ⟨1, ![8192]⟩
abbrev S8192x2048 : Shape := ⟨2, ![8192, 2048]⟩
abbrev S8192x22528 : Shape := ⟨2, ![8192, 22528]⟩
abbrev S8192x8x256 : Shape := ⟨3, ![8192, 8, 256]⟩
abbrev S8192x8192 : Shape := ⟨2, ![8192, 8192]⟩
abbrev S8192x8x4x256 : Shape := ⟨4, ![8192, 8, 4, 256]⟩
abbrev S8192x8x1x256 : Shape := ⟨4, ![8192, 8, 1, 256]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x1x128 : Shape := ⟨3, ![8192, 1, 128]⟩
abbrev S8192x8x128 : Shape := ⟨3, ![8192, 8, 128]⟩
abbrev S1x8192 : Shape := ⟨2, ![1, 8192]⟩
abbrev S8 : Shape := ⟨1, ![8]⟩
abbrev S8x1x1 : Shape := ⟨3, ![8, 1, 1]⟩
abbrev S1x8192x8192 : Shape := ⟨3, ![1, 8192, 8192]⟩
abbrev S8x8192x8192 : Shape := ⟨3, ![8, 8192, 8192]⟩
abbrev S8x256x8192 : Shape := ⟨3, ![8, 256, 8192]⟩
abbrev S8192x8 : Shape := ⟨2, ![8192, 8]⟩
abbrev S8192x8x1 : Shape := ⟨3, ![8192, 8, 1]⟩
abbrev S8x8192x256 : Shape := ⟨3, ![8, 8192, 256]⟩
abbrev S8192x14336 : Shape := ⟨2, ![8192, 14336]⟩

abbrev nBuf : Space → Nat
  | .hbm => 260
  | .vmem => 0
  | .smem => 0
  | _ => 0

abbrev hbmTy0_0 (i : Nat) : BufTy := match i % 128 with
  | 0 => ⟨S8192x16384, .bf16⟩
  | 1 => ⟨S8192, .i32⟩
  | 2 => ⟨S8192x2048, .bf16⟩
  | 3 => ⟨S8192x22528, .bf16⟩
  | 4 => ⟨S8192x2048, .f32⟩
  | 5 => ⟨S8192x8x256, .f32⟩
  | 6 => ⟨S8192x8192, .bf16⟩
  | 7 => ⟨S8192x8192, .f32⟩
  | 8 => ⟨S8192x8x4x256, .f32⟩
  | 9 => ⟨S8192x8x1x256, .f32⟩
  | 10 => ⟨S8192x8x256, .f32⟩
  | 11 => ⟨S8192x8x1x256, .f32⟩
  | 12 => ⟨S8192x8x256, .f32⟩
  | 13 => ⟨S8192x8x1x256, .f32⟩
  | 14 => ⟨S8192x8x256, .f32⟩
  | 15 => ⟨S8192x8x1x256, .f32⟩
  | 16 => ⟨S8192x8x256, .f32⟩
  | 17 => ⟨S128, .f32⟩
  | 18 => ⟨S128, .f32⟩
  | 19 => ⟨S_, .f32⟩
  | 20 => ⟨S128, .f32⟩
  | 21 => ⟨S128, .f32⟩
  | 22 => ⟨S_, .f32⟩
  | 23 => ⟨S128, .f32⟩
  | 24 => ⟨S128, .f32⟩
  | 25 => ⟨S8192, .f32⟩
  | 26 => ⟨S8192x1, .f32⟩
  | 27 => ⟨S1x128, .f32⟩
  | 28 => ⟨S8192x128, .f32⟩
  | 29 => ⟨S8192x128, .f32⟩
  | 30 => ⟨S8192x128, .f32⟩
  | 31 => ⟨S8192x128, .f32⟩
  | 32 => ⟨S8192x1x128, .f32⟩
  | 33 => ⟨S8192x128, .f32⟩
  | 34 => ⟨S8192x1x128, .f32⟩
  | 35 => ⟨S8192x8x128, .f32⟩
  | 36 => ⟨S8192x8x128, .f32⟩
  | 37 => ⟨S8192x8x128, .f32⟩
  | 38 => ⟨S8192x8x128, .f32⟩
  | 39 => ⟨S8192x8x128, .f32⟩
  | 40 => ⟨S8192x8x128, .f32⟩
  | 41 => ⟨S8192x8x128, .f32⟩
  | 42 => ⟨S8192x8x128, .f32⟩
  | 43 => ⟨S8192x8x128, .f32⟩
  | 44 => ⟨S8192x8x128, .f32⟩
  | 45 => ⟨S8192x8x128, .f32⟩
  | 46 => ⟨S8192x8x128, .f32⟩
  | 47 => ⟨S8192x8x256, .f32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S8192, .f32⟩
  | 57 => ⟨S8192x1, .f32⟩
  | 58 => ⟨S1x128, .f32⟩
  | 59 => ⟨S8192x128, .f32⟩
  | 60 => ⟨S8192x128, .f32⟩
  | 61 => ⟨S8192x128, .f32⟩
  | 62 => ⟨S8192x128, .f32⟩
  | 63 => ⟨S8192x1x128, .f32⟩
  | 64 => ⟨S8192x128, .f32⟩
  | 65 => ⟨S8192x1x128, .f32⟩
  | 66 => ⟨S8192x8x128, .f32⟩
  | 67 => ⟨S8192x8x128, .f32⟩
  | 68 => ⟨S8192x8x128, .f32⟩
  | 69 => ⟨S8192x8x128, .f32⟩
  | 70 => ⟨S8192x8x128, .f32⟩
  | 71 => ⟨S8192x8x128, .f32⟩
  | 72 => ⟨S8192x8x128, .f32⟩
  | 73 => ⟨S8192x8x128, .f32⟩
  | 74 => ⟨S8192x8x128, .f32⟩
  | 75 => ⟨S8192x8x128, .f32⟩
  | 76 => ⟨S8192x8x128, .f32⟩
  | 77 => ⟨S8192x8x128, .f32⟩
  | 78 => ⟨S8192x8x256, .f32⟩
  | 79 => ⟨S_, .f32⟩
  | 80 => ⟨S8192x8x256, .f32⟩
  | 81 => ⟨S8192x8x256, .f32⟩
  | 82 => ⟨S8192, .f32⟩
  | 83 => ⟨S8192, .i32⟩
  | 84 => ⟨S_, .i32⟩
  | 85 => ⟨S8192, .i32⟩
  | 86 => ⟨S8192, .i32⟩
  | 87 => ⟨S1x8192, .i32⟩
  | 88 => ⟨S8192x1, .i32⟩
  | 89 => ⟨S8192x8192, .i32⟩
  | 90 => ⟨S8192x8192, .i32⟩
  | 91 => ⟨S8192x8192, .i1⟩
  | 92 => ⟨S8192x1, .f32⟩
  | 93 => ⟨S1x8192, .f32⟩
  | 94 => ⟨S8192x8192, .f32⟩
  | 95 => ⟨S8192x8192, .f32⟩
  | 96 => ⟨S8192x8192, .f32⟩
  | 97 => ⟨S8192x8192, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S8, .f32⟩
  | 106 => ⟨S8, .f32⟩
  | 107 => ⟨S8x1x1, .f32⟩
  | 108 => ⟨S1x8192x8192, .f32⟩
  | 109 => ⟨S8x8192x8192, .f32⟩
  | 110 => ⟨S8x8192x8192, .f32⟩
  | 111 => ⟨S8x8192x8192, .f32⟩
  | 112 => ⟨S8x8192x8192, .f32⟩
  | 113 => ⟨S_, .f32⟩
  | 114 => ⟨S_, .f32⟩
  | 115 => ⟨S8x8192x8192, .i1⟩
  | 116 => ⟨S8x8192x8192, .f32⟩
  | 117 => ⟨S8x8192x8192, .f32⟩
  | 118 => ⟨S8x8192x8192, .f32⟩
  | 119 => ⟨S8x8192x8192, .f32⟩
  | 120 => ⟨S8x256x8192, .f32⟩
  | 121 => ⟨S8192x8x256, .f32⟩
  | 122 => ⟨S_, .f32⟩
  | 123 => ⟨S8192x8, .f32⟩
  | 124 => ⟨S8192x8x1, .f32⟩
  | 125 => ⟨S_, .f32⟩
  | 126 => ⟨S8192x8x1, .f32⟩
  | 127 => ⟨S8192x8x1, .f32⟩
  | _ => ⟨S8192x16384, .bf16⟩

abbrev hbmTy0_1 (i : Nat) : BufTy := match i % 128 with
  | 0 => ⟨S8192x8x256, .f32⟩
  | 1 => ⟨S8192x8x256, .f32⟩
  | 2 => ⟨S8192x8x256, .f32⟩
  | 3 => ⟨S_, .f32⟩
  | 4 => ⟨S8192x8x256, .f32⟩
  | 5 => ⟨S8192x8x256, .f32⟩
  | 6 => ⟨S_, .f32⟩
  | 7 => ⟨S8192x8, .f32⟩
  | 8 => ⟨S8192x8x1, .f32⟩
  | 9 => ⟨S_, .f32⟩
  | 10 => ⟨S8192x8x1, .f32⟩
  | 11 => ⟨S8192x8x1, .f32⟩
  | 12 => ⟨S8192x8x256, .f32⟩
  | 13 => ⟨S8192x8x256, .f32⟩
  | 14 => ⟨S_, .f32⟩
  | 15 => ⟨S8192x8x1, .f32⟩
  | 16 => ⟨S8192x8x1, .f32⟩
  | 17 => ⟨S8192x8x1, .f32⟩
  | 18 => ⟨S8192x8x1, .f32⟩
  | 19 => ⟨S_, .f32⟩
  | 20 => ⟨S8192x8x1, .f32⟩
  | 21 => ⟨S8192x8x1, .f32⟩
  | 22 => ⟨S8192x8x256, .f32⟩
  | 23 => ⟨S8192x8x256, .f32⟩
  | 24 => ⟨S8192x8x256, .f32⟩
  | 25 => ⟨S8192x8x256, .f32⟩
  | 26 => ⟨S_, .f32⟩
  | 27 => ⟨S8192x8x256, .f32⟩
  | 28 => ⟨S8192x8x256, .f32⟩
  | 29 => ⟨S_, .f32⟩
  | 30 => ⟨S8192x8x256, .f32⟩
  | 31 => ⟨S8192x8x256, .f32⟩
  | 32 => ⟨S_, .f32⟩
  | 33 => ⟨S8192x8x256, .f32⟩
  | 34 => ⟨S8192x8x256, .f32⟩
  | 35 => ⟨S8192x8x256, .f32⟩
  | 36 => ⟨S8192x8x256, .f32⟩
  | 37 => ⟨S8192x8x256, .f32⟩
  | 38 => ⟨S8192x8x256, .f32⟩
  | 39 => ⟨S8192x8x256, .f32⟩
  | 40 => ⟨S8192x8x256, .f32⟩
  | 41 => ⟨S8192x8x256, .f32⟩
  | 42 => ⟨S8192x8x256, .f32⟩
  | 43 => ⟨S8192x8x256, .f32⟩
  | 44 => ⟨S8192x8x256, .f32⟩
  | 45 => ⟨S_, .f32⟩
  | 46 => ⟨S8192x8, .f32⟩
  | 47 => ⟨S8192x8x1, .f32⟩
  | 48 => ⟨S8192x8x256, .f32⟩
  | 49 => ⟨S8192x8x256, .f32⟩
  | 50 => ⟨S8192x8x1, .f32⟩
  | 51 => ⟨S8192x8x256, .f32⟩
  | 52 => ⟨S_, .f32⟩
  | 53 => ⟨S8192x8, .f32⟩
  | 54 => ⟨S8192x8x1, .f32⟩
  | 55 => ⟨S_, .f32⟩
  | 56 => ⟨S8192x8x1, .f32⟩
  | 57 => ⟨S8192x8x1, .f32⟩
  | 58 => ⟨S_, .f32⟩
  | 59 => ⟨S8192x8, .f32⟩
  | 60 => ⟨S8192x8x256, .f32⟩
  | 61 => ⟨S8192x8x256, .f32⟩
  | 62 => ⟨S8192x8x256, .f32⟩
  | 63 => ⟨S_, .f32⟩
  | 64 => ⟨S8192x8, .f32⟩
  | 65 => ⟨S8192x8x1, .f32⟩
  | 66 => ⟨S8192x8x256, .f32⟩
  | 67 => ⟨S8192x8x1, .f32⟩
  | 68 => ⟨S_, .f32⟩
  | 69 => ⟨S8192x8x1, .f32⟩
  | 70 => ⟨S8192x8x1, .f32⟩
  | 71 => ⟨S_, .f32⟩
  | 72 => ⟨S8192x8, .f32⟩
  | 73 => ⟨S8192x8x256, .f32⟩
  | 74 => ⟨S8192x8x256, .f32⟩
  | 75 => ⟨S8x256x8192, .f32⟩
  | 76 => ⟨S8x8192x8192, .f32⟩
  | 77 => ⟨S8x256x8192, .f32⟩
  | 78 => ⟨S8192x8x256, .f32⟩
  | 79 => ⟨S8x8192x8192, .f32⟩
  | 80 => ⟨S8x8192x256, .f32⟩
  | 81 => ⟨S8192x8x256, .f32⟩
  | 82 => ⟨S8x8192x256, .f32⟩
  | 83 => ⟨S8192x8x256, .f32⟩
  | 84 => ⟨S_, .f32⟩
  | 85 => ⟨S8192x8x256, .f32⟩
  | 86 => ⟨S8192x8x256, .f32⟩
  | 87 => ⟨S8192x8x128, .f32⟩
  | 88 => ⟨S8192x8x128, .f32⟩
  | 89 => ⟨S8192x8x128, .f32⟩
  | 90 => ⟨S8192x8x128, .f32⟩
  | 91 => ⟨S8192x8x128, .f32⟩
  | 92 => ⟨S8192x8x128, .f32⟩
  | 93 => ⟨S8192x8x128, .f32⟩
  | 94 => ⟨S8192x8x128, .f32⟩
  | 95 => ⟨S8192x8x128, .f32⟩
  | 96 => ⟨S8192x8x128, .f32⟩
  | 97 => ⟨S8192x8x128, .f32⟩
  | 98 => ⟨S8192x8x128, .f32⟩
  | 99 => ⟨S8192x8x128, .f32⟩
  | 100 => ⟨S_, .f32⟩
  | 101 => ⟨S8192x8x256, .f32⟩
  | 102 => ⟨S_, .f32⟩
  | 103 => ⟨S8192x8x256, .f32⟩
  | 104 => ⟨S8192x8x256, .f32⟩
  | 105 => ⟨S8192x8x128, .f32⟩
  | 106 => ⟨S8192x8x128, .f32⟩
  | 107 => ⟨S8192x8x128, .f32⟩
  | 108 => ⟨S8192x8x128, .f32⟩
  | 109 => ⟨S8192x8x128, .f32⟩
  | 110 => ⟨S8192x8x128, .f32⟩
  | 111 => ⟨S8192x8x128, .f32⟩
  | 112 => ⟨S8192x8x128, .f32⟩
  | 113 => ⟨S8192x8x128, .f32⟩
  | 114 => ⟨S8192x8x128, .f32⟩
  | 115 => ⟨S8192x8x128, .f32⟩
  | 116 => ⟨S8192x8x128, .f32⟩
  | 117 => ⟨S8192x8x128, .f32⟩
  | 118 => ⟨S_, .f32⟩
  | 119 => ⟨S8192x8x256, .f32⟩
  | 120 => ⟨S_, .f32⟩
  | 121 => ⟨S8192x8x256, .f32⟩
  | 122 => ⟨S8192x8x256, .f32⟩
  | 123 => ⟨S8192x8x1x256, .f32⟩
  | 124 => ⟨S8192x8x1x256, .f32⟩
  | 125 => ⟨S8192x8x1x256, .f32⟩
  | 126 => ⟨S8192x8x1x256, .f32⟩
  | 127 => ⟨S8192x8x4x256, .f32⟩
  | _ => ⟨S8192x16384, .bf16⟩

abbrev hbmTy0_2 (i : Nat) : BufTy := match i % 128 with
  | 0 => ⟨S8192x8192, .f32⟩
  | 1 => ⟨S8192x8192, .bf16⟩
  | 2 => ⟨S8192x14336, .bf16⟩
  | 3 => ⟨S8192x22528, .bf16⟩
  | _ => ⟨S8192x16384, .bf16⟩

abbrev hbmTy (i : Nat) : BufTy := match i / 128 with
  | 0 => hbmTy0_0 i
  | 1 => hbmTy0_1 i
  | 2 => hbmTy0_2 i
  | _ => ⟨S8192x16384, .bf16⟩

abbrev bufTy : (tb : Table) → Fin (tcTables nBuf tb) → BufTy
  | .hbm, ⟨i, _⟩ => hbmTy i
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_1 : Ref sig .tc := ⟨.hbm, 50, rfl⟩
abbrev main_v44 : Ref sig .tc := ⟨.hbm, 51, rfl⟩
abbrev main_v45 : Ref sig .tc := ⟨.hbm, 52, rfl⟩
abbrev main_cst_2 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_3 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_c : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_4 : Ref sig .tc := ⟨.hbm, 99, rfl⟩
abbrev main_v89 : Ref sig .tc := ⟨.hbm, 100, rfl⟩
abbrev main_v90 : Ref sig .tc := ⟨.hbm, 101, rfl⟩
abbrev main_cst_5 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_cst_6 : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_7 : Ref sig .tc := ⟨.hbm, 122, rfl⟩
abbrev main_v106 : Ref sig .tc := ⟨.hbm, 123, rfl⟩
abbrev main_v107 : Ref sig .tc := ⟨.hbm, 124, rfl⟩
abbrev main_cst_8 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_9 : Ref sig .tc := ⟨.hbm, 131, rfl⟩
abbrev main_v113 : Ref sig .tc := ⟨.hbm, 132, rfl⟩
abbrev main_v114 : Ref sig .tc := ⟨.hbm, 133, rfl⟩
abbrev main_cst_10 : Ref sig .tc := ⟨.hbm, 134, rfl⟩
abbrev main_v115 : Ref sig .tc := ⟨.hbm, 135, rfl⟩
abbrev main_v116 : Ref sig .tc := ⟨.hbm, 136, rfl⟩
abbrev main_cst_11 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_12 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_13 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_call1_v0 : Ref sig .tc := ⟨.hbm, 152, rfl⟩
abbrev main_call1_v1 : Ref sig .tc := ⟨.hbm, 153, rfl⟩
abbrev main_call1_cst : Ref sig .tc := ⟨.hbm, 154, rfl⟩
abbrev main_call1_v2 : Ref sig .tc := ⟨.hbm, 155, rfl⟩
abbrev main_call1_v3 : Ref sig .tc := ⟨.hbm, 156, rfl⟩
abbrev main_call1_cst_0 : Ref sig .tc := ⟨.hbm, 157, rfl⟩
abbrev main_call1_v4 : Ref sig .tc := ⟨.hbm, 158, rfl⟩
abbrev main_v129_2 : Ref sig .tc := ⟨.hbm, 159, rfl⟩
abbrev main_call1_cst_1 : Ref sig .tc := ⟨.hbm, 160, rfl⟩
abbrev main_call1_v6 : Ref sig .tc := ⟨.hbm, 161, rfl⟩
abbrev main_call1_v7 : Ref sig .tc := ⟨.hbm, 162, rfl⟩
abbrev main_v129_1 : Ref sig .tc := ⟨.hbm, 163, rfl⟩
abbrev main_v129_0 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_call2_v0 : Ref sig .tc := ⟨.hbm, 168, rfl⟩
abbrev main_call2_v1 : Ref sig .tc := ⟨.hbm, 169, rfl⟩
abbrev main_call2_v2 : Ref sig .tc := ⟨.hbm, 170, rfl⟩
abbrev main_v133 : Ref sig .tc := ⟨.hbm, 171, rfl⟩
abbrev main_v134 : Ref sig .tc := ⟨.hbm, 172, rfl⟩
abbrev main_cst_14 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_15 : Ref sig .tc := ⟨.hbm, 180, rfl⟩
abbrev main_v141 : Ref sig .tc := ⟨.hbm, 181, rfl⟩
abbrev main_v142 : Ref sig .tc := ⟨.hbm, 182, rfl⟩
abbrev main_cst_16 : Ref sig .tc := ⟨.hbm, 183, rfl⟩
abbrev main_v143 : Ref sig .tc := ⟨.hbm, 184, rfl⟩
abbrev main_v144 : Ref sig .tc := ⟨.hbm, 185, rfl⟩
abbrev main_cst_17 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_18 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_19 : Ref sig .tc := ⟨.hbm, 196, rfl⟩
abbrev main_v153 : Ref sig .tc := ⟨.hbm, 197, rfl⟩
abbrev main_v154 : Ref sig .tc := ⟨.hbm, 198, rfl⟩
abbrev main_cst_20 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_21 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_22 : Ref sig .tc := ⟨.hbm, 228, rfl⟩
abbrev main_v182 : Ref sig .tc := ⟨.hbm, 229, rfl⟩
abbrev main_cst_23 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_cst_24 : Ref sig .tc := ⟨.hbm, 246, rfl⟩
abbrev main_v198 : Ref sig .tc := ⟨.hbm, 247, rfl⟩
abbrev main_cst_25 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩

abbrev nD : Nat := 1
abbrev τ : Topo := Topo.v7x

variable {F : FTy → Type} [FloatOps F]
-- ==== Kernel2.lean ====
abbrev S8192x22528 : Shape := ⟨2, ![8192, 22528]⟩
abbrev S8192x64 : Shape := ⟨2, ![8192, 64]⟩
abbrev S2048x22528 : Shape := ⟨2, ![2048, 22528]⟩
abbrev S2048x64 : Shape := ⟨2, ![2048, 64]⟩
abbrev S_ : Shape := ⟨0, ![]⟩
abbrev S8192x128 : Shape := ⟨2, ![8192, 128]⟩
abbrev S2048x128 : Shape := ⟨2, ![2048, 128]⟩
abbrev S8192x2048 : Shape := ⟨2, ![8192, 2048]⟩
abbrev S1024x2816 : Shape := ⟨2, ![1024, 2816]⟩
abbrev S1024x128 : Shape := ⟨2, ![1024, 128]⟩
abbrev S1024x1024 : Shape := ⟨2, ![1024, 1024]⟩

abbrev nBuf : Space → Nat
  | .hbm => 12
  | .vmem => 11
  | .smem => 0
  | _ => 0

abbrev bufTy : (tb : Table) → Fin (tcTables nBuf tb) → BufTy
  | .hbm, ⟨0, _⟩ => ⟨S8192x22528, .bf16⟩
  | .hbm, ⟨1, _⟩ => ⟨S8192x64, .f32⟩
  | .hbm, ⟨2, _⟩ => ⟨S2048x22528, .bf16⟩
  | .hbm, ⟨3, _⟩ => ⟨S2048x64, .bf16⟩
  | .hbm, ⟨4, _⟩ => ⟨S_, .i32⟩
  | .hbm, ⟨5, _⟩ => ⟨S_, .f32⟩
  | .hbm, ⟨6, _⟩ => ⟨S8192x128, .f32⟩
  | .hbm, ⟨7, _⟩ => ⟨S8192x128, .bf16⟩
  | .hbm, ⟨8, _⟩ => ⟨S_, .i32⟩
  | .hbm, ⟨9, _⟩ => ⟨S_, .bf16⟩
  | .hbm, ⟨10, _⟩ => ⟨S2048x128, .bf16⟩
  | .hbm, ⟨11, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 9], ![false, false, false]⟩

def k0_cond4 (i : grid0.Coords) : BitVec 1 :=
  let arg2 : BitVec 32 := BitVec.ofNat 32 (i 2).val
  let c8_i32_5 : BitVec 32 := 8#32
  let v13 : BitVec 1 := Scalar.cmpi .eq arg2 c8_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c7_i32 : BitVec 32 := 7#32
  let v2 : BitVec 32 := Scalar.maxsi c0_i32_1 v1
  let v3 : BitVec 32 := Scalar.minsi c7_i32 v2
  let c0_i32_2 : BitVec 32 := 0#32
  let v4 : BitVec 32 := Scalar.addi c0_i32_2 v3
  let c0_i32_3 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c7_i32 : BitVec 32 := 7#32
  let v2 : BitVec 32 := Scalar.maxsi c0_i32_1 v1
  let v3 : BitVec 32 := Scalar.minsi c7_i32 v2
  let c0_i32_2 : BitVec 32 := 0#32
  let v4 : BitVec 32 := Scalar.addi c0_i32_2 v3
  let c0_i32_3 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c8_i32 : BitVec 32 := 8#32
  let v1 : BitVec 32 := Scalar.subi arg2 c8_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  let v4 : BitVec 32 := Scalar.addi c0_i32_2 v3
  let c0_i32_3 : BitVec 32 := 0#32
  ![v0.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c8_i32 : BitVec 32 := 8#32
  let v1 : BitVec 32 := Scalar.subi arg2 c8_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  let v4 : BitVec 32 := Scalar.addi c0_i32_2 v3
  let c0_i32_3 : BitVec 32 := 0#32
  ![v0.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S8192x22528 : Shape := ⟨2, ![8192, 22528]⟩
abbrev S8192x64 : Shape := ⟨2, ![8192, 64]⟩
abbrev S2048x22528 : Shape := ⟨2, ![2048, 22528]⟩
abbrev S2048x64 : Shape := ⟨2, ![2048, 64]⟩
abbrev S_ : Shape := ⟨0, ![]⟩
abbrev S8192x2048 : Shape := ⟨2, ![8192, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S8192x64, .f32⟩
  | .hbm, ⟨2, _⟩ => ⟨S2048x22528, .bf16⟩
  | .hbm, ⟨3, _⟩ => ⟨S2048x64, .bf16⟩
  | .hbm, ⟨4, _⟩ => ⟨S_, .f32⟩
  | .hbm, ⟨5, _⟩ => ⟨S8192x2048, .f32⟩
  | .hbm, ⟨6, _⟩ => ⟨S2048x22528, .f32⟩
  | .hbm, ⟨7, _⟩ => ⟨S8192x22528, .f32⟩
  | .hbm, ⟨8, _⟩ => ⟨S2048x64, .f32⟩
  | .hbm, ⟨9, _⟩ => ⟨S8192x64, .f32⟩
  | .hbm, ⟨10, _⟩ => ⟨S8192x22528, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .bf16⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S8192x2048 : Shape := ⟨2, ![8192, 2048]⟩
abbrev S2048x22528 : Shape := ⟨2, ![2048, 22528]⟩
abbrev S8192x16384 : Shape := ⟨2, ![8192, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x16384, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x22528 : Shape := ⟨2, ![2048, 22528]⟩
abbrev S8192x22528 : Shape := ⟨2, ![8192, 22528]⟩
abbrev S8192x16384 : Shape := ⟨2, ![8192, 16384]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x2048, .f32⟩
  | .hbm, ⟨3, _⟩ => ⟨S2048x22528, .f32⟩
  | .hbm, ⟨4, _⟩ => ⟨S8192x22528, .f32⟩
  | .hbm, ⟨5, _⟩ => ⟨S8192x16384, .f32⟩
  | .hbm, ⟨6, _⟩ => ⟨S8192x16384, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S2048x22528 : Shape := ⟨2, ![2048, 22528]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c16_i32 : BitVec 32 := 16#32
  let v4 : BitVec 32 := Scalar.addi c16_i32 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x22528 : Shape := ⟨2, ![2048, 22528]⟩
abbrev S8192x22528 : Shape := ⟨2, ![8192, 22528]⟩
abbrev S8192x6144 : Shape := ⟨2, ![8192, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x2048, .f32⟩
  | .hbm, ⟨3, _⟩ => ⟨S2048x22528, .f32⟩
  | .hbm, ⟨4, _⟩ => ⟨S8192x22528, .f32⟩
  | .hbm, ⟨5, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S2048x8192 : Shape := ⟨2, ![2048, 8192]⟩
abbrev S8192x22528 : Shape := ⟨2, ![8192, 22528]⟩
abbrev S1 : Shape := ⟨1, ![1]⟩
abbrev S1024x22528 : Shape := ⟨2, ![1024, 22528]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 1
  | _ => 0

abbrev bufTy : (tb : Table) → Fin (tcTables nBuf tb) → BufTy
  | .hbm, ⟨0, _⟩ => ⟨S2048x8192, .bf16⟩
  | .hbm, ⟨1, _⟩ => ⟨S8192x22528, .bf16⟩
  | .hbm, ⟨2, _⟩ => ⟨S1024x22528, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .smem, ⟨0, _⟩ => ⟨S1, .i32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 22, 2], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi arg0 v0
  let c0_i32 : BitVec 32 := 0#32
  let v2 : BitVec 32 := Scalar.subi arg2 c0_i32
  let c0_i32_0 : BitVec 32 := 0#32
  let c1_i32 : BitVec 32 := 1#32
  let v3 : BitVec 32 := Scalar.maxsi c0_i32_0 v2
  let v4 : BitVec 32 := Scalar.minsi c1_i32 v3
  let c0_i32_1 : BitVec 32 := 0#32
  let v5 : BitVec 32 := Scalar.addi c0_i32_1 v4
  let c0_i32_2 : BitVec 32 := 0#32
  ![v1.toNat, v5.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S8192x22528 : Shape := ⟨2, ![8192, 22528]⟩
abbrev S1 : Shape := ⟨1, ![1]⟩
abbrev S8192x2048 : Shape := ⟨2, ![8192, 2048]⟩
abbrev S_ : Shape := ⟨0, ![]⟩
abbrev S2048x22528 : Shape := ⟨2, ![2048, 22528]⟩
abbrev S22528x2048 : Shape := ⟨2, ![22528, 2048]⟩
abbrev S1024x22528 : Shape := ⟨2, ![1024, 22528]⟩

abbrev nBuf : Space → Nat
  | .hbm => 17
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x22528, .bf16⟩
  | .hbm, ⟨2, _⟩ => ⟨S1, .i32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S2048x22528, .f32⟩
  | .hbm, ⟨7, _⟩ => ⟨S8192x22528, .f32⟩
  | .hbm, ⟨8, _⟩ => ⟨S8192x22528, .f32⟩
  | .hbm, ⟨9, _⟩ => ⟨S22528x2048, .f32⟩
  | .hbm, ⟨10, _⟩ => ⟨S2048x22528, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1024x22528, .f32⟩
  | .hbm, ⟨15, _⟩ => ⟨S1024x22528, .f32⟩
  | .hbm, ⟨16, _⟩ => ⟨S1024x22528, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x4096 : Shape := ⟨2, ![8192, 4096]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  let v4 : BitVec 32 := Scalar.addi c0_i32_2 v3
  let c0_i32_3 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S2048x8192 : Shape := ⟨2, ![2048, 8192]⟩
abbrev S8192x2048 : Shape := ⟨2, ![8192, 2048]⟩
abbrev S2048x2048 : Shape := ⟨2, ![2048, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  let v4 : BitVec 32 := Scalar.addi c0_i32_2 v3
  let c0_i32_3 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  let v4 : BitVec 32 := Scalar.addi c0_i32_2 v3
  let c0_i32_3 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x8192 : Shape := ⟨2, ![4096, 8192]⟩
abbrev S8192x2048 : Shape := ⟨2, ![8192, 2048]⟩
abbrev S8192x4096 : Shape := ⟨2, ![8192, 4096]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x4096, .f32⟩
  | .hbm, ⟨4, _⟩ => ⟨S_, .f32⟩
  | .hbm, ⟨5, _⟩ => ⟨S4096x2048, .f32⟩
  | .hbm, ⟨6, _⟩ => ⟨S8192x2048, .f32⟩
  | .hbm, ⟨7, _⟩ => ⟨S8192x2048, .f32⟩
  | .hbm, ⟨8, _⟩ => ⟨S2048x4096, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S1x512x2048 : Shape := ⟨3, ![1, 512, 2048]⟩
abbrev S1x128x2048 : Shape := ⟨3, ![1, 128, 2048]⟩
abbrev S1x8x2048 : Shape := ⟨3, ![1, 8, 2048]⟩
abbrev S8x2048 : Shape := ⟨2, ![8, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  v1
def k0_off1 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S1x512x2048 : Shape := ⟨3, ![1, 512, 2048]⟩
abbrev S1x128x2048 : Shape := ⟨3, ![1, 128, 2048]⟩
abbrev S1x8x2048 : Shape := ⟨3, ![1, 8, 2048]⟩
abbrev S8x2048 : Shape := ⟨2, ![8, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S1x512x2048, .f32⟩
  | .hbm, ⟨6, _⟩ => ⟨S1x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  v1
def k0_off1 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S1x512x2048 : Shape := ⟨3, ![1, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x1024x2048 : Shape := ⟨3, ![1, 1024, 2048]⟩
abbrev S1x128x2048 : Shape := ⟨3, ![1, 128, 2048]⟩
abbrev S1x8x2048 : Shape := ⟨3, ![1, 8, 2048]⟩
abbrev S8x2048 : Shape := ⟨2, ![8, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  v1
def k0_off1 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
abbrev S1x1024x2048 : Shape := ⟨3, ![1, 1024, 2048]⟩
abbrev S1x128x2048 : Shape := ⟨3, ![1, 128, 2048]⟩
abbrev S1x8x2048 : Shape := ⟨3, ![1, 8, 2048]⟩
abbrev S8x2048 : Shape := ⟨2, ![8, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S1x1024x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  v1
def k0_off1 (k0_t1 : Fin k0_t1_loop.trips) : Fin 3 → Nat :=
  let c0 : Index := 0#32
  let c0_i32 : BitVec 32 := 0#32
  let c1_i32 : BitVec 32 := 1#32
  let arg8 : BitVec 32 := Scf.iv c0_i32 c1_i32 k0_t1
  let c8_i32 : BitVec 32 := 8#32
  let v1 : BitVec 32 := Scalar.muli arg8 c8_i32
  let v2 : BitVec 32 := v1
  let v3 : Index := Scalar.indexCast v2
  let c0_1 : Index := 0#32
  ![0, v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S1x1024x2048 : Shape := ⟨3, ![1, 1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S_, .f32⟩
  | .hbm, ⟨23, _⟩ => ⟨S1x1024x2048, .f32⟩
  | .hbm, ⟨24, _⟩ => ⟨S1x1024x2048, .f32⟩
  | .hbm, ⟨25, _⟩ => ⟨S1x1024x2048, .f32⟩
  | .hbm, ⟨26, _⟩ => ⟨S_, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1x1x20736 : Shape := ⟨3, ![1, 1, 20736]⟩
abbrev S1x20736 : Shape := ⟨2, ![1, 20736]⟩

abbrev nBuf : Space → Nat
  | .hbm => 7
  | .vmem => 7
  | .smem => 0
  | _ => 0

abbrev bufTy : (tb : Table) → Fin (tcTables nBuf tb) → BufTy
  | .hbm, ⟨0, _⟩ => ⟨S1x1x20736, .f32⟩
  | .hbm, ⟨1, _⟩ => ⟨S1x1x20736, .f32⟩
  | .hbm, ⟨2, _⟩ => ⟨S1x1x20736, .f32⟩
  | .hbm, ⟨3, _⟩ => ⟨S1x1x20736, .f32⟩
  | .hbm, ⟨4, _⟩ => ⟨S1x1x20736, .f32⟩
  | .hbm, ⟨5, _⟩ => ⟨S1x1x20736, .f32⟩
  | .hbm, ⟨6, _⟩ => ⟨S1x1x20736, .f32⟩
  | .local _ .vmem, ⟨0, _⟩ => ⟨S1x1x20736, .f32⟩
  | .local _ .vmem, ⟨1, _⟩ => ⟨S1x1x20736, .f32⟩
  | .local _ .vmem, ⟨2, _⟩ => ⟨S1x1x20736, .f32⟩
  | .local _ .vmem, ⟨3, _⟩ => ⟨S1x1x20736, .f32⟩
  | .local _ .vmem, ⟨4, _⟩ => ⟨S1x1x20736, .f32⟩
  | .local _ .vmem, ⟨5, _⟩ => ⟨S1x1x20736, .f32⟩
  | .local _ .vmem, ⟨6, _⟩ => ⟨S1x1x20736, .f32⟩
  | _, _ => ⟨S1x1x20736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c1_i32 : BitVec 32 := 1#32
  let v0 : BitVec 32 := Scalar.muli c0_i32 c1_i32
  v0
def k0_off1 : Fin 3 → Nat :=
  let c0 : Index := 0#32
  let c0_i32 : BitVec 32 := 0#32
  let c1_i32 : BitVec 32 := 1#32
  let v0 : BitVec 32 := Scalar.muli c0_i32 c1_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x1x20736 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x20736 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x20736 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x20736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x20736 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1x20736 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1x20736 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S1x1x20736 : Shape := ⟨3, ![1, 1, 20736]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x20736, .f32⟩
  | .hbm, ⟨1, _⟩ => ⟨S1x1x20736, .f32⟩
  | .hbm, ⟨2, _⟩ => ⟨S1x1x20736, .f32⟩
  | .hbm, ⟨3, _⟩ => ⟨S1x1x20736, .f32⟩
  | .hbm, ⟨4, _⟩ => ⟨S_, .f32⟩
  | .hbm, ⟨5, _⟩ => ⟨S1x1x20736, .f32⟩
  | .hbm, ⟨6, _⟩ => ⟨S1x1x20736, .f32⟩
  | .hbm, ⟨7, _⟩ => ⟨S_, .f32⟩
  | .hbm, ⟨8, _⟩ => ⟨S1x1x20736, .f32⟩
  | .hbm, ⟨9, _⟩ => ⟨S1x1x20736, .f32⟩
  | .hbm, ⟨10, _⟩ => ⟨S1x1x20736, .f32⟩
  | .hbm, ⟨11, _⟩ => ⟨S_, .f32⟩
  | .hbm, ⟨12, _⟩ => ⟨S1x1x20736, .f32⟩
  | .hbm, ⟨13, _⟩ => ⟨S1x1x20736, .f32⟩
  | .hbm, ⟨14, _⟩ => ⟨S1x1x20736, .f32⟩
  | .hbm, ⟨15, _⟩ => ⟨S_, .f32⟩
  | .hbm, ⟨16, _⟩ => ⟨S1x1x20736, .f32⟩
  | .hbm, ⟨17, _⟩ => ⟨S1x1x20736, .f32⟩
  | .hbm, ⟨18, _⟩ => ⟨S1x1x20736, .f32⟩
  | .hbm, ⟨19, _⟩ => ⟨S_, .f32⟩
  | .hbm, ⟨20, _⟩ => ⟨S1x1x20736, .f32⟩
  | .hbm, ⟨21, _⟩ => ⟨S1x1x20736, .f32⟩
  | .hbm, ⟨22, _⟩ => ⟨S_, .f32⟩
  | .hbm, ⟨23, _⟩ => ⟨S1x1x20736, .f32⟩
  | .hbm, ⟨24, _⟩ => ⟨S1x1x20736, .f32⟩
  | .hbm, ⟨25, _⟩ => ⟨S1x1x20736, .f32⟩
  | .hbm, ⟨26, _⟩ => ⟨S_, .f32⟩
  | .hbm, ⟨27, _⟩ => ⟨S1x1x20736, .f32⟩
  | .hbm, ⟨28, _⟩ => ⟨S1x1x20736, .f32⟩
  | .hbm, ⟨29, _⟩ => ⟨S1x1x20736, .f32⟩
  | .hbm, ⟨30, _⟩ => ⟨S_, .f32⟩
  | .hbm, ⟨31, _⟩ => ⟨S1x1x20736, .f32⟩
  | .hbm, ⟨32, _⟩ => ⟨S1x1x20736, .f32⟩
  | .hbm, ⟨33, _⟩ => ⟨S1x1x20736, .f32⟩
  | .hbm, ⟨34, _⟩ => ⟨S_, .f32⟩
  | .hbm, ⟨35, _⟩ => ⟨S1x1x20736, .f32⟩
  | .hbm, ⟨36, _⟩ => ⟨S1x1x20736, .f32⟩
  | _, _ => ⟨S1x1x20736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S8192x2048 : Shape := ⟨2, ![8192, 2048]⟩
abbrev S1x2048 : Shape := ⟨2, ![1, 2048]⟩
abbrev S2048x8192 : Shape := ⟨2, ![2048, 8192]⟩
abbrev S256x2048 : Shape := ⟨2, ![256, 2048]⟩
abbrev S2048x256 : Shape := ⟨2, ![2048, 256]⟩
abbrev S16x2048 : Shape := ⟨2, ![16, 2048]⟩
abbrev S16 : Shape := ⟨1, ![16]⟩
abbrev S16x1 : Shape := ⟨2, ![16, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c16_i32_4 : BitVec 32 := 16#32
  let v5 : BitVec 32 := Scalar.muli arg5 c16_i32_4
  v5
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c16_i32_4 : BitVec 32 := 16#32
  let v5 : BitVec 32 := Scalar.muli arg5 c16_i32_4
  let v6 : BitVec 32 := v5
  let v7 : Index := Scalar.indexCast v6
  let c0_5 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | .hbm, ⟨18, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel16.lean ====
abbrev S8192x2048 : Shape := ⟨2, ![8192, 2048]⟩
abbrev S8192x16384 : Shape := ⟨2, ![8192, 16384]⟩
abbrev S2048x8192 : Shape := ⟨2, ![2048, 8192]⟩
abbrev S256x2048 : Shape := ⟨2, ![256, 2048]⟩
abbrev S256x4096 : Shape := ⟨2, ![256, 4096]⟩
abbrev S2048x256 : Shape := ⟨2, ![2048, 256]⟩
abbrev S16x2048 : Shape := ⟨2, ![16, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x16384, .bf16⟩
  | .hbm, ⟨3, _⟩ => ⟨S8192x2048, .bf16⟩
  | .hbm, ⟨4, _⟩ => ⟨S2048x8192, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x2048, .bf16⟩
  | .local _ .vmem, ⟨7, _⟩ => ⟨S256x2048, .bf16⟩
  | .local _ .vmem, ⟨8, _⟩ => ⟨S2048x256, .bf16⟩
  | .local _ .vmem, ⟨9, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c16_i32_4 : BitVec 32 := 16#32
  let v5 : BitVec 32 := Scalar.muli arg6 c16_i32_4
  v5
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_4 : BitVec 32 := 16#32
  let v5 : BitVec 32 := Scalar.muli arg6 c16_i32_4
  let v6 : BitVec 32 := v5
  let v7 : Index := Scalar.indexCast v6
  let c0_5 : Index := 0#32
  ![v7.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_4 : BitVec 32 := 16#32
  let v5 : BitVec 32 := Scalar.muli arg6 c16_i32_4
  let v6 : BitVec 32 := v5
  let v10 : Index := Scalar.indexCast v6
  let c2048 : Index := 2048#32
  ![v10.toNat, 2048]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c16_i32_4 : BitVec 32 := 16#32
  let v5 : BitVec 32 := Scalar.muli arg6 c16_i32_4
  let v6 : BitVec 32 := v5
  let v14 : Index := Scalar.indexCast v6
  let c0_6 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8192x2048 : Shape := ⟨2, ![8192, 2048]⟩
abbrev S8192x16384 : Shape := ⟨2, ![8192, 16384]⟩
abbrev S8192x4096 : Shape := ⟨2, ![8192, 4096]⟩
abbrev S_ : Shape := ⟨0, ![]⟩
abbrev S2048x8192 : Shape := ⟨2, ![2048, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x16384, .bf16⟩
  | .hbm, ⟨3, _⟩ => ⟨S8192x4096, .bf16⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | .hbm, ⟨29, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel17.lean ====
abbrev S8192x2048 : Shape := ⟨2, ![8192, 2048]⟩
abbrev S1x2048 : Shape := ⟨2, ![1, 2048]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S16x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c16_i32_4 : BitVec 32 := 16#32
  let v7 : BitVec 32 := Scalar.muli arg8 c16_i32_4
  v7
def k0_off1 (k0_t1 : Fin k0_t1_loop.trips) : Fin 2 → Nat :=
  let c0_i32_1 : BitVec 32 := 0#32
  let c1_i32 : BitVec 32 := 1#32
  let arg8 : BitVec 32 := Scf.iv c0_i32_1 c1_i32 k0_t1
  let c16_i32_4 : BitVec 32 := 16#32
  let v7 : BitVec 32 := Scalar.muli arg8 c16_i32_4
  let v8 : BitVec 32 := v7
  let v9 : Index := Scalar.indexCast v8
  let c0 : Index := 0#32
  ![v9.toNat, 0]
def k0_cond2 (i : grid0.Coords) : BitVec 1 :=
  let arg0 : BitVec 32 := BitVec.ofNat 32 (i 0).val
  let c31_i32 : BitVec 32 := 31#32
  let v4 : BitVec 1 := Scalar.cmpi .eq arg0 c31_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel18.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2048x8192 : Shape := ⟨2, ![2048, 8192]⟩
abbrev S8192x128 : Shape := ⟨2, ![8192, 128]⟩
abbrev S1 : Shape := ⟨1, ![1]⟩
abbrev S1024x128 : Shape := ⟨2, ![1024, 128]⟩
abbrev S1024x4096 : Shape := ⟨2, ![1024, 4096]⟩
abbrev S4096x128 : Shape := ⟨2, ![4096, 128]⟩

abbrev nBuf : Space → Nat
  | .hbm => 3
  | .vmem => 6
  | .smem => 1
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S1024x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S4096x128, .bf16⟩
  | .local _ .vmem, ⟨4, _⟩ => ⟨S1024x128, .f32⟩
  | .local _ .vmem, ⟨5, _⟩ => ⟨S1024x128, .f32⟩
  | .local _ .smem, ⟨0, _⟩ => ⟨S1, .i32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 32 := Scalar.addi arg0 v0
  let c0_i32 : BitVec 32 := 0#32
  let v2 : BitVec 32 := Scalar.subi arg2 c0_i32
  let c0_i32_0 : BitVec 32 := 0#32
  let c1_i32 : BitVec 32 := 1#32
  let v3 : BitVec 32 := Scalar.maxsi c0_i32_0 v2
  let v4 : BitVec 32 := Scalar.minsi c1_i32 v3
  let c0_i32_1 : BitVec 32 := 0#32
  let v5 : BitVec 32 := Scalar.addi c0_i32_1 v4
  let c0_i32_2 : BitVec 32 := 0#32
  ![v1.toNat, v5.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S2048x8192 : Shape := ⟨2, ![2048, 8192]⟩
abbrev S8192x128 : Shape := ⟨2, ![8192, 128]⟩
abbrev S1 : Shape := ⟨1, ![1]⟩
abbrev S8192x2048 : Shape := ⟨2, ![8192, 2048]⟩
abbrev S_ : Shape := ⟨0, ![]⟩
abbrev S2048x128 : Shape := ⟨2, ![2048, 128]⟩
abbrev S128x2048 : Shape := ⟨2, ![128, 2048]⟩
abbrev S1024x128 : Shape := ⟨2, ![1024, 128]⟩

abbrev nBuf : Space → Nat
  | .hbm => 17
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S1, .i32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S2048x128, .f32⟩
  | .hbm, ⟨7, _⟩ => ⟨S8192x128, .f32⟩
  | .hbm, ⟨8, _⟩ => ⟨S8192x128, .f32⟩
  | .hbm, ⟨9, _⟩ => ⟨S128x2048, .f32⟩
  | .hbm, ⟨10, _⟩ => ⟨S2048x128, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1024x128, .f32⟩
  | .hbm, ⟨15, _⟩ => ⟨S1024x128, .f32⟩
  | .hbm, ⟨16, _⟩ => ⟨S1024x128, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel20.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S16x2048 : Shape := ⟨2, ![16, 2048]⟩
abbrev S16x1 : Shape := ⟨2, ![16, 1]⟩
abbrev S16 : Shape := ⟨1, ![16]⟩
abbrev S2048 : Shape := ⟨1, ![2048]⟩
abbrev S1 : Shape := ⟨1, ![1]⟩

abbrev nBuf : Space → Nat
  | .hbm => 8
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x1, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x1, .f32⟩
  | .local _ .vmem, ⟨12, _⟩ => ⟨S1x2048, .f32⟩
  | .local _ .vmem, ⟨13, _⟩ => ⟨S16x2048, .f32⟩
  | .local _ .vmem, ⟨14, _⟩ => ⟨S16x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  v7
def k0_off1 (k0_t1 : Fin k0_t1_loop.trips) : Fin 2 → Nat :=
  let c0_i32_1 : BitVec 32 := 0#32
  let c1_i32 : BitVec 32 := 1#32
  let arg11 : BitVec 32 := Scf.iv c0_i32_1 c1_i32 k0_t1
  let c16_i32_4 : BitVec 32 := 16#32
  let v7 : BitVec 32 := Scalar.muli arg11 c16_i32_4
  let v8 : BitVec 32 := v7
  let v9 : Index := Scalar.indexCast v8
  let c0 : Index := 0#32
  ![v9.toNat, 0]
def k0_cond2 (i : grid0.Coords) : BitVec 1 :=
  let arg0 : BitVec 32 := BitVec.ofNat 32 (i 0).val
  let c31_i32 : BitVec 32 := 31#32
  let v4 : BitVec 1 := Scalar.cmpi .eq arg0 c31_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference20Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1 : Shape := ⟨1, ![1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S_, .f32⟩
  | .hbm, ⟨33, _⟩ => ⟨S1x1, .f32⟩
  | .hbm, ⟨34, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Proof.Same.lean ====
/- The program over bit patterns and the program over extended reals are the same text: its frame is one run's. -/
module

public import proofs.«01_k».proof.Defs
public import proofs.«01_k».proof.Proof.Gen.Kernel
public import proofs.«01_k».proof.Proof.Gen.KernelIdeal
public import proofs.«01_k».proof.Proof.Gen.KernelIdeal.Frame

@[expose] public section

set_option maxRecDepth 16384
set_option maxHeartbeats 0

noncomputable section

namespace Cert.Proof

open Idealize.ShloMosaic Idealize.ShloMosaic.TcCoe Idealize.SL.Sem

attribute [local instance] Cert.Kernel.Gen.facts Cert.KernelIdeal.Gen.facts

section

variable {F : FTy → Type} [FloatOps F]

/-- The two kernels' bodies. -/
theorem same_bodies : Cert.Kernel.defs₀ (F := F) = Cert.KernelIdeal.defs₀ (F := F) := by
  refine congrArg Defs.onTc ?_
  funext l
  match l with
  | 0 => rfl

theorem same_defs : Cert.Kernel.defs (F := F) = Cert.KernelIdeal.defs (F := F) :=
  congrArg (Pipeline.defs Cert.KernelIdeal.pcfgs) same_bodies

theorem same_main : Cert.Kernel.main (F := F) = Cert.KernelIdeal.main (F := F) := rfl

end

/-- The kernel over bit patterns: the run proved once for any values. -/
theorem frame_kernel : Cert.quiescent_Kernel := fun m ρ _ => by
  have h := Cert.KernelIdeal.Gen.frame (F := Bits) m ρ
  rw [← same_defs, ← same_main] at h
  exact h

end Cert.Proof

end
-- ==== Proof.Sums.lean ====
/- Real-number facts behind the claim: a sum over all frames restricted to one chunk, and the three gradients of a chunk-causal
   decayed product written as "inside the chunk" plus "through the carried state". Nothing here speaks of a program. -/
module

public import Mathlib.Analysis.SpecialFunctions.Exp
public import Mathlib.Algebra.BigOperators.Fin
public import Mathlib.Data.EReal.Operations
public import Mathlib.Tactic.Ring
public import Mathlib.Tactic.FieldSimp
public import Mathlib.Tactic.Linarith

@[expose] public section

set_option maxRecDepth 16384

noncomputable section

namespace Cert.Ret

open Finset

/-- The frame at place `l` of chunk `n`. -/
def at64 (n : Fin 128) (l : Fin 64) : Fin 8192 := ⟨64 * n.val + l.val, by omega⟩

theorem at64_val (n : Fin 128) (l : Fin 64) : (at64 n l).val = 64 * n.val + l.val := rfl

/-- The frames are the pairs (chunk, place). -/
def frames : Fin 128 × Fin 64 ≃ Fin 8192 where
  toFun p := at64 p.1 p.2
  invFun i := (⟨i.val / 64, by omega⟩, ⟨i.val % 64, by omega⟩)
  left_inv p := by
    rcases p with ⟨n, l⟩
    ext <;> simp only [at64_val] <;> omega
  right_inv i := by
    ext
    simp only [at64_val]
    omega

/-- A sum over all frames, chunk by chunk. -/
theorem sum_frames (f : Fin 8192 → ℝ) : ∑ i, f i = ∑ n, ∑ l, f (at64 n l) := by
  rw [← frames.sum_comp, Fintype.sum_prod_type]
  rfl

/-- A sum over the frames of one chunk, written over all frames. -/
theorem sum_chunk (n : Fin 128) (f : Fin 8192 → ℝ) :
    ∑ i : Fin 8192, (if i.val / 64 = n.val then f i else 0) = ∑ l, f (at64 n l) := by
  rw [sum_frames]
  rw [Finset.sum_eq_single n]
  · refine Finset.sum_congr rfl fun l _ => if_pos ?_
    rw [at64_val]; omega
  · intro n' _ hne
    refine Finset.sum_eq_zero fun l _ => if_neg ?_
    rw [at64_val]
    intro h
    exact hne (Fin.ext (by omega))
  · intro h; exact absurd (Finset.mem_univ n) h

/-- The decay between the frames `i` and `j`: within a chunk symmetric, from earlier chunks by distance, nothing from later ones. -/
def dec (L : ℝ) (i j : Fin 8192) : ℝ :=
  if j.val / 64 ≤ i.val / 64 then Real.exp (|(i.val : ℝ) - (j.val : ℝ)| * L) else 0

/-- The decay inside a chunk. -/
def mmr (L : ℝ) (l l' : Fin 64) : ℝ := Real.exp (|(l.val : ℝ) - (l'.val : ℝ)| * L)

/-- The state before chunk `n`: the keys and values of all earlier frames, decayed to the chunk's border. -/
def stR (L : ℝ) (k v : Fin 8192 → Fin 256 → ℝ) (n : ℕ) (d e : Fin 256) : ℝ :=
  ∑ j : Fin 8192, (if j.val / 64 < n then Real.exp ((64 * (n : ℝ) - 1 - (j.val : ℝ)) * L) else 0) * k j d * v j e

/-- The state's gradient gathered from the chunks from `n` on, decayed to the border before chunk `n`. -/
def dS (L : ℝ) (q dy : Fin 8192 → Fin 256 → ℝ) (n : ℕ) (d e : Fin 256) : ℝ :=
  ∑ i : Fin 8192, if n ≤ i.val / 64 then Real.exp (((i.val : ℝ) - 64 * (n : ℝ) + 1) * L) * q i d * dy i e else 0

/-- Past the last chunk nothing is gathered. -/
theorem dS_last (L : ℝ) (q dy : Fin 8192 → Fin 256 → ℝ) (d e : Fin 256) : dS L q dy 128 d e = 0 :=
  Finset.sum_eq_zero fun i _ => if_neg (by omega)

/-- One step of the carried gradient: chunk `n`'s own frames join, what was carried decays by a chunk. -/
theorem dS_step (L : ℝ) (q dy : Fin 8192 → Fin 256 → ℝ) (n : Fin 128) (d e : Fin 256) :
    dS L q dy n.val d e = dS L q dy (n.val + 1) d e * Real.exp (64 * L)
      + ∑ l, q (at64 n l) d * (dy (at64 n l) e * Real.exp (((l.val : ℝ) + 1) * L)) := by
  have hl : ∑ l, q (at64 n l) d * (dy (at64 n l) e * Real.exp (((l.val : ℝ) + 1) * L))
      = ∑ l, q (at64 n l) d * (dy (at64 n l) e * Real.exp ((((at64 n l).val : ℝ) - 64 * (n.val : ℝ) + 1) * L)) := by
    refine Finset.sum_congr rfl fun l _ => ?_
    rw [show (((at64 n l).val : ℝ) - 64 * (n.val : ℝ) + 1) = (l.val : ℝ) + 1 by rw [at64_val]; push_cast; ring]
  rw [hl, ← sum_chunk n fun i => q i d * (dy i e * Real.exp (((i.val : ℝ) - 64 * (n.val : ℝ) + 1) * L))]
  unfold dS
  rw [Finset.sum_mul, ← Finset.sum_add_distrib]
  refine Finset.sum_congr rfl fun i _ => ?_
  by_cases h1 : n.val + 1 ≤ i.val / 64
  · rw [if_pos (by omega), if_pos h1, if_neg (by omega)]
    have : Real.exp (((i.val : ℝ) - 64 * (n.val : ℝ) + 1) * L)
        = Real.exp (((i.val : ℝ) - 64 * ((n.val + 1 : ℕ) : ℝ) + 1) * L) * Real.exp (64 * L) := by
      rw [← Real.exp_add]; congr 1; push_cast; ring
    rw [this]; ring
  · rw [if_neg h1]
    by_cases h2 : i.val / 64 = n.val
    · rw [if_pos (by omega), if_pos h2]; ring
    · rw [if_neg (by omega), if_neg h2]; ring

/-- A sum over the frames up to a chunk: the chunk itself and the earlier ones. -/
theorem sum_upto (n : Fin 128) (f : Fin 8192 → ℝ) :
    ∑ j : Fin 8192, (if j.val / 64 ≤ n.val then f j else 0)
      = ∑ l, f (at64 n l) + ∑ j : Fin 8192, if j.val / 64 < n.val then f j else 0 := by
  rw [← sum_chunk n f, ← Finset.sum_add_distrib]
  refine Finset.sum_congr rfl fun j _ => ?_
  by_cases h1 : j.val / 64 < n.val
  · rw [if_pos (by omega), if_neg (by omega), if_pos h1, zero_add]
  · by_cases h2 : j.val / 64 = n.val
    · rw [if_pos (by omega), if_pos h2, if_neg h1, add_zero]
    · rw [if_neg (by omega), if_neg h2, if_neg h1, add_zero]

/-- A sum over the frames from a chunk on: the chunk itself and the later ones. -/
theorem sum_from (n : Fin 128) (f : Fin 8192 → ℝ) :
    ∑ i : Fin 8192, (if n.val ≤ i.val / 64 then f i else 0)
      = ∑ l, f (at64 n l) + ∑ i : Fin 8192, if n.val + 1 ≤ i.val / 64 then f i else 0 := by
  rw [← sum_chunk n f, ← Finset.sum_add_distrib]
  refine Finset.sum_congr rfl fun i _ => ?_
  by_cases h1 : n.val + 1 ≤ i.val / 64
  · rw [if_pos (by omega), if_neg (by omega), if_pos h1, zero_add]
  · by_cases h2 : i.val / 64 = n.val
    · rw [if_pos (by omega), if_pos h2, if_neg h1, add_zero]
    · rw [if_neg (by omega), if_neg h2, if_neg h1, add_zero]

/-- The decay from an earlier chunk's frame: to the border, then on to the place in the chunk. -/
theorem exp_earlier (L : ℝ) (n : Fin 128) (l : Fin 64) (j : Fin 8192) (h : j.val / 64 < n.val) :
    Real.exp (|((at64 n l).val : ℝ) - (j.val : ℝ)| * L)
      = Real.exp (((l.val : ℝ) + 1) * L) * Real.exp ((64 * (n.val : ℝ) - 1 - (j.val : ℝ)) * L) := by
  have hle : (j.val : ℝ) ≤ ((at64 n l).val : ℝ) := by
    rw [Nat.cast_le, at64_val]; omega
  rw [abs_of_nonneg (by linarith), ← Real.exp_add]
  congr 1
  rw [at64_val]; push_cast; ring

/-- The decay to a later chunk's frame: from the place to the chunk's border, then on. -/
theorem exp_later (L : ℝ) (n : Fin 128) (l : Fin 64) (i : Fin 8192) (h : n.val + 1 ≤ i.val / 64) :
    Real.exp (|(i.val : ℝ) - ((at64 n l).val : ℝ)| * L)
      = Real.exp ((63 - (l.val : ℝ)) * L) * Real.exp (((i.val : ℝ) - 64 * ((n.val + 1 : ℕ) : ℝ) + 1) * L) := by
  have hle : ((at64 n l).val : ℝ) ≤ (i.val : ℝ) := by
    rw [Nat.cast_le, at64_val]; omega
  rw [abs_of_nonneg (by linarith), ← Real.exp_add]
  congr 1
  rw [at64_val]; push_cast; ring

/-- The decay between two places of one chunk. -/
theorem exp_inside (L : ℝ) (n : Fin 128) (l l' : Fin 64) :
    Real.exp (|((at64 n l).val : ℝ) - ((at64 n l').val : ℝ)| * L) = mmr L l l' := by
  unfold mmr
  congr 3
  rw [at64_val, at64_val]; push_cast; ring

theorem mmr_symm (L : ℝ) (l l' : Fin 64) : mmr L l l' = mmr L l' l := by
  unfold mmr; rw [abs_sub_comm]

/-- THE QUERIES' GRADIENT, with `w i j` the product of the frame's incoming gradient with a value. -/
theorem dq_split (L : ℝ) (k v dy : Fin 8192 → Fin 256 → ℝ) (n : Fin 128) (l : Fin 64) (d : Fin 256) :
    ∑ j : Fin 8192, ((∑ e, dy (at64 n l) e * v j e) * dec L (at64 n l) j) * k j d
      = ∑ l', ((∑ e, dy (at64 n l) e * v (at64 n l') e) * mmr L l l') * k (at64 n l') d
        + ∑ e, (dy (at64 n l) e * Real.exp (((l.val : ℝ) + 1) * L)) * stR L k v n.val d e := by
  have hd : (at64 n l).val / 64 = n.val := by rw [at64_val]; omega
  have h1 : ∀ j : Fin 8192, ((∑ e, dy (at64 n l) e * v j e) * dec L (at64 n l) j) * k j d
      = if j.val / 64 ≤ n.val then ((∑ e, dy (at64 n l) e * v j e)
          * Real.exp (|((at64 n l).val : ℝ) - (j.val : ℝ)| * L)) * k j d else 0 := by
    intro j
    unfold dec; rw [hd]
    by_cases h : j.val / 64 ≤ n.val
    · rw [if_pos h, if_pos h]
    · rw [if_neg h, if_neg h, mul_zero, zero_mul]
  rw [Finset.sum_congr rfl fun j _ => h1 j, sum_upto]
  congr 1
  · refine Finset.sum_congr rfl fun l' _ => ?_
    rw [exp_inside]
  · unfold stR
    simp only [Finset.mul_sum]
    rw [Finset.sum_comm]
    refine Finset.sum_congr rfl fun j _ => ?_
    by_cases h : j.val / 64 < n.val
    · rw [if_pos h, exp_earlier L n l j h, Finset.sum_mul, Finset.sum_mul]
      refine Finset.sum_congr rfl fun e _ => ?_
      rw [if_pos h]; ring
    · rw [if_neg h]
      refine (Finset.sum_eq_zero fun e _ => ?_).symm
      rw [if_neg h]; ring

/-- The later frames' share in a gradient of frame `(n, l)`: the decay splits at the chunk's border. -/
theorem later_split (L : ℝ) (n : Fin 128) (l : Fin 64) (g : Fin 8192 → ℝ) :
    ∑ i : Fin 8192, g i * dec L i (at64 n l)
      = ∑ l', g (at64 n l') * mmr L l l'
        + Real.exp ((63 - (l.val : ℝ)) * L) * ∑ i : Fin 8192,
            if n.val + 1 ≤ i.val / 64 then Real.exp (((i.val : ℝ) - 64 * ((n.val + 1 : ℕ) : ℝ) + 1) * L) * g i else 0 := by
  have hd : (at64 n l).val / 64 = n.val := by rw [at64_val]; omega
  have h1 : ∀ i : Fin 8192, g i * dec L i (at64 n l)
      = if n.val ≤ i.val / 64 then g i * Real.exp (|(i.val : ℝ) - ((at64 n l).val : ℝ)| * L) else 0 := by
    intro i
    unfold dec; rw [hd]
    by_cases h : n.val ≤ i.val / 64
    · rw [if_pos h, if_pos h]
    · rw [if_neg h, if_neg h, mul_zero]
  rw [Finset.sum_congr rfl fun i _ => h1 i, sum_from]
  congr 1
  · refine Finset.sum_congr rfl fun l' _ => ?_
    rw [exp_inside, mmr_symm]
  · rw [Finset.mul_sum]
    refine Finset.sum_congr rfl fun i _ => ?_
    by_cases h : n.val + 1 ≤ i.val / 64
    · rw [if_pos h, if_pos h, exp_later L n l i h]; ring
    · rw [if_neg h, if_neg h, mul_zero]

/-- THE VALUES' GRADIENT. -/
theorem dv_split (L : ℝ) (q k dy : Fin 8192 → Fin 256 → ℝ) (n : Fin 128) (l : Fin 64) (e : Fin 256) :
    ∑ i : Fin 8192, dy i e * ((∑ d, q i d * k (at64 n l) d) * dec L i (at64 n l))
      = ∑ l', ((∑ d, k (at64 n l) d * q (at64 n l') d) * mmr L l l') * dy (at64 n l') e
        + ∑ d, (k (at64 n l) d * Real.exp ((63 - (l.val : ℝ)) * L)) * dS L q dy (n.val + 1) d e := by
  have h := later_split L n l fun i => dy i e * ∑ d, q i d * k (at64 n l) d
  simp only [mul_assoc] at h ⊢
  rw [h]
  congr 1
  · refine Finset.sum_congr rfl fun l' _ => ?_
    have hc : ∑ d, q (at64 n l') d * k (at64 n l) d = ∑ d, k (at64 n l) d * q (at64 n l') d :=
      Finset.sum_congr rfl fun d _ => mul_comm _ _
    rw [hc]; ring
  · unfold dS
    simp only [Finset.mul_sum]
    rw [Finset.sum_comm]
    refine Finset.sum_congr rfl fun i _ => ?_
    by_cases h : n.val + 1 ≤ i.val / 64
    · simp only [if_pos h, Finset.mul_sum]
      exact Finset.sum_congr rfl fun d _ => by ring
    · simp only [if_neg h, mul_zero, Finset.sum_const_zero]

/-- THE KEYS' GRADIENT. -/
theorem dk_split (L : ℝ) (q v dy : Fin 8192 → Fin 256 → ℝ) (n : Fin 128) (l : Fin 64) (d : Fin 256) :
    ∑ i : Fin 8192, ((∑ e, dy i e * v (at64 n l) e) * dec L i (at64 n l)) * q i d
      = ∑ l', ((∑ e, v (at64 n l) e * dy (at64 n l') e) * mmr L l l') * q (at64 n l') d
        + (∑ e, v (at64 n l) e * dS L q dy (n.val + 1) d e) * Real.exp ((63 - (l.val : ℝ)) * L) := by
  have h := later_split L n l fun i => (∑ e, dy i e * v (at64 n l) e) * q i d
  have hc : ∀ i : Fin 8192, ((∑ e, dy i e * v (at64 n l) e) * dec L i (at64 n l)) * q i d
      = ((∑ e, dy i e * v (at64 n l) e) * q i d) * dec L i (at64 n l) := fun i => by ring
  rw [Finset.sum_congr rfl fun i _ => hc i, h]
  congr 1
  · refine Finset.sum_congr rfl fun l' _ => ?_
    have hc : ∑ e, dy (at64 n l') e * v (at64 n l) e = ∑ e, v (at64 n l) e * dy (at64 n l') e :=
      Finset.sum_congr rfl fun e _ => mul_comm _ _
    rw [hc]; ring
  · rw [mul_comm (Real.exp _)]
    refine congrArg (· * Real.exp ((63 - (l.val : ℝ)) * L)) ?_
    unfold dS
    simp only [Finset.mul_sum]
    rw [Finset.sum_comm]
    refine Finset.sum_congr rfl fun i _ => ?_
    by_cases h : n.val + 1 ≤ i.val / 64
    · simp only [if_pos h, Finset.sum_mul, Finset.mul_sum]
      exact Finset.sum_congr rfl fun e _ => by ring
    · simp only [if_neg h, mul_zero, Finset.sum_const_zero]

/-! ## The group norm and the gate -/

/-- The mean of a row. -/
def mean (x : Fin 256 → ℝ) : ℝ := (∑ e, x e) / 256

/-- The variance of a row. -/
def var (x : Fin 256 → ℝ) : ℝ := mean fun e => (x e - mean x) * (x e - mean x)

/-- The reciprocal deviation, with the program's small constant. -/
def rstd (ε : ℝ) (x : Fin 256 → ℝ) : ℝ := (Real.sqrt (var x + ε))⁻¹

/-- The normalised row. -/
def gnorm (ε : ℝ) (x : Fin 256 → ℝ) (e : Fin 256) : ℝ := (x e - mean x) * rstd ε x

/-- The gradient through the normalisation, as the kernel computes it. -/
def dgn (ε : ℝ) (x g : Fin 256 → ℝ) (e : Fin 256) : ℝ :=
  rstd ε x * (g e - mean g - gnorm ε x e * mean fun e => g e * gnorm ε x e)

theorem var_nonneg (x : Fin 256 → ℝ) : 0 ≤ var x :=
  div_nonneg (Finset.sum_nonneg fun e _ => mul_self_nonneg _) (by norm_num)

theorem sum_centred (x : Fin 256 → ℝ) : ∑ e, (x e - mean x) = 0 := by
  rw [Finset.sum_sub_distrib, Finset.sum_const, Finset.card_univ, Fintype.card_fin, nsmul_eq_mul]
  unfold mean
  push_cast
  ring

/-- The gradient through the normalisation, as the derivative of its defining formula spells it: the derivative of the
    deviation is `−½·r/(var+ε)`, the variance's is `2·(x − mean)/256`, and the mean's is spread evenly. -/
theorem dgn_chain (ε : ℝ) (hε : 0 < ε) (x g : Fin 256 → ℝ) (e : Fin 256) :
    dgn ε x g e
      = g e * rstd ε x
          + (2 * (x e - mean x)) * (((∑ e, (x e - mean x) * g e) * (-(1 / 2) * (rstd ε x / (var x + ε)))) / 256)
        + (-(∑ e, (g e * rstd ε x
          + (2 * (x e - mean x)) * (((∑ e, (x e - mean x) * g e) * (-(1 / 2) * (rstd ε x / (var x + ε)))) / 256)))) / 256 := by
  have hv : 0 < var x + ε := by have := var_nonneg x; linarith
  have hr : rstd ε x / (var x + ε) = rstd ε x * rstd ε x * rstd ε x := by
    unfold rstd
    have hs : Real.sqrt (var x + ε) * Real.sqrt (var x + ε) = var x + ε := Real.mul_self_sqrt hv.le
    have hne : Real.sqrt (var x + ε) ≠ 0 := (Real.sqrt_pos.mpr hv).ne'
    generalize Real.sqrt (var x + ε) = s at hs hne
    rw [← hs]
    field_simp
  set r := rstd ε x with hrdef
  set μ := mean x with hμ
  rw [hr]
  set W := ∑ e, (x e - μ) * g e with hW
  have hsum : ∑ e, (g e * r + 2 * (x e - μ) * (W * (-(1 / 2) * (r * r * r)) / 256)) = (∑ e, g e) * r := by
    rw [Finset.sum_add_distrib, ← Finset.sum_mul, ← Finset.sum_mul, ← Finset.mul_sum, sum_centred]
    ring
  rw [hsum]
  have hm : mean (fun e => g e * gnorm ε x e) = W * r / 256 := by
    unfold mean
    congr 1
    rw [hW, Finset.sum_mul]
    exact Finset.sum_congr rfl fun e _ => by unfold gnorm; rw [← hrdef, ← hμ]; ring
  unfold dgn
  rw [hm]
  unfold gnorm mean
  rw [← hrdef]
  change r * (g e - (∑ e, g e) / 256 - (x e - μ) * r * (W * r / 256)) = _
  ring

/-- The logistic function. -/
def lgst (x : ℝ) : ℝ := (1 + Real.exp (-x))⁻¹

/-- A pair of halves turned by an angle, written for one row. -/
def ropeR (c s : Fin 128 → ℝ) (t : Fin 256 → ℝ) (d : Fin 256) : ℝ :=
  if h : d.val < 128 then t d * c ⟨d.val, h⟩ - t ⟨128 + d.val, by omega⟩ * s ⟨d.val, h⟩
  else t d * c ⟨d.val - 128, by omega⟩ + t ⟨d.val - 128, by omega⟩ * s ⟨d.val - 128, by omega⟩

/-- A pair of halves turned back. -/
def ropeTR (c s : Fin 128 → ℝ) (t : Fin 256 → ℝ) (d : Fin 256) : ℝ :=
  if h : d.val < 128 then t d * c ⟨d.val, h⟩ + t ⟨128 + d.val, by omega⟩ * s ⟨d.val, h⟩
  else t d * c ⟨d.val - 128, by omega⟩ - t ⟨d.val - 128, by omega⟩ * s ⟨d.val - 128, by omega⟩

/-- The gate's gradient. -/
def dgateR (ε : ℝ) (y g ct : Fin 256 → ℝ) (d : Fin 256) : ℝ :=
  ct d * gnorm ε y d * (lgst (g d) * (1 + g d * (1 - lgst (g d))))

/-- The incoming gradient through the gate and the normalisation. -/
def doutR (ε : ℝ) (y g ct : Fin 256 → ℝ) : Fin 256 → ℝ := dgn ε y fun d => ct d * (g d * lgst (g d))

end Cert.Ret

end
-- ==== Proof.Lift.lean ====
/- The programs' literals and functions at a real number. -/
module

public import proofs.«01_k».proof.Proof.Sums
public import Idealize.ShloMosaic.Lib.Pipeline.ValueKit
public import Idealize.ShloMosaic.Lib.Pointwise

@[expose] public section

noncomputable section

open Idealize.ShloMosaic

namespace Cert.Ret

/-- A finite sum of reals, as an extended real. -/
theorem coe_sum {ι : Type} [Fintype ι] (f : ι → ℝ) : ((∑ i, f i : ℝ) : EReal) = ∑ i, (f i : EReal) :=
  map_sum (⟨⟨Real.toEReal, rfl⟩, EReal.coe_add⟩ : ℝ →+ EReal) f Finset.univ

/-- The group norm's small constant. -/
def eps : ℝ := 8796093 / 8796093022208

theorem eps_pos : 0 < eps := by unfold eps; norm_num

theorem lit_256 : Ideal.ofBits .f32 0x43800000#32 = ((256 : ℝ) : EReal) := by
  simp [Ideal.ofBits, Ideal.ieee, -EReal.coe_mul]; norm_num

theorem lit_sixteenth : Ideal.ofBits .f32 0x3D800000#32 = (((1 / 16 : ℝ)) : EReal) := by
  simp [Ideal.ofBits, Ideal.ieee, -EReal.coe_mul]; norm_num

theorem lit_eps : Ideal.ofBits .f32 0x358637BD#32 = (eps : EReal) := by
  unfold eps
  simp [Ideal.ofBits, Ideal.ieee, -EReal.coe_mul]; norm_num

theorem div_real (a b : ℝ) (hb : b ≠ 0) : Ideal.div (a : EReal) (b : EReal) = ((a / b : ℝ) : EReal) := by
  rw [Ideal.div_coe hb, ← EReal.coe_mul]
  congr 1
  ring

theorem rsqrt_real (a : ℝ) (ha : 0 < a) : Ideal.rsqrt (a : EReal) = (((Real.sqrt a)⁻¹ : ℝ) : EReal) := by
  rw [Ideal.rsqrt_coe, if_neg (not_lt.mpr ha.le), if_neg ha.ne']

theorem logistic_real (a : ℝ) : Ideal.logistic (a : EReal) = (lgst a : EReal) := Ideal.logistic_coe a

end Cert.Ret

end
-- ==== Proof.Pass.lean ====
/- What the layer's backward pass computes, over the real numbers: the data it reads and the four gradients, written as sums over all frames. -/
module

public import proofs.«01_k».proof.Proof.Lift

@[expose] public section

noncomputable section

namespace Cert.Ret

/-- The data of the pass: the tables, the decay rates, the four projections and the incoming gradient. -/
structure Pass where
  /-- the cosines, by frame and frequency -/
  C : Fin 8192 → Fin 128 → ℝ
  /-- the sines -/
  S : Fin 8192 → Fin 128 → ℝ
  /-- the logarithm of each head's decay -/
  L : Fin 8 → ℝ
  /-- the queries, by head, frame and feature -/
  Q : Fin 8 → Fin 8192 → Fin 256 → ℝ
  /-- the keys -/
  K : Fin 8 → Fin 8192 → Fin 256 → ℝ
  /-- the values -/
  V : Fin 8 → Fin 8192 → Fin 256 → ℝ
  /-- the gates -/
  G : Fin 8 → Fin 8192 → Fin 256 → ℝ
  /-- the gradient of the layer's output -/
  Ct : Fin 8 → Fin 8192 → Fin 256 → ℝ

namespace Pass

variable (P : Pass) (h : Fin 8)

/-- The rotated queries. -/
def qr (i : Fin 8192) (d : Fin 256) : ℝ := ropeR (P.C i) (P.S i) (P.Q h i) d

/-- The rotated and scaled keys. -/
def kr (i : Fin 8192) (d : Fin 256) : ℝ := ropeR (P.C i) (P.S i) (P.K h i) d * (1 / 16)

/-- The retention's output. -/
def Y (i : Fin 8192) (e : Fin 256) : ℝ := ∑ j, ((∑ d, P.qr h i d * P.kr h j d) * dec (P.L h) i j) * P.V h j e

/-- The gradient of the retention's output. -/
def dy (i : Fin 8192) : Fin 256 → ℝ := doutR eps (P.Y h i) (P.G h i) (P.Ct h i)

/-- The gradient of the rotated queries. -/
def dqr (i : Fin 8192) (d : Fin 256) : ℝ := ∑ j, ((∑ e, P.dy h i e * P.V h j e) * dec (P.L h) i j) * P.kr h j d

/-- The gradient of the rotated and scaled keys. -/
def dkr (j : Fin 8192) (d : Fin 256) : ℝ := ∑ i, ((∑ e, P.dy h i e * P.V h j e) * dec (P.L h) i j) * P.qr h i d

/-- The queries' gradient. -/
def resQ (i : Fin 8192) (d : Fin 256) : ℝ := ropeTR (P.C i) (P.S i) (P.dqr h i) d

/-- The keys' gradient. -/
def resK (j : Fin 8192) (d : Fin 256) : ℝ := ropeTR (P.C j) (P.S j) (P.dkr h j) d * (1 / 16)

/-- The values' gradient. -/
def resV (j : Fin 8192) (e : Fin 256) : ℝ := ∑ i, P.dy h i e * ((∑ d, P.qr h i d * P.kr h j d) * dec (P.L h) i j)

/-- The gates' gradient. -/
def resG (i : Fin 8192) (d : Fin 256) : ℝ := dgateR eps (P.Y h i) (P.G h i) (P.Ct h i) d

/-- All four gradients, in the layout of the result: head by head the queries', the keys', the values' and the gates'. -/
def res (i : Fin 8192) (n : Fin 8192) : ℝ :=
  let hd : Fin 8 := ⟨n.val / 1024, by omega⟩
  let d : Fin 256 := ⟨n.val % 256, by omega⟩
  if n.val % 1024 < 256 then P.resQ hd i d else if n.val % 1024 < 512 then P.resK hd i d
  else if n.val % 1024 < 768 then P.resV hd i d else P.resG hd i d

end Pass

end Cert.Ret

end
-- ==== Proof.Body.lean ====
/- The kernel's work on one chunk of one head, as functions of the tiles it loads, and each of them read over the real numbers. -/
module

public import proofs.«01_k».proof.Proof.Gen.KernelIdeal
public import proofs.«01_k».proof.Proof.Lift
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

/-! ## The chains of operations -/

/-- The rotation of a tile by the table tiles. -/
def rot (cs sn : FVec Ideal S64x128 .f32) (t : FVec Ideal S64x256 .f32) : FVec Ideal S64x256 .f32 :=
  concatenate S64x256 1
    [⟨S64x128, subf (mulf (extractStridedSlice S64x128 ![0, 0] t slices_S64x256_o0_0_S64x128) cs)
        (mulf (extractStridedSlice S64x128 ![0, 128] t slices_S64x256_o0_128_S64x128) sn)⟩,
      ⟨S64x128, addf (mulf (extractStridedSlice S64x128 ![0, 128] t slices_S64x256_o0_128_S64x128) cs)
        (mulf (extractStridedSlice S64x128 ![0, 0] t slices_S64x256_o0_0_S64x128) sn)⟩]
    concatenates_S64x128_S64x128_S64x256_d1

/-- The rotation's transpose. -/
def rotT (cs sn : FVec Ideal S64x128 .f32) (t : FVec Ideal S64x256 .f32) : FVec Ideal S64x256 .f32 :=
  concatenate S64x256 1
    [⟨S64x128, addf (mulf (extractStridedSlice S64x128 ![0, 0] t slices_S64x256_o0_0_S64x128) cs)
        (mulf (extractStridedSlice S64x128 ![0, 128] t slices_S64x256_o0_128_S64x128) sn)⟩,
      ⟨S64x128, subf (mulf (extractStridedSlice S64x128 ![0, 128] t slices_S64x256_o0_128_S64x128) cs)
        (mulf (extractStridedSlice S64x128 ![0, 0] t slices_S64x256_o0_0_S64x128) sn)⟩]
    concatenates_S64x128_S64x128_S64x256_d1

/-- A tile times the keys' scale. -/
def scaled (t : FVec Ideal S64x256 .f32) : FVec Ideal S64x256 .f32 :=
  mulf t (broadcast S64x256 (Scalar.ofBits .f32 0x3D800000#32))

/-- The mean of each row, beside its row. -/
def rowMean (t : FVec Ideal S64x256 .f32) : FVec Ideal S64x1 .f32 :=
  divf (shapeCast S64x1 (multiReduction .add [1] S64 t 0x00000000#32 reduces_S64x256_S64 (.inl rfl) rfl) shapeCasts_S64_S64x1)
    (broadcast S64x1 (Scalar.ofBits .f32 0x43800000#32))

/-- A tile less its rows' means. -/
def centred (t : FVec Ideal S64x256 .f32) : FVec Ideal S64x256 .f32 :=
  subf t (broadcastTo S64x256 (rowMean t) broadcasts_S64x1_S64x256)

/-- The reciprocal deviation of each row. -/
def recip (y : FVec Ideal S64x256 .f32) : FVec Ideal S64x1 .f32 :=
  rsqrt (addf (rowMean (mulf (centred y) (centred y))) (broadcast S64x1 (Scalar.ofBits .f32 0x358637BD#32)))

/-- The normalised rows. -/
def normed (y : FVec Ideal S64x256 .f32) : FVec Ideal S64x256 .f32 :=
  mulf (centred y) (broadcastTo S64x256 (recip y) broadcasts_S64x1_S64x256)

/-- The gate's gradient. -/
def dgate (y g ct : FVec Ideal S64x256 .f32) : FVec Ideal S64x256 .bf16 :=
  truncf .bf16 (mulf (mulf ct (normed y)) (mulf (logistic g)
    (addf (broadcast S64x256 (Scalar.ofBits .f32 0x3F800000#32))
      (mulf g (subf (broadcast S64x256 (Scalar.ofBits .f32 0x3F800000#32)) (logistic g)))))) bitsLt_bf16_f32

/-- The incoming gradient through the gate. -/
def gated (g ct : FVec Ideal S64x256 .f32) : FVec Ideal S64x256 .f32 := mulf ct (mulf g (logistic g))

/-- The incoming gradient through the gate and the normalisation. -/
def dout (y g ct : FVec Ideal S64x256 .f32) : FVec Ideal S64x256 .f32 :=
  mulf (broadcastTo S64x256 (recip y) broadcasts_S64x1_S64x256)
    (subf (centred (gated g ct))
      (mulf (normed y) (broadcastTo S64x256 (rowMean (mulf (gated g ct) (normed y))) broadcasts_S64x1_S64x256)))

/-- A tile, its rows weighted. -/
def weighted (t : FVec Ideal S64x256 .f32) (w : FVec Ideal S64x1 .f32) : FVec Ideal S64x256 .bf16 :=
  truncf .bf16 (mulf t (broadcastTo S64x256 w broadcasts_S64x1_S64x256)) bitsLt_bf16_f32

/-- The products of two tiles' rows, decayed. -/
def scores (mm : FVec Ideal S64x64 .f32) (a b : FVec Ideal S64x256 .bf16) : FVec Ideal S64x64 .bf16 :=
  truncf .bf16 (mulf (matmul dot_S64x256_S64x256_S64x64_1_1_0_0_n_n none a b (constant S64x64 .f32 0x00000000#32)) mm) bitsLt_bf16_f32

/-- The values' gradient in one chunk. -/
def dvT (s : FVec Ideal S64x64 .bf16) (dy kw : FVec Ideal S64x256 .bf16) (D : FVec Ideal S256x256 .bf16) : FVec Ideal S64x256 .bf16 :=
  truncf .bf16 (addf (matmul dot_S64x64_S64x256_S64x256_1_0_0_1_n_n none s dy (constant S64x256 .f32 0x00000000#32))
    (matmul dot_S64x256_S256x256_S64x256_1_0_0_1_n_n none kw D (constant S64x256 .f32 0x00000000#32))) bitsLt_bf16_f32

/-- The rotated queries' gradient in one chunk. -/
def dqT (s : FVec Ideal S64x64 .bf16) (k dyw : FVec Ideal S64x256 .bf16) (st : FVec Ideal S256x256 .bf16) : FVec Ideal S64x256 .f32 :=
  addf (matmul dot_S64x64_S64x256_S64x256_1_0_0_1_n_n none s k (constant S64x256 .f32 0x00000000#32))
    (matmul dot_S64x256_S256x256_S64x256_1_1_0_0_n_n none dyw st (constant S64x256 .f32 0x00000000#32))

/-- The rotated keys' gradient in one chunk. -/
def dkT (s : FVec Ideal S64x64 .bf16) (q v : FVec Ideal S64x256 .bf16) (D : FVec Ideal S256x256 .bf16) (kd : FVec Ideal S64x1 .f32) :
    FVec Ideal S64x256 .f32 :=
  addf (matmul dot_S64x64_S64x256_S64x256_1_0_0_1_n_n none s q (constant S64x256 .f32 0x00000000#32))
    (mulf (matmul dot_S64x256_S256x256_S64x256_1_1_0_0_n_n none v D (constant S64x256 .f32 0x00000000#32))
      (broadcastTo S64x256 kd broadcasts_S64x1_S64x256))

/-- The carried gradient after one chunk. -/
def carryT (cd : FVec Ideal S1x1 .f32) (q dyw : FVec Ideal S64x256 .bf16) (D : FVec Ideal S256x256 .f32) : FVec Ideal S1x256x256 .f32 :=
  shapeCast S1x256x256 (addf (mulf D (broadcastTo S256x256 cd broadcasts_S1x1_S256x256))
    (matmul dot_S64x256_S64x256_S256x256_0_0_1_1_n_n none q dyw (constant S256x256 .f32 0x00000000#32))) shapeCasts_S256x256_S1x256x256

/-! ## Read over the real numbers -/

variable {cs sn : FVec Ideal S64x128 .f32} {C S : Fin 64 → Fin 128 → ℝ}

theorem rot_at (hc : ∀ l d, cs (ix2 l d) = (C l d : EReal)) (hs : ∀ l d, sn (ix2 l d) = (S l d : EReal))
    {t : FVec Ideal S64x256 .f32} {T : Fin 64 → Fin 256 → ℝ} (ht : ∀ l d, t (ix2 l d) = (T l d : EReal)) (l : Fin 64) (d : Fin 256) :
    rot cs sn t (ix2 l d) = (ropeR (C l) (S l) (T l) d : EReal) := by
  pointwise [rot]
  unfold ropeR
  simp only [hc, hs, ht]
  split
  · norm_cast
  · have hd : (⟨128 + (d.val - 128), by omega⟩ : Fin 256) = d := Fin.ext (by simp only; omega)
    rw [hd]; norm_cast

theorem rotT_at (hc : ∀ l d, cs (ix2 l d) = (C l d : EReal)) (hs : ∀ l d, sn (ix2 l d) = (S l d : EReal))
    {t : FVec Ideal S64x256 .f32} {T : Fin 64 → Fin 256 → ℝ} (ht : ∀ l d, t (ix2 l d) = (T l d : EReal)) (l : Fin 64) (d : Fin 256) :
    rotT cs sn t (ix2 l d) = (ropeTR (C l) (S l) (T l) d : EReal) := by
  pointwise [rotT]
  unfold ropeTR
  simp only [hc, hs, ht]
  split
  · norm_cast
  · have hd : (⟨128 + (d.val - 128), by omega⟩ : Fin 256) = d := Fin.ext (by simp only; omega)
    rw [hd]; norm_cast

section tiles

variable {t y g ct : FVec Ideal S64x256 .f32} {T Y G Ct : Fin 64 → Fin 256 → ℝ}

theorem scaled_at (ht : ∀ l d, t (ix2 l d) = (T l d : EReal)) (l : Fin 64) (d : Fin 256) :
    scaled t (ix2 l d) = ((T l d * (1 / 16) : ℝ) : EReal) := by
  pointwise [scaled]
  rw [ht, lit_sixteenth]; norm_cast

theorem rowMean_at (ht : ∀ l d, t (ix2 l d) = (T l d : EReal)) (l : Fin 64) (z : Fin 1) :
    rowMean t (ix2 l z) = (mean (T l) : EReal) := by
  pointwise [rowMean]
  simp only [ht]
  rw [lit_256, ← coe_sum, div_real _ _ (by norm_num)]
  rfl

theorem centred_at (ht : ∀ l d, t (ix2 l d) = (T l d : EReal)) (l : Fin 64) (d : Fin 256) :
    centred t (ix2 l d) = ((T l d - mean (T l) : ℝ) : EReal) := by
  pointwise [centred]
  rw [rowMean_at ht, ht]; norm_cast

theorem recip_at (hy : ∀ l d, y (ix2 l d) = (Y l d : EReal)) (l : Fin 64) (z : Fin 1) :
    recip y (ix2 l z) = (rstd eps (Y l) : EReal) := by
  pointwise [recip]
  rw [rowMean_at (T := fun l d => (Y l d - mean (Y l)) * (Y l d - mean (Y l))) (fun l d => by
    pointwise
    rw [centred_at hy]; norm_cast), lit_eps]
  rw [show mean (fun d => (Y l d - mean (Y l)) * (Y l d - mean (Y l))) = var (Y l) from rfl, ← EReal.coe_add,
    rsqrt_real _ (by have := var_nonneg (Y l); have := eps_pos; linarith)]
  rfl

theorem normed_at (hy : ∀ l d, y (ix2 l d) = (Y l d : EReal)) (l : Fin 64) (d : Fin 256) :
    normed y (ix2 l d) = (gnorm eps (Y l) d : EReal) := by
  pointwise [normed]
  rw [recip_at hy, centred_at hy]
  unfold gnorm; norm_cast

theorem dgate_at (hy : ∀ l d, y (ix2 l d) = (Y l d : EReal)) (hg : ∀ l d, g (ix2 l d) = (G l d : EReal))
    (hct : ∀ l d, ct (ix2 l d) = (Ct l d : EReal)) (l : Fin 64) (d : Fin 256) :
    dgate y g ct (ix2 l d) = (dgateR eps (Y l) (G l) (Ct l) d : EReal) := by
  pointwise [dgate]
  rw [normed_at hy, hg, hct, logistic_real]
  unfold dgateR; norm_cast

theorem gated_at (hg : ∀ l d, g (ix2 l d) = (G l d : EReal))
    (hct : ∀ l d, ct (ix2 l d) = (Ct l d : EReal)) (l : Fin 64) (d : Fin 256) :
    gated g ct (ix2 l d) = ((Ct l d * (G l d * lgst (G l d)) : ℝ) : EReal) := by
  pointwise [gated]
  rw [hg, hct, logistic_real]; norm_cast

theorem dout_at (hy : ∀ l d, y (ix2 l d) = (Y l d : EReal)) (hg : ∀ l d, g (ix2 l d) = (G l d : EReal))
    (hct : ∀ l d, ct (ix2 l d) = (Ct l d : EReal)) (l : Fin 64) (d : Fin 256) :
    dout y g ct (ix2 l d) = (doutR eps (Y l) (G l) (Ct l) d : EReal) := by
  pointwise [dout]
  rw [recip_at hy, normed_at hy, centred_at (gated_at hg hct),
    rowMean_at (T := fun l d => (Ct l d * (G l d * lgst (G l d))) * gnorm eps (Y l) d) (fun l d => by
      pointwise
      rw [gated_at hg hct, normed_at hy]; norm_cast)]
  unfold doutR dgn
  norm_cast

theorem weighted_at (ht : ∀ l d, t (ix2 l d) = (T l d : EReal)) {w : FVec Ideal S64x1 .f32} {W : Fin 64 → ℝ}
    (hw : ∀ l z, w (ix2 l z) = (W l : EReal)) (l : Fin 64) (d : Fin 256) :
    weighted t w (ix2 l d) = ((T l d * W l : ℝ) : EReal) := by
  pointwise [weighted]
  rw [ht, hw]; norm_cast

end tiles

section products

variable {a b q k v dy : FVec Ideal S64x256 .bf16} {A B Q K V Dy : Fin 64 → Fin 256 → ℝ}
variable {s : FVec Ideal S64x64 .bf16} {Sc : Fin 64 → Fin 64 → ℝ} {D : Fin 256 → Fin 256 → ℝ}

theorem scores_at {mm : FVec Ideal S64x64 .f32} {M : Fin 64 → Fin 64 → ℝ} (hm : ∀ l l', mm (ix2 l l') = (M l l' : EReal))
    (ha : ∀ l d, a (ix2 l d) = (A l d : EReal)) (hb : ∀ l d, b (ix2 l d) = (B l d : EReal)) (l l' : Fin 64) :
    scores mm a b (ix2 l l') = (((∑ d, A l d * B l' d) * M l l' : ℝ) : EReal) := by
  pointwise [scores]
  simp only [ha, hb, hm, EReal.coe_mul, coe_sum]

theorem dvT_at (hs : ∀ l l', s (ix2 l l') = (Sc l l' : EReal)) (hdy : ∀ l d, dy (ix2 l d) = (Dy l d : EReal))
    (hk : ∀ l d, k (ix2 l d) = (K l d : EReal)) {dm : FVec Ideal S256x256 .bf16} (hd : ∀ d e, dm (ix2 d e) = (D d e : EReal))
    (l : Fin 64) (e : Fin 256) :
    dvT s dy k dm (ix2 l e) = ((∑ l', Sc l l' * Dy l' e + ∑ d, K l d * D d e : ℝ) : EReal) := by
  pointwise [dvT]
  simp only [hs, hdy, hk, hd, EReal.coe_mul, coe_sum, EReal.coe_add]

theorem dqT_at (hs : ∀ l l', s (ix2 l l') = (Sc l l' : EReal)) (hk : ∀ l d, k (ix2 l d) = (K l d : EReal))
    (hdy : ∀ l d, dy (ix2 l d) = (Dy l d : EReal)) {dm : FVec Ideal S256x256 .bf16} (hd : ∀ d e, dm (ix2 d e) = (D d e : EReal))
    (l : Fin 64) (d : Fin 256) :
    dqT s k dy dm (ix2 l d) = ((∑ l', Sc l l' * K l' d + ∑ e, Dy l e * D d e : ℝ) : EReal) := by
  pointwise [dqT]
  simp only [hs, hdy, hk, hd, EReal.coe_mul, coe_sum, EReal.coe_add]

theorem dkT_at (hs : ∀ l l', s (ix2 l l') = (Sc l l' : EReal)) (hq : ∀ l d, q (ix2 l d) = (Q l d : EReal))
    (hv : ∀ l d, v (ix2 l d) = (V l d : EReal)) {dm : FVec Ideal S256x256 .bf16} (hd : ∀ d e, dm (ix2 d e) = (D d e : EReal))
    {w : FVec Ideal S64x1 .f32} {W : Fin 64 → ℝ} (hw : ∀ l z, w (ix2 l z) = (W l : EReal)) (l : Fin 64) (d : Fin 256) :
    dkT s q v dm w (ix2 l d) = ((∑ l', Sc l l' * Q l' d + (∑ e, V l e * D d e) * W l : ℝ) : EReal) := by
  pointwise [dkT]
  simp only [hs, hq, hv, hd, hw, EReal.coe_mul, coe_sum, EReal.coe_add]

theorem carryT_at {cd : FVec Ideal S1x1 .f32} {γ : ℝ} (hc : ∀ z z', cd (ix2 z z') = (γ : EReal)) (hq : ∀ l d, q (ix2 l d) = (Q l d : EReal))
    (hdy : ∀ l d, dy (ix2 l d) = (Dy l d : EReal)) {dm : FVec Ideal S256x256 .f32} (hd : ∀ d e, dm (ix2 d e) = (D d e : EReal))
    (z : Fin 1) (d e : Fin 256) :
    carryT cd q dy dm (ix3 z d e) = ((D d e * γ + ∑ l, Q l d * Dy l e : ℝ) : EReal) := by
  pointwise [carryT]
  simp only [hc, hq, hdy, hd, EReal.coe_mul, coe_sum, EReal.coe_add]

end products

end Cert.KernelIdeal.Ret

end
-- ==== Proof.Tile.lean ====
/- The kernel's work on one chunk of one head, from the blocks a grid point finds: the four tiles it stores and the carried gradient it leaves. -/
module

public import proofs.«01_k».proof.Proof.Pass
public import proofs.«01_k».proof.Proof.Body

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

/-! ## The tiles, of what is loaded -/

section chains

variable (cs sn : Vec Ideal S64x128 .f32) (mm : Vec Ideal S1x64x64 .f32) (qd kd : Vec Ideal S1x64x1 .f32) (cd : Vec Ideal S1x1x1 .f32)
variable (q k v g : Vec Ideal S64x256 .bf16) (y : Vec Ideal S64x256 .f32) (ct : Vec Ideal S64x256 .bf16)
variable (st : Vec Ideal S1x1x256x256 .bf16) (D : Vec Ideal S1x256x256 .f32)

/-- A loaded tile, rotated. -/
def turned (t : Vec Ideal S64x256 .bf16) : FVec Ideal S64x256 .f32 :=
  rot (shapeCast S64x128 cs shapeCasts_S64x128_S64x128) (shapeCast S64x128 sn shapeCasts_S64x128_S64x128) (extf .f32 t bitsLt_bf16_f32)

/-- The rotated queries. -/
def qT : FVec Ideal S64x256 .bf16 := truncf .bf16 (turned cs sn q) bitsLt_bf16_f32

/-- The rotated, scaled keys. -/
def kT : FVec Ideal S64x256 .bf16 := truncf .bf16 (scaled (turned cs sn k)) bitsLt_bf16_f32

/-- The gradient of the chunk's output. -/
def dyF : FVec Ideal S64x256 .f32 :=
  dout (shapeCast S64x256 y shapeCasts_S64x256_S64x256) (extf .f32 g bitsLt_bf16_f32) (extf .f32 ct bitsLt_bf16_f32)

/-- The same, rounded. -/
def dyT : FVec Ideal S64x256 .bf16 := truncf .bf16 (dyF g y ct) bitsLt_bf16_f32

/-- The same, weighted by the decay from the chunk's border. -/
def dywT : FVec Ideal S64x256 .bf16 := weighted (dyF g y ct) (shapeCast S64x1 qd shapeCasts_S1x64x1_S64x1)

/-- What is carried, rounded. -/
def carried : FVec Ideal S256x256 .bf16 := truncf .bf16 (shapeCast S256x256 D shapeCasts_S1x256x256_S256x256) bitsLt_bf16_f32

/-- The queries' gradient. -/
def outQ : FVec Ideal S64x256 .bf16 :=
  truncf .bf16 (rotT (shapeCast S64x128 cs shapeCasts_S64x128_S64x128) (shapeCast S64x128 sn shapeCasts_S64x128_S64x128)
    (dqT (scores (shapeCast S64x64 mm shapeCasts_S1x64x64_S64x64) (dyT g y ct) v) (kT cs sn k) (dywT qd g y ct)
      (shapeCast S256x256 st shapeCasts_S1x1x256x256_S256x256))) bitsLt_bf16_f32

/-- The keys' gradient. -/
def outK : FVec Ideal S64x256 .bf16 :=
  truncf .bf16 (scaled (rotT (shapeCast S64x128 cs shapeCasts_S64x128_S64x128) (shapeCast S64x128 sn shapeCasts_S64x128_S64x128)
    (dkT (scores (shapeCast S64x64 mm shapeCasts_S1x64x64_S64x64) v (dyT g y ct)) (qT cs sn q) v (carried D)
      (shapeCast S64x1 kd shapeCasts_S1x64x1_S64x1)))) bitsLt_bf16_f32

/-- The values' gradient. -/
def outV : FVec Ideal S64x256 .bf16 :=
  dvT (scores (shapeCast S64x64 mm shapeCasts_S1x64x64_S64x64) (kT cs sn k) (qT cs sn q)) (dyT g y ct)
    (weighted (scaled (turned cs sn k)) (shapeCast S64x1 kd shapeCasts_S1x64x1_S64x1)) (carried D)

/-- The gate's gradient. -/
def outG : FVec Ideal S64x256 .bf16 :=
  dgate (shapeCast S64x256 y shapeCasts_S64x256_S64x256) (extf .f32 g bitsLt_bf16_f32) (extf .f32 ct bitsLt_bf16_f32)

/-- What is carried on. -/
def outD : FVec Ideal S1x256x256 .f32 :=
  carryT (shapeCast S1x1 cd shapeCasts_S1x1x1_S1x1) (qT cs sn q) (dywT qd g y ct) (shapeCast S256x256 D shapeCasts_S1x256x256_S256x256)

end chains

/-! ## The blocks of one grid point -/

/-- The chunk of a block. -/
def chk (rb : Fin 16) (c : Fin 8) : Fin 128 := ⟨8 * rb.val + c.val, by omega⟩

/-- The head of a pair. -/
def hd (hp : Fin 4) (hh : Fin 2) : Fin 8 := ⟨2 * hp.val + hh.val, by omega⟩

/-- The blocks hold the pass's data: row block `rb`, head pair `hp`. -/
structure Blocks (P : Pass) (hp : Fin 4) (rb : Fin 16) (b0 : Vec Ideal S512x2048 .bf16) (b1 b2 : Vec Ideal S512x128 .f32) (b3 : Vec Ideal S2x64x64 .f32)
    (b4 b5 : Vec Ideal S2x64x1 .f32) (b6 : Vec Ideal S2x1x1 .f32) (b7 : Vec Ideal S512x512 .f32) (b8 : Vec Ideal S512x512 .bf16)
    (b9 : Vec Ideal S2x8x256x256 .bf16) : Prop where
  q : ∀ (hh : Fin 2) (c : Fin 8) (l : Fin 64) (d : Fin 256),
    b0 (ix2 ⟨64 * c.val + l.val, by omega⟩ ⟨1024 * hh.val + d.val, by omega⟩) = (P.Q (hd hp hh) (at64 (chk rb c) l) d : EReal)
  k : ∀ (hh : Fin 2) (c : Fin 8) (l : Fin 64) (d : Fin 256),
    b0 (ix2 ⟨64 * c.val + l.val, by omega⟩ ⟨1024 * hh.val + 256 + d.val, by omega⟩) = (P.K (hd hp hh) (at64 (chk rb c) l) d : EReal)
  v : ∀ (hh : Fin 2) (c : Fin 8) (l : Fin 64) (d : Fin 256),
    b0 (ix2 ⟨64 * c.val + l.val, by omega⟩ ⟨1024 * hh.val + 512 + d.val, by omega⟩) = (P.V (hd hp hh) (at64 (chk rb c) l) d : EReal)
  g : ∀ (hh : Fin 2) (c : Fin 8) (l : Fin 64) (d : Fin 256),
    b0 (ix2 ⟨64 * c.val + l.val, by omega⟩ ⟨1024 * hh.val + 768 + d.val, by omega⟩) = (P.G (hd hp hh) (at64 (chk rb c) l) d : EReal)
  cos : ∀ (c : Fin 8) (l : Fin 64) (d : Fin 128), b1 (ix2 ⟨64 * c.val + l.val, by omega⟩ d) = (P.C (at64 (chk rb c) l) d : EReal)
  sin : ∀ (c : Fin 8) (l : Fin 64) (d : Fin 128), b2 (ix2 ⟨64 * c.val + l.val, by omega⟩ d) = (P.S (at64 (chk rb c) l) d : EReal)
  mm : ∀ (hh : Fin 2) (l l' : Fin 64), b3 (ix3 hh l l') = (mmr (P.L (hd hp hh)) l l' : EReal)
  qd : ∀ (hh : Fin 2) (l : Fin 64) (z : Fin 1), b4 (ix3 hh l z) = (Real.exp (((l.val : ℝ) + 1) * P.L (hd hp hh)) : EReal)
  kd : ∀ (hh : Fin 2) (l : Fin 64) (z : Fin 1), b5 (ix3 hh l z) = (Real.exp ((63 - (l.val : ℝ)) * P.L (hd hp hh)) : EReal)
  cd : ∀ (hh : Fin 2) (z z' : Fin 1), b6 (ix3 hh z z') = (Real.exp (64 * P.L (hd hp hh)) : EReal)
  y : ∀ (hh : Fin 2) (c : Fin 8) (l : Fin 64) (d : Fin 256),
    b7 (ix2 ⟨64 * c.val + l.val, by omega⟩ ⟨256 * hh.val + d.val, by omega⟩) = (P.Y (hd hp hh) (at64 (chk rb c) l) d : EReal)
  ct : ∀ (hh : Fin 2) (c : Fin 8) (l : Fin 64) (d : Fin 256),
    b8 (ix2 ⟨64 * c.val + l.val, by omega⟩ ⟨256 * hh.val + d.val, by omega⟩) = (P.Ct (hd hp hh) (at64 (chk rb c) l) d : EReal)
  st : ∀ (hh : Fin 2) (c : Fin 8) (d e : Fin 256),
    b9 (ix4 hh c d e) = (stR (P.L (hd hp hh)) (P.kr (hd hp hh)) (P.V (hd hp hh)) (chk rb c).val d e : EReal)

/-! ## The tiles, read -/

section read

variable {P : Pass} {h : Fin 8} {n : Fin 128}
variable {cs sn : Vec Ideal S64x128 .f32} {mm : Vec Ideal S1x64x64 .f32} {qd kd : Vec Ideal S1x64x1 .f32} {cd : Vec Ideal S1x1x1 .f32}
variable {q k v g : Vec Ideal S64x256 .bf16} {y : Vec Ideal S64x256 .f32} {ct : Vec Ideal S64x256 .bf16}
variable {st : Vec Ideal S1x1x256x256 .bf16} {D : Vec Ideal S1x256x256 .f32}

/-- The loaded tiles hold the data of head `h`, chunk `n`. -/
structure Tiles (P : Pass) (h : Fin 8) (n : Fin 128) (cs sn : Vec Ideal S64x128 .f32) (mm : Vec Ideal S1x64x64 .f32) (qd kd : Vec Ideal S1x64x1 .f32)
    (cd : Vec Ideal S1x1x1 .f32) (q k v g : Vec Ideal S64x256 .bf16) (y : Vec Ideal S64x256 .f32) (ct : Vec Ideal S64x256 .bf16)
    (st : Vec Ideal S1x1x256x256 .bf16) : Prop where
  cos : ∀ l d, cs (ix2 l d) = (P.C (at64 n l) d : EReal)
  sin : ∀ l d, sn (ix2 l d) = (P.S (at64 n l) d : EReal)
  mm : ∀ z l l', mm (ix3 z l l') = (mmr (P.L h) l l' : EReal)
  qd : ∀ z l z', qd (ix3 z l z') = (Real.exp (((l.val : ℝ) + 1) * P.L h) : EReal)
  kd : ∀ z l z', kd (ix3 z l z') = (Real.exp ((63 - (l.val : ℝ)) * P.L h) : EReal)
  cd : ∀ z z' z'', cd (ix3 z z' z'') = (Real.exp (64 * P.L h) : EReal)
  q : ∀ l d, q (ix2 l d) = (P.Q h (at64 n l) d : EReal)
  k : ∀ l d, k (ix2 l d) = (P.K h (at64 n l) d : EReal)
  v : ∀ l d, v (ix2 l d) = (P.V h (at64 n l) d : EReal)
  g : ∀ l d, g (ix2 l d) = (P.G h (at64 n l) d : EReal)
  y : ∀ l d, y (ix2 l d) = (P.Y h (at64 n l) d : EReal)
  ct : ∀ l d, ct (ix2 l d) = (P.Ct h (at64 n l) d : EReal)
  st : ∀ z z' d e, st (ix4 z z' d e) = (stR (P.L h) (P.kr h) (P.V h) n.val d e : EReal)

variable (T : Tiles P h n cs sn mm qd kd cd q k v g y ct st)

include T

theorem cos_at (l : Fin 64) (d : Fin 128) : shapeCast S64x128 cs shapeCasts_S64x128_S64x128 (ix2 l d) = (P.C (at64 n l) d : EReal) := by
  pointwise
  exact T.cos l d

theorem sin_at (l : Fin 64) (d : Fin 128) : shapeCast S64x128 sn shapeCasts_S64x128_S64x128 (ix2 l d) = (P.S (at64 n l) d : EReal) := by
  pointwise
  exact T.sin l d

theorem mm_at (l l' : Fin 64) : shapeCast S64x64 mm shapeCasts_S1x64x64_S64x64 (ix2 l l') = (mmr (P.L h) l l' : EReal) := by
  pointwise
  exact T.mm _ l l'

theorem qd_at (l : Fin 64) (z : Fin 1) :
    shapeCast S64x1 qd shapeCasts_S1x64x1_S64x1 (ix2 l z) = (Real.exp (((l.val : ℝ) + 1) * P.L h) : EReal) := by
  pointwise
  exact T.qd _ l _

theorem kd_at (l : Fin 64) (z : Fin 1) :
    shapeCast S64x1 kd shapeCasts_S1x64x1_S64x1 (ix2 l z) = (Real.exp ((63 - (l.val : ℝ)) * P.L h) : EReal) := by
  pointwise
  exact T.kd _ l _

theorem cd_at (z z' : Fin 1) : shapeCast S1x1 cd shapeCasts_S1x1x1_S1x1 (ix2 z z') = (Real.exp (64 * P.L h) : EReal) := by
  pointwise
  exact T.cd _ _ _

theorem y_at (l : Fin 64) (d : Fin 256) : shapeCast S64x256 y shapeCasts_S64x256_S64x256 (ix2 l d) = (P.Y h (at64 n l) d : EReal) := by
  pointwise
  exact T.y l d

theorem st_at (d e : Fin 256) :
    shapeCast S256x256 st shapeCasts_S1x1x256x256_S256x256 (ix2 d e) = (stR (P.L h) (P.kr h) (P.V h) n.val d e : EReal) := by
  pointwise
  exact T.st _ _ d e

theorem qT_at (l : Fin 64) (d : Fin 256) : qT cs sn q (ix2 l d) = (P.qr h (at64 n l) d : EReal) :=
  rot_at (cos_at T) (sin_at T) (t := extf .f32 q bitsLt_bf16_f32) (fun l d => T.q l d) l d

theorem kF_at (l : Fin 64) (d : Fin 256) : scaled (turned cs sn k) (ix2 l d) = (P.kr h (at64 n l) d : EReal) :=
  scaled_at (rot_at (cos_at T) (sin_at T) (t := extf .f32 k bitsLt_bf16_f32) fun l d => T.k l d) l d

theorem kT_at (l : Fin 64) (d : Fin 256) : kT cs sn k (ix2 l d) = (P.kr h (at64 n l) d : EReal) := kF_at T l d

theorem dyF_at (l : Fin 64) (d : Fin 256) : dyF g y ct (ix2 l d) = (P.dy h (at64 n l) d : EReal) :=
  dout_at (y_at T) (g := extf .f32 g bitsLt_bf16_f32) (fun l d => T.g l d) (ct := extf .f32 ct bitsLt_bf16_f32) (fun l d => T.ct l d) l d

theorem dyT_at (l : Fin 64) (d : Fin 256) : dyT g y ct (ix2 l d) = (P.dy h (at64 n l) d : EReal) := dyF_at T l d

theorem dywT_at (l : Fin 64) (d : Fin 256) :
    dywT qd g y ct (ix2 l d) = ((P.dy h (at64 n l) d * Real.exp (((l.val : ℝ) + 1) * P.L h) : ℝ) : EReal) :=
  weighted_at (dyF_at T) (qd_at T) l d

theorem outG_at (l : Fin 64) (d : Fin 256) : outG g y ct (ix2 l d) = (P.resG h (at64 n l) d : EReal) :=
  dgate_at (y_at T) (g := extf .f32 g bitsLt_bf16_f32) (fun l d => T.g l d) (ct := extf .f32 ct bitsLt_bf16_f32) (fun l d => T.ct l d) l d

theorem outQ_at (l : Fin 64) (d : Fin 256) : outQ cs sn mm qd k v g y ct st (ix2 l d) = (P.resQ h (at64 n l) d : EReal) := by
  refine (rotT_at (cos_at T) (sin_at T)
    (dqT_at (scores_at (mm_at T) (dyT_at T) T.v) (kT_at T) (dywT_at T) (st_at T)) l d).trans ?_
  have e : (fun d => ∑ l', (∑ e, P.dy h (at64 n l) e * P.V h (at64 n l') e) * mmr (P.L h) l l' * P.kr h (at64 n l') d
      + ∑ e, P.dy h (at64 n l) e * Real.exp (((l.val : ℝ) + 1) * P.L h) * stR (P.L h) (P.kr h) (P.V h) n.val d e)
      = P.dqr h (at64 n l) := funext fun d => (dq_split (P.L h) (P.kr h) (P.V h) (P.dy h) n l d).symm
  rw [e]; rfl

/-- What is carried when chunk `n` is reached. -/
structure Carry (P : Pass) (h : Fin 8) (N : ℕ) (D : Vec Ideal S1x256x256 .f32) : Prop where
  rd : ∀ z d e, D (ix3 z d e) = (dS (P.L h) (P.qr h) (P.dy h) N d e : EReal)

omit T in
theorem carried_at {N : ℕ} (hD : Carry P h N D) (d e : Fin 256) : carried D (ix2 d e) = (dS (P.L h) (P.qr h) (P.dy h) N d e : EReal) := by
  pointwise [carried]
  exact hD.rd _ d e

variable (hD : Carry P h (n.val + 1) D)
include hD

theorem outK_at (l : Fin 64) (d : Fin 256) : outK cs sn mm kd q v g y ct D (ix2 l d) = (P.resK h (at64 n l) d : EReal) := by
  refine (scaled_at (rotT_at (cos_at T) (sin_at T)
    (dkT_at (scores_at (mm_at T) T.v (dyT_at T)) (qT_at T) T.v (carried_at hD) (kd_at T))) l d).trans ?_
  have e : (fun d => ∑ l', (∑ e, P.V h (at64 n l) e * P.dy h (at64 n l') e) * mmr (P.L h) l l' * P.qr h (at64 n l') d
      + (∑ e, P.V h (at64 n l) e * dS (P.L h) (P.qr h) (P.dy h) (n.val + 1) d e) * Real.exp ((63 - (l.val : ℝ)) * P.L h))
      = P.dkr h (at64 n l) := funext fun d => (dk_split (P.L h) (P.qr h) (P.V h) (P.dy h) n l d).symm
  rw [e]; rfl

theorem outV_at (l : Fin 64) (d : Fin 256) : outV cs sn mm kd q k g y ct D (ix2 l d) = (P.resV h (at64 n l) d : EReal) := by
  refine (dvT_at (scores_at (mm_at T) (kT_at T) (qT_at T)) (dyT_at T) (weighted_at (kF_at T) (kd_at T)) (carried_at hD) l d).trans ?_
  rw [← dv_split (P.L h) (P.qr h) (P.kr h) (P.dy h) n l d]; rfl

theorem outD_at : Carry P h n.val (outD cs sn qd cd q g y ct D) := by
  refine ⟨fun z d e => ?_⟩
  refine (carryT_at (cd_at T) (qT_at T) (dywT_at T) (dm := shapeCast S256x256 D shapeCasts_S1x256x256_S256x256)
    (D := fun d e => dS (P.L h) (P.qr h) (P.dy h) (n.val + 1) d e) (fun d e => ?_) z d e).trans ?_
  · pointwise
    exact hD.rd _ d e
  · rw [dS_step]

end read

end Cert.KernelIdeal.Ret

end
-- ==== Proof.Piece.lean ====
/- The stored tiles of one grid point, as parts of the result; and the carried gradient from one chunk to the next. -/
module

public import proofs.«01_k».proof.Proof.Tile
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

theorem fits2 {o a r c R C : ℕ} (h : o + r ≤ R) (h' : a + c ≤ C) (x : Fin 2) : (![o, a] : Fin 2 → ℕ) x + (![r, c] : Fin 2 → ℕ) x ≤ (![R, C] : Fin 2 → ℕ) x := by
  fin_cases x
  · exact h
  · exact h'

theorem fits3 {o r c R : ℕ} (h : o + 1 ≤ R) (x : Fin 3) :
    (![o, 0, 0] : Fin 3 → ℕ) x + (![1, r, c] : Fin 3 → ℕ) x ≤ (![R, r, c] : Fin 3 → ℕ) x := by
  fin_cases x
  · exact h
  · exact (Nat.zero_add r).le
  · exact (Nat.zero_add c).le

theorem fits4 {o a r c R C : ℕ} (h : o + 1 ≤ R) (h' : a + 1 ≤ C) (x : Fin 4) :
    (![o, a, 0, 0] : Fin 4 → ℕ) x + (![1, 1, r, c] : Fin 4 → ℕ) x ≤ (![R, C, r, c] : Fin 4 → ℕ) x := by
  fin_cases x
  · exact h
  · exact h'
  · exact (Nat.zero_add r).le
  · exact (Nat.zero_add c).le

section ld

variable {e : EltTy} {R C r c : ℕ}

theorem ld2 (X : (⟨2, ![R, C]⟩ : Shape).Idx → Elt Ideal e) {o a : ℕ} (i : ∀ x, (![o, a] : Fin 2 → ℕ) x + (![r, c] : Fin 2 → ℕ) x ≤ (![R, C] : Fin 2 → ℕ) x)
    (l : Fin r) (d : Fin c) :
    View.ld X (Rect.unit ![o, a] ![r, c] i) (ix2 l d)
      = X (ix2 ⟨o + l.val, by have : o + r ≤ R := i 0; omega⟩ ⟨a + d.val, by have : a + c ≤ C := i 1; omega⟩) :=
  View.ld_unit_apply_of X _ _ _ _ _ fun x => by fin_cases x <;> rfl

theorem ld3 (X : (⟨3, ![R, r, c]⟩ : Shape).Idx → Elt Ideal e) {o : ℕ}
    (i : ∀ x, (![o, 0, 0] : Fin 3 → ℕ) x + (![1, r, c] : Fin 3 → ℕ) x ≤ (![R, r, c] : Fin 3 → ℕ) x) (z : Fin 1) (l : Fin r) (d : Fin c) :
    View.ld X (Rect.unit ![o, 0, 0] ![1, r, c] i) (ix3 z l d) = X (ix3 ⟨o, i 0⟩ l d) :=
  View.ld_unit_apply_of X _ _ _ _ _ fun x => by
    fin_cases x
    · show o = o + z.val; omega
    · show l.val = 0 + l.val; omega
    · show d.val = 0 + d.val; omega

theorem ld4 (X : (⟨4, ![R, C, r, c]⟩ : Shape).Idx → Elt Ideal e) {o a : ℕ}
    (i : ∀ x, (![o, a, 0, 0] : Fin 4 → ℕ) x + (![1, 1, r, c] : Fin 4 → ℕ) x ≤ (![R, C, r, c] : Fin 4 → ℕ) x) (z z' : Fin 1) (l : Fin r) (d : Fin c) :
    View.ld X (Rect.unit ![o, a, 0, 0] ![1, 1, r, c] i) (ix4 z z' l d) = X (ix4 ⟨o, i 0⟩ ⟨a, i 1⟩ l d) :=
  View.ld_unit_apply_of X _ _ _ _ _ fun x => by
    fin_cases x
    · show o = o + z.val; omega
    · show a = a + z'.val; omega
    · show l.val = 0 + l.val; omega
    · show d.val = 0 + d.val; omega

end ld

variable {P : Pass} {hp : Fin 4} {rb : Fin 16} {b0 : Vec Ideal S512x2048 .bf16} {b1 b2 : Vec Ideal S512x128 .f32} {b3 : Vec Ideal S2x64x64 .f32}
variable {b4 b5 : Vec Ideal S2x64x1 .f32} {b6 : Vec Ideal S2x1x1 .f32} {b7 : Vec Ideal S512x512 .f32} {b8 : Vec Ideal S512x512 .bf16}
variable {b9 : Vec Ideal S2x8x256x256 .bf16}

/-- A head of the pair and a chunk of the block, by the rows' offset. -/
structure Spot (o w : ℕ) : Prop where
  row : o % 64 = 0
  lt : o < 512
  head : w < 2

namespace Spot

variable {o w : ℕ} (s : Spot o w)
include s

theorem rows : o + 64 ≤ 512 := by have := s.row; have := s.lt; omega
theorem cols {a : ℕ} (h : a ≤ 768) : 1024 * w + a + 256 ≤ 2048 := by have := s.head; omega
theorem own : 256 * w + 256 ≤ 512 := by have := s.head; omega
theorem two : w + 1 ≤ 2 := s.head
theorem chunk : o / 64 + 1 ≤ 8 := by have := s.lt; omega
theorem mul : 64 * (o / 64) = o := by have := s.row; omega

end Spot

section point

variable (B : Blocks P hp rb b0 b1 b2 b3 b4 b5 b6 b7 b8 b9)
include B

/-- What the loads of one chunk and head find. -/
theorem tiles {o w : ℕ} (s : Spot o w) : Tiles P (hd hp ⟨w, s.head⟩) (chk rb ⟨o / 64, s.chunk⟩)
    (View.ld b1 (Rect.unit ![o, 0] ![64, 128] (fits2 s.rows (by omega)))) (View.ld b2 (Rect.unit ![o, 0] ![64, 128] (fits2 s.rows (by omega))))
    (View.ld b3 (Rect.unit ![w, 0, 0] ![1, 64, 64] (fits3 s.two))) (View.ld b4 (Rect.unit ![w, 0, 0] ![1, 64, 1] (fits3 s.two)))
    (View.ld b5 (Rect.unit ![w, 0, 0] ![1, 64, 1] (fits3 s.two))) (View.ld b6 (Rect.unit ![w, 0, 0] ![1, 1, 1] (fits3 s.two)))
    (View.ld b0 (Rect.unit ![o, 1024 * w] ![64, 256] (fits2 s.rows (s.cols (a := 0) (by omega)))))
    (View.ld b0 (Rect.unit ![o, 1024 * w + 256] ![64, 256] (fits2 s.rows (s.cols (by omega)))))
    (View.ld b0 (Rect.unit ![o, 1024 * w + 512] ![64, 256] (fits2 s.rows (s.cols (by omega)))))
    (View.ld b0 (Rect.unit ![o, 1024 * w + 768] ![64, 256] (fits2 s.rows (s.cols (by omega)))))
    (View.ld b7 (Rect.unit ![o, 256 * w] ![64, 256] (fits2 s.rows s.own))) (View.ld b8 (Rect.unit ![o, 256 * w] ![64, 256] (fits2 s.rows s.own)))
    (View.ld b9 (Rect.unit ![w, o / 64, 0, 0] ![1, 1, 256, 256] (fits4 s.two s.chunk))) := by
  have hr : ∀ l : Fin 64, (⟨o + l.val, by have := s.rows; omega⟩ : Fin 512) = ⟨64 * (o / 64) + l.val, by have := s.rows; have := s.mul; omega⟩ :=
    fun l => Fin.ext (by have := s.mul; simp only; omega)
  have hc : ∀ d : Fin 128, (⟨0 + d.val, by omega⟩ : Fin 128) = d := fun d => Fin.ext (Nat.zero_add _)
  constructor
  · intro l d; rw [ld2, hr, hc]; exact B.cos ⟨o / 64, s.chunk⟩ l d
  · intro l d; rw [ld2, hr, hc]; exact B.sin ⟨o / 64, s.chunk⟩ l d
  · intro z l l'; rw [ld3]; exact B.mm ⟨w, s.head⟩ l l'
  · intro z l z'; rw [ld3]; exact B.qd ⟨w, s.head⟩ l z'
  · intro z l z'; rw [ld3]; exact B.kd ⟨w, s.head⟩ l z'
  · intro z z' z''; rw [ld3]; exact B.cd ⟨w, s.head⟩ z' z''
  · intro l d; rw [ld2, hr]; exact B.q ⟨w, s.head⟩ ⟨o / 64, s.chunk⟩ l d
  · intro l d; rw [ld2, hr]; exact B.k ⟨w, s.head⟩ ⟨o / 64, s.chunk⟩ l d
  · intro l d; rw [ld2, hr]; exact B.v ⟨w, s.head⟩ ⟨o / 64, s.chunk⟩ l d
  · intro l d; rw [ld2, hr]; exact B.g ⟨w, s.head⟩ ⟨o / 64, s.chunk⟩ l d
  · intro l d; rw [ld2, hr]; exact B.y ⟨w, s.head⟩ ⟨o / 64, s.chunk⟩ l d
  · intro l d; rw [ld2, hr]; exact B.ct ⟨w, s.head⟩ ⟨o / 64, s.chunk⟩ l d
  · intro z z' d e; rw [ld4]; exact B.st ⟨w, s.head⟩ ⟨o / 64, s.chunk⟩ d e

end point

/-- The result's block at a grid point. -/
def want (P : Pass) (hp : Fin 4) (rb : Fin 16) (y : S512x2048.Idx) : EReal :=
  (P.res ⟨512 * rb.val + (y 0).val, by have : (y 0).val < 512 := (y 0).isLt; omega⟩
    ⟨2048 * hp.val + (y 1).val, by have : (y 1).val < 2048 := (y 1).isLt; omega⟩ : EReal)

/-- An entry of the block, by chunk, head, and place in the head's columns. -/
theorem want_eq {o w j : ℕ} (s : Spot o w) (hj : j < 4) {y : S512x2048.Idx} {l : Fin 64} {d : Fin 256} (h0 : (y 0).val = o + l.val)
    (h1 : (y 1).val = 1024 * w + 256 * j + d.val) :
    want P hp rb y = ((if j = 0 then P.resQ (hd hp ⟨w, s.head⟩) (at64 (chk rb ⟨o / 64, s.chunk⟩) l) d
      else if j = 1 then P.resK (hd hp ⟨w, s.head⟩) (at64 (chk rb ⟨o / 64, s.chunk⟩) l) d
      else if j = 2 then P.resV (hd hp ⟨w, s.head⟩) (at64 (chk rb ⟨o / 64, s.chunk⟩) l) d
      else P.resG (hd hp ⟨w, s.head⟩) (at64 (chk rb ⟨o / 64, s.chunk⟩) l) d : ℝ) : EReal) := by
  have hm := s.mul
  have hw := s.head
  have hi : (⟨512 * rb.val + (y 0).val, by have : (y 0).val < 512 := (y 0).isLt; omega⟩ : Fin 8192) = at64 (chk rb ⟨o / 64, s.chunk⟩) l :=
    Fin.ext (by rw [at64_val]; show 512 * rb.val + (y 0).val = 64 * (8 * rb.val + o / 64) + l.val; omega)
  have hh : (⟨(2048 * hp.val + (y 1).val) / 1024, by have : (y 1).val < 2048 := (y 1).isLt; omega⟩ : Fin 8) = hd hp ⟨w, s.head⟩ :=
    Fin.ext (by show (2048 * hp.val + (y 1).val) / 1024 = 2 * hp.val + w; omega)
  have hdd : (⟨(2048 * hp.val + (y 1).val) % 256, by omega⟩ : Fin 256) = d := Fin.ext (by show (2048 * hp.val + (y 1).val) % 256 = d.val; omega)
  unfold want Pass.res
  simp only [hi, hh, hdd]
  congr 1
  have e0 : ((2048 * hp.val + (y 1).val) % 1024 < 256) = (j = 0) := propext (by omega)
  have e1 : ((2048 * hp.val + (y 1).val) % 1024 < 512) = (j < 2) := propext (by omega)
  have e2 : ((2048 * hp.val + (y 1).val) % 1024 < 768) = (j < 3) := propext (by omega)
  simp only [e0, e1, e2]
  interval_cases j <;> simp

section pieces

variable (B : Blocks P hp rb b0 b1 b2 b3 b4 b5 b6 b7 b8 b9)
include B

variable {o w a0 a1 a2 a3 b k : ℕ} (s : Spot o w)
variable {i0 i1 i2 i3 ic is iy ic' im iq ik id iS}

theorem pieceQ (s : Spot o w) {y : S512x2048.Idx} {x : S64x256.Idx} (h1 : a1 = 1024 * w + 256) (h2 : a2 = 1024 * w + 512) (h3 : a3 = 1024 * w + 768)
    (hb : b = 256 * w) (hk : k = o / 64) (hy0 : (y 0).val = o + (x 0).val) (hy1 : (y 1).val = 1024 * w + (x 1).val) :
    outQ (View.ld b1 (Rect.unit ![o, 0] ![64, 128] ic)) (View.ld b2 (Rect.unit ![o, 0] ![64, 128] is)) (View.ld b3 (Rect.unit ![w, 0, 0] ![1, 64, 64] im))
      (View.ld b4 (Rect.unit ![w, 0, 0] ![1, 64, 1] iq)) (View.ld b0 (Rect.unit ![o, a1] ![64, 256] i1)) (View.ld b0 (Rect.unit ![o, a2] ![64, 256] i2))
      (View.ld b0 (Rect.unit ![o, a3] ![64, 256] i3)) (View.ld b7 (Rect.unit ![o, b] ![64, 256] iy)) (View.ld b8 (Rect.unit ![o, b] ![64, 256] ic'))
      (View.ld b9 (Rect.unit ![w, k, 0, 0] ![1, 1, 256, 256] iS)) x = want P hp rb y := by
  subst h1 h2 h3 hb hk
  rw [want_eq (j := 0) s (by omega) hy0 (by omega : _ = _ + 256 * 0 + (x 1).val), eq_ix2 x]
  exact outQ_at (tiles B s) (x 0) (x 1)

theorem pieceG (s : Spot o (a3 / 1024)) {y : S512x2048.Idx} {x : S64x256.Idx} (h3 : a3 % 1024 = 768) (hb : b = 256 * (a3 / 1024))
    (hy0 : (y 0).val = o + (x 0).val) (hy1 : (y 1).val = a3 + (x 1).val) :
    outG (View.ld b0 (Rect.unit ![o, a3] ![64, 256] i3)) (View.ld b7 (Rect.unit ![o, b] ![64, 256] iy)) (View.ld b8 (Rect.unit ![o, b] ![64, 256] ic')) x
      = want P hp rb y := by
  obtain ⟨w, hw⟩ : ∃ w, w = a3 / 1024 := ⟨_, rfl⟩
  obtain rfl : a3 = 1024 * w + 768 := by omega
  have e : (1024 * w + 768) / 1024 = w := hw.symm
  rw [e] at s hb
  subst hb
  rw [want_eq (j := 3) s (by omega) hy0 (by omega : _ = _ + 256 * 3 + (x 1).val), eq_ix2 x]
  exact outG_at (tiles B s) (x 0) (x 1)

variable {D : Vec Ideal S1x256x256 .f32}

theorem pieceK (s : Spot o w) {y : S512x2048.Idx} {x : S64x256.Idx} (h0 : a0 = 1024 * w) (h2 : a2 = 1024 * w + 512) (h3 : a3 = 1024 * w + 768)
    (hb : b = 256 * w) (hy0 : (y 0).val = o + (x 0).val) (hy1 : (y 1).val = 1024 * w + 256 + (x 1).val)
    (hD : Carry P (hd hp ⟨w, s.head⟩) (8 * rb.val + (o / 64 + 1)) D) :
    outK (View.ld b1 (Rect.unit ![o, 0] ![64, 128] ic)) (View.ld b2 (Rect.unit ![o, 0] ![64, 128] is)) (View.ld b3 (Rect.unit ![w, 0, 0] ![1, 64, 64] im))
      (View.ld b5 (Rect.unit ![w, 0, 0] ![1, 64, 1] ik)) (View.ld b0 (Rect.unit ![o, a0] ![64, 256] i0)) (View.ld b0 (Rect.unit ![o, a2] ![64, 256] i2))
      (View.ld b0 (Rect.unit ![o, a3] ![64, 256] i3)) (View.ld b7 (Rect.unit ![o, b] ![64, 256] iy)) (View.ld b8 (Rect.unit ![o, b] ![64, 256] ic'))
      D x = want P hp rb y := by
  subst h0 h2 h3 hb
  rw [want_eq (j := 1) s (by omega) hy0 (by omega : _ = _ + 256 * 1 + (x 1).val), eq_ix2 x]
  exact outK_at (tiles B s) hD (x 0) (x 1)

theorem pieceV (s : Spot o w) {y : S512x2048.Idx} {x : S64x256.Idx} (h0 : a0 = 1024 * w) (h1 : a1 = 1024 * w + 256) (h3 : a3 = 1024 * w + 768)
    (hb : b = 256 * w) (hy0 : (y 0).val = o + (x 0).val) (hy1 : (y 1).val = 1024 * w + 512 + (x 1).val)
    (hD : Carry P (hd hp ⟨w, s.head⟩) (8 * rb.val + (o / 64 + 1)) D) :
    outV (View.ld b1 (Rect.unit ![o, 0] ![64, 128] ic)) (View.ld b2 (Rect.unit ![o, 0] ![64, 128] is)) (View.ld b3 (Rect.unit ![w, 0, 0] ![1, 64, 64] im))
      (View.ld b5 (Rect.unit ![w, 0, 0] ![1, 64, 1] ik)) (View.ld b0 (Rect.unit ![o, a0] ![64, 256] i0)) (View.ld b0 (Rect.unit ![o, a1] ![64, 256] i1))
      (View.ld b0 (Rect.unit ![o, a3] ![64, 256] i3)) (View.ld b7 (Rect.unit ![o, b] ![64, 256] iy)) (View.ld b8 (Rect.unit ![o, b] ![64, 256] ic'))
      D x = want P hp rb y := by
  subst h0 h1 h3 hb
  rw [want_eq (j := 2) s (by omega) hy0 (by omega : _ = _ + 256 * 2 + (x 1).val), eq_ix2 x]
  exact outV_at (tiles B s) hD (x 0) (x 1)

/-- One chunk's step of what is carried. -/
theorem carry_step (s : Spot o w) (h0 : a0 = 1024 * w) (h3 : a3 = 1024 * w + 768) (hb : b = 256 * w) {N : ℕ} (hN : N = o / 64)
    (hD : Carry P (hd hp ⟨w, s.head⟩) (8 * rb.val + (o / 64 + 1)) D) :
    Carry P (hd hp ⟨w, s.head⟩) (8 * rb.val + N)
      (outD (View.ld b1 (Rect.unit ![o, 0] ![64, 128] ic)) (View.ld b2 (Rect.unit ![o, 0] ![64, 128] is))
        (View.ld b4 (Rect.unit ![w, 0, 0] ![1, 64, 1] iq)) (View.ld b6 (Rect.unit ![w, 0, 0] ![1, 1, 1] id))
        (View.ld b0 (Rect.unit ![o, a0] ![64, 256] i0)) (View.ld b0 (Rect.unit ![o, a3] ![64, 256] i3)) (View.ld b7 (Rect.unit ![o, b] ![64, 256] iy))
        (View.ld b8 (Rect.unit ![o, b] ![64, 256] ic')) D) := by
  subst h0 h3 hb hN
  exact outD_at (tiles B s) hD

end pieces

/-- The carried gradient of one head of the pair, as a rectangle of the kernel's buffer. -/
abbrev slot (w : ℕ) (i : ∀ x, (![w, 0, 0] : Fin 3 → ℕ) x + (![1, 256, 256] : Fin 3 → ℕ) x ≤ S2x256x256.size x) : Rect S2x256x256 :=
  Rect.unit ![w, 0, 0] ![1, 256, 256] i

section carry

variable {h : Fin 8} {N w w' : ℕ} {i i' i''}

/-- A read of what was stored last finds it. -/
theorem carry_hit {D : Vec Ideal S1x256x256 .f32} {L : List (View.Piece (Elt Ideal) S2x256x256 .f32)} (hD : Carry P h N D) :
    Carry P h N ((View.whole cc0_scratch0).readCov (⟨slot w i, D⟩ :: L) (slot w i').toLoadRect) := by
  have e : (View.whole cc0_scratch0).readCov (⟨slot w i, D⟩ :: L) (slot w i').toLoadRect = D := View.readCov_cons_toLoadRect _ (slot w i) D L
  rw [e]
  exact hD

/-- A read beside what was stored last finds what was there before. -/
theorem carry_skip {D : Vec Ideal S1x256x256 .f32} {L : List (View.Piece (Elt Ideal) S2x256x256 .f32)} (hw : w ≠ w')
    (hD : Carry P h N ((View.whole cc0_scratch0).readCov L (slot w i).toLoadRect)) :
    Carry P h N ((View.whole cc0_scratch0).readCov (⟨slot w' i', D⟩ :: L) (slot w i).toLoadRect) := by
  have e : (View.whole cc0_scratch0).readCov (⟨slot w' i', D⟩ :: L) (slot w i).toLoadRect
      = (View.whole cc0_scratch0).readCov L (slot w i).toLoadRect := View.readCov_skip _ (slot w' i') D L _ (decide_eq_true ⟨0, by
        show (1 : ℕ) = 0 ∨ (1 : ℕ) = 0 ∨ w' + 1 * (1 - 1) < w ∨ w + 1 * (1 - 1) < w'
        omega⟩)
  rw [e]
  exact hD

end carry

end Cert.KernelIdeal.Ret

end
-- ==== Proof.Point.lean ====
/- One grid point of the kernel: the block it leaves in the result and the gradient it carries to the next point. -/
module

public import proofs.«01_k».proof.Proof.Gen.KernelIdeal.Value
public import proofs.«01_k».proof.Proof.Piece

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

variable (m : (ℓ : Loc nD τ sig) → Buf (Elt Ideal) ℓ)
variable {P : Pass} {hp : Fin 4} {rb : Fin 16}

/-- The kernel's buffer holds, for both heads of the pair, the gradient gathered from chunk `N` on. -/
def Held (P : Pass) (hp : Fin 4) (N : ℕ) (X : S2x256x256.Idx → Elt Ideal .f32) : Prop :=
  ∀ w d e, X (ix3 w d e) = (dS (P.L (hd hp w)) (P.qr (hd hp w)) (P.dy (hd hp w)) N d e : EReal)

/-- The first read at a later point finds what the point before left. -/
theorem carry_held {N : ℕ} {X : S2x256x256.Idx → Elt Ideal .f32} (hX : Held P hp N X) (w : Fin 2) {i} {i'} :
    Carry P (hd hp w) N
      (View.ld (View.read (Elt Ideal) (View.whole cc0_scratch0) ((i' : (Memref.whole cc0_scratch0).IsWhole).unread X)) (slot w.val i)) := by
  refine ⟨fun z d e => ?_⟩
  rw [read_unread_whole]
  exact (ld3 X i z d e).trans (hX w d e)

/-- The whole of the kernel's buffer. -/
abbrev fill (i : ∀ x, (![0, 0, 0] : Fin 3 → ℕ) x + S2x256x256.size x ≤ S2x256x256.size x) : Rect S2x256x256 :=
  Rect.unit ![0, 0, 0] S2x256x256.size i

/-- A read of a head's rectangle after a store of the whole. -/
theorem read_fill (Z : S2x256x256.Idx → Elt Ideal .f32) {w : ℕ} {i i'} (z : Fin 1) (d e : Fin 256) :
    (View.whole cc0_scratch0).readCov (Val := Elt Ideal) [⟨fill i, Z⟩] (slot w i').toLoadRect (ix3 z d e) = Z (ix3 ⟨w, i' 0⟩ d e) := by
  rw [View.readCov_eq_canon']
  refine Eq.trans ?_ (ld3 Z i' z d e)
  exact congrFun (View.canon_cons_unit_lit (S := S2x256x256) i Z [] (by decide)) _

/-- The first read at a head pair's first point finds the zeros just stored: nothing is gathered past the last chunk. -/
theorem carry_zero (hrb : rb = 15) {w : ℕ} {i i'} {h : Fin 8} :
    Carry P h (8 * rb.val + 8) ((View.whole cc0_scratch0).readCov (Val := Elt Ideal) [⟨fill i, k0_pay4 (F := Ideal)⟩] (slot w i').toLoadRect) := by
  refine ⟨fun z d e => ?_⟩
  subst hrb
  rw [read_fill]
  refine Eq.trans ?_ (congrArg ((↑) : ℝ → EReal) (dS_last (P.L h) (P.qr h) (P.dy h) d e)).symm
  pointwise [k0_pay4]
  exact EReal.coe_zero.symm

/-- What the last stores leave at a head's rectangle. -/
theorem held_hit {h : Fin 8} {N : ℕ} {w : Fin 2} {i} {D : Vec Ideal S1x256x256 .f32} {L : List (View.Piece (Elt Ideal) S2x256x256 .f32)}
    (hD : Carry P h N D) (d e : Fin 256) :
    View.canon (⟨slot w.val i, D⟩ :: L) (ix3 w d e) = (dS (P.L h) (P.qr h) (P.dy h) N d e : EReal) := by
  have hx : (slot w.val i).emb (ix3 (0 : Fin 1) d e) = ix3 w d e := funext fun a => Fin.ext (by
    refine (Rect.idx_unit_val _ _ i _ a).trans ?_
    fin_cases a
    · show w.val + 0 = w.val; omega
    · show 0 + d.val = d.val; omega
    · show 0 + e.val = e.val; omega)
  rw [← hx]
  exact (View.canon_cons_emb (slot w.val i) D L _).trans (hD.rd 0 d e)

/-- Beside the last store, what the ones before left. -/
theorem held_skip {h : Fin 8} {N : ℕ} {w w' : Fin 2} {i} {D : Vec Ideal S1x256x256 .f32} {L : List (View.Piece (Elt Ideal) S2x256x256 .f32)}
    (hw : w ≠ w') {d e : Fin 256} (hD : View.canon L (ix3 w d e) = (dS (P.L h) (P.qr h) (P.dy h) N d e : EReal)) :
    View.canon (⟨slot w'.val i, D⟩ :: L) (ix3 w d e) = (dS (P.L h) (P.qr h) (P.dy h) N d e : EReal) := by
  refine (View.canon_cons_of_not_mem ⟨slot w'.val i, D⟩ L fun hm => hw (Fin.ext ?_)).trans hD
  obtain ⟨x, hx⟩ := (slot w'.val i).exists_idx_of_mem hm
  have h0 := congrArg (fun j : S2x256x256.Idx => (j 0).val) hx
  have h1 : (x 0).val < 1 := (x 0).isLt
  have h2 : w'.val + 1 * (x 0).val = w.val := h0
  omega

section

variable {c : Dev nD} {t : Fin cfg0.N}
variable (B : Blocks P hp rb (iblk m c 0 t) (iblk m c 1 t) (iblk m c 2 t) (iblk m c 3 t) (iblk m c 4 t) (iblk m c 5 t) (iblk m c 6 t)
  (iblk m c 7 t) (iblk m c 8 t) (iblk m c 9 t))
include B

set_option maxHeartbeats 2000000 in
/-- The result's block at a later point of a head pair. -/
theorem block_later (h : ¬ t.val % 16 = 0) (hX : Held P hp (8 * rb.val + 8) (outsAt0 m c (t.val - 1) (by omega)).2) (y : S512x2048.Idx) :
    (outsAt0 m c t.val t.isLt).1 y = want P hp rb y := by
  rw [outsAt0_B m c t h]
  frame_out
  canon_tiles x hx
  iterate 16
    · refine pieceV B ⟨by decide, by decide, by decide⟩ rfl rfl rfl rfl (by omega) (by omega) ?_
      repeat first
        | exact carry_held hX 0
        | exact carry_held hX 1
        | refine carry_skip (by decide) (carry_hit (carry_step B ⟨by decide, by decide, by decide⟩ rfl rfl rfl (by decide) ?_))
    · refine pieceK B ⟨by decide, by decide, by decide⟩ rfl rfl rfl rfl (by omega) (by omega) ?_
      repeat first
        | exact carry_held hX 0
        | exact carry_held hX 1
        | refine carry_skip (by decide) (carry_hit (carry_step B ⟨by decide, by decide, by decide⟩ rfl rfl rfl (by decide) ?_))
    · exact pieceQ B ⟨by decide, by decide, by decide⟩ rfl rfl rfl rfl rfl (by omega) (by omega)
    · exact pieceG B ⟨by decide, by decide, by decide⟩ rfl rfl (by omega) (by omega)

set_option maxHeartbeats 2000000 in
/-- What is carried on from a later point of a head pair. -/
theorem held_later (h : ¬ t.val % 16 = 0) (hX : Held P hp (8 * rb.val + 8) (outsAt0 m c (t.val - 1) (by omega)).2) :
    Held P hp (8 * rb.val + 0) (outsAt0 m c t.val t.isLt).2 := by
  rw [outsAt0_B m c t h]
  intro w d e
  frame_out
  fin_cases w
  · refine held_skip (w := 0) (w' := 1) (by decide) (held_hit (w := 0) (carry_step B ⟨by decide, by decide, by decide⟩ rfl rfl rfl (by decide) ?_) d e)
    repeat first
        | exact carry_held hX 0
        | exact carry_held hX 1
        | refine carry_skip (by decide) (carry_hit (carry_step B ⟨by decide, by decide, by decide⟩ rfl rfl rfl (by decide) ?_))
  · refine held_hit (w := 1) (carry_step B ⟨by decide, by decide, by decide⟩ rfl rfl rfl (by decide) ?_) d e
    repeat first
        | exact carry_held hX 0
        | exact carry_held hX 1
        | refine carry_skip (by decide) (carry_hit (carry_step B ⟨by decide, by decide, by decide⟩ rfl rfl rfl (by decide) ?_))

end

end Cert.KernelIdeal.Ret

end
-- ==== Proof.First.lean ====
/- The first grid point of a head pair, which starts from nothing carried. -/
module

public import proofs.«01_k».proof.Proof.Gen.KernelIdeal.Value
public import proofs.«01_k».proof.Proof.Point

@[expose] public section

set_option maxRecDepth 16384

noncomputable section

open Idealize.ShloMosaic Idealize.ShloMosaic.TcCoe Idealize.SL.Sem

namespace Cert.KernelIdeal.Ret

open Cert.KernelIdeal Cert.KernelIdeal.Gen Cert.Ret

variable (m : (ℓ : Loc nD τ sig) → Buf (Elt Ideal) ℓ)
variable {P : Pass} {hp : Fin 4} {rb : Fin 16}

section

variable {c : Dev nD} {t : Fin cfg0.N}
variable (B : Blocks P hp rb (iblk m c 0 t) (iblk m c 1 t) (iblk m c 2 t) (iblk m c 3 t) (iblk m c 4 t) (iblk m c 5 t) (iblk m c 6 t)
  (iblk m c 7 t) (iblk m c 8 t) (iblk m c 9 t))
include B

set_option maxHeartbeats 8000000 in
/-- The result's block at the first point of a head pair. -/
theorem block_first (h : t.val % 16 = 0) (hrb : rb = 15) (y : S512x2048.Idx) :
    (outsAt0 m c t.val t.isLt).1 y = want P hp rb y := by
  rw [outsAt0_A m c t h]
  frame_out
  canon_tiles x hx
  iterate 16
    · refine pieceV B ⟨by decide, by decide, by decide⟩ rfl rfl rfl rfl (by omega) (by omega) ?_
      repeat first
        | exact carry_zero (rb := rb) hrb
        | (refine carry_skip (by decide) ?_
           first
             | exact carry_zero (rb := rb) hrb
             | refine carry_hit (carry_step B ⟨by decide, by decide, by decide⟩ rfl rfl rfl (by decide) ?_))
    · refine pieceK B ⟨by decide, by decide, by decide⟩ rfl rfl rfl rfl (by omega) (by omega) ?_
      repeat first
        | exact carry_zero (rb := rb) hrb
        | (refine carry_skip (by decide) ?_
           first
             | exact carry_zero (rb := rb) hrb
             | refine carry_hit (carry_step B ⟨by decide, by decide, by decide⟩ rfl rfl rfl (by decide) ?_))
    · exact pieceQ B ⟨by decide, by decide, by decide⟩ rfl rfl rfl rfl rfl (by omega) (by omega)
    · exact pieceG B ⟨by decide, by decide, by decide⟩ rfl rfl (by omega) (by omega)

set_option maxHeartbeats 2000000 in
/-- What is carried on from the first point of a head pair. -/
theorem held_first (h : t.val % 16 = 0) (hrb : rb = 15) :
    Held P hp (8 * rb.val + 0) (outsAt0 m c t.val t.isLt).2 := by
  rw [outsAt0_A m c t h]
  intro w d e
  frame_out
  fin_cases w
  · refine held_skip (w := 0) (w' := 1) (by decide) (held_hit (w := 0) (carry_step B ⟨by decide, by decide, by decide⟩ rfl rfl rfl (by decide) ?_) d e)
    repeat first
        | exact carry_zero (rb := rb) hrb
        | (refine carry_skip (by decide) ?_
           first
             | exact carry_zero (rb := rb) hrb
             | refine carry_hit (carry_step B ⟨by decide, by decide, by decide⟩ rfl rfl rfl (by decide) ?_))
  · refine held_hit (w := 1) (carry_step B ⟨by decide, by decide, by decide⟩ rfl rfl rfl (by decide) ?_) d e
    repeat first
        | exact carry_zero (rb := rb) hrb
        | (refine carry_skip (by decide) ?_
           first
             | exact carry_zero (rb := rb) hrb
             | refine carry_hit (carry_step B ⟨by decide, by decide, by decide⟩ rfl rfl rfl (by decide) ?_))

end

end Cert.KernelIdeal.Ret

end
-- ==== Proof.Final.lean ====
/- The kernel's result array, once the arrays the call is given hold the pass's data. -/
module

public import proofs.«01_k».proof.Proof.First

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen Cert.Ret

variable (m : (ℓ : Loc nD τ sig) → Buf (Elt Ideal) ℓ)

/-- Which block of its array each window takes at each point. -/
theorem idx : ∀ t : Fin cfg0.N, win0_0.index t = ![15 - t.val % 16, t.val / 16] ∧ win0_1.index t = ![15 - t.val % 16, 0]
    ∧ win0_2.index t = ![15 - t.val % 16, 0] ∧ win0_3.index t = ![t.val / 16, 0, 0] ∧ win0_4.index t = ![t.val / 16, 0, 0]
    ∧ win0_5.index t = ![t.val / 16, 0, 0] ∧ win0_6.index t = ![t.val / 16, 0, 0] ∧ win0_7.index t = ![15 - t.val % 16, t.val / 16]
    ∧ win0_8.index t = ![15 - t.val % 16, t.val / 16] ∧ win0_9.index t = ![t.val / 16, 15 - t.val % 16, 0, 0]
    ∧ win0_10.index t = ![15 - t.val % 16, t.val / 16] :=
  (by decide +kernel : ∀ t : Fin grid0.N, _)

/-- A point's head pair. -/
def hpOf (t : Fin cfg0.N) : Fin 4 := ⟨t.val / 16, by have := t.isLt; have : t.val < 64 := lt_of_lt_of_eq t.isLt N_0; omega⟩

/-- A point's row block: the last rows come first. -/
def rbOf (t : Fin cfg0.N) : Fin 16 := ⟨15 - t.val % 16, by omega⟩

/-- The arrays the call is given hold the pass's data. -/
structure Feeds (P : Pass) (c : Dev nD) : Prop where
  q : ∀ h i (d : Fin 256), m ((c : Thread nD τ).loc main_arg0) (ix2 i ⟨1024 * h.val + d.val, by omega⟩) = (P.Q h i d : EReal)
  k : ∀ h i (d : Fin 256), m ((c : Thread nD τ).loc main_arg0) (ix2 i ⟨1024 * h.val + 256 + d.val, by omega⟩) = (P.K h i d : EReal)
  v : ∀ h i (d : Fin 256), m ((c : Thread nD τ).loc main_arg0) (ix2 i ⟨1024 * h.val + 512 + d.val, by omega⟩) = (P.V h i d : EReal)
  g : ∀ h i (d : Fin 256), m ((c : Thread nD τ).loc main_arg0) (ix2 i ⟨1024 * h.val + 768 + d.val, by omega⟩) = (P.G h i d : EReal)
  cos : ∀ i d, V m c main_v190 (ix2 i d) = (P.C i d : EReal)
  sin : ∀ i d, V m c main_v191 (ix2 i d) = (P.S i d : EReal)
  mm : ∀ h l l', V m c main_v211 (ix3 h l l') = (mmr (P.L h) l l' : EReal)
  qd : ∀ h (l : Fin 64) z, V m c main_v220 (ix3 h l z) = (Real.exp (((l.val : ℝ) + 1) * P.L h) : EReal)
  kd : ∀ h (l : Fin 64) z, V m c main_v229 (ix3 h l z) = (Real.exp ((63 - (l.val : ℝ)) * P.L h) : EReal)
  cd : ∀ h z z', V m c main_v233 (ix3 h z z') = (Real.exp (64 * P.L h) : EReal)
  y : ∀ h i (d : Fin 256), V m c main_v104 (ix2 i ⟨256 * h.val + d.val, by omega⟩) = (P.Y h i d : EReal)
  ct : ∀ h i (d : Fin 256), m ((c : Thread nD τ).loc main_arg2) (ix2 i ⟨256 * h.val + d.val, by omega⟩) = (P.Ct h i d : EReal)
  st : ∀ h (n : Fin 128) d e, V m c main_v177 (ix4 h n d e) = (stR (P.L h) (P.kr h) (P.V h) n.val d e : EReal)

section blocks

variable (c : Dev nD) (t : Fin cfg0.N)

theorem blk0 (r : Fin 512) (n : Fin 2048) : iblk m c 0 t (ix2 r n)
    = m ((c : Thread nD τ).loc main_arg0) (ix2 ⟨512 * (rbOf t).val + r.val, by omega⟩ ⟨2048 * (hpOf t).val + n.val, by omega⟩) := by
  rw [← V_main_arg0 m c]; blk_ext [iblk, idx t, rbOf, hpOf]

theorem blk1 (r : Fin 512) (n : Fin 128) : iblk m c 1 t (ix2 r n) = V m c main_v190 (ix2 ⟨512 * (rbOf t).val + r.val, by omega⟩ n) := by
  blk_ext [iblk, idx t, rbOf, hpOf]

theorem blk2 (r : Fin 512) (n : Fin 128) : iblk m c 2 t (ix2 r n) = V m c main_v191 (ix2 ⟨512 * (rbOf t).val + r.val, by omega⟩ n) := by
  blk_ext [iblk, idx t, rbOf, hpOf]

theorem blk3 (w : Fin 2) (l l' : Fin 64) : iblk m c 3 t (ix3 w l l') = V m c main_v211 (ix3 (hd (hpOf t) w) l l') := by
  blk_ext [iblk, idx t, rbOf, hpOf, hd]

theorem blk4 (w : Fin 2) (l : Fin 64) (z : Fin 1) : iblk m c 4 t (ix3 w l z) = V m c main_v220 (ix3 (hd (hpOf t) w) l z) := by
  blk_ext [iblk, idx t, rbOf, hpOf, hd]

theorem blk5 (w : Fin 2) (l : Fin 64) (z : Fin 1) : iblk m c 5 t (ix3 w l z) = V m c main_v229 (ix3 (hd (hpOf t) w) l z) := by
  blk_ext [iblk, idx t, rbOf, hpOf, hd]

theorem blk6 (w : Fin 2) (z z' : Fin 1) : iblk m c 6 t (ix3 w z z') = V m c main_v233 (ix3 (hd (hpOf t) w) z z') := by
  blk_ext [iblk, idx t, rbOf, hpOf, hd]

theorem blk7 (r : Fin 512) (n : Fin 512) : iblk m c 7 t (ix2 r n)
    = V m c main_v104 (ix2 ⟨512 * (rbOf t).val + r.val, by omega⟩ ⟨512 * (hpOf t).val + n.val, by omega⟩) := by
  blk_ext [iblk, idx t, rbOf, hpOf]

theorem blk8 (r : Fin 512) (n : Fin 512) : iblk m c 8 t (ix2 r n)
    = m ((c : Thread nD τ).loc main_arg2) (ix2 ⟨512 * (rbOf t).val + r.val, by omega⟩ ⟨512 * (hpOf t).val + n.val, by omega⟩) := by
  rw [← V_main_arg2 m c]; blk_ext [iblk, idx t, rbOf, hpOf]

theorem blk9 (w : Fin 2) (n : Fin 8) (d e : Fin 256) :
    iblk m c 9 t (ix4 w n d e) = V m c main_v177 (ix4 (hd (hpOf t) w) (chk (rbOf t) n) d e) := by
  blk_ext [iblk, idx t, rbOf, hpOf, hd, chk]

/-- Frame `512·rb + 64·c + l`. -/
theorem row_eq (rb : Fin 16) (c : Fin 8) (l : Fin 64) (h) : (⟨512 * rb.val + (64 * c.val + l.val), h⟩ : Fin 8192) = at64 (chk rb c) l :=
  Fin.ext (by rw [at64_val]; show _ = 64 * (8 * rb.val + c.val) + l.val; simp only; omega)

/-- A column of a head pair's block, by its head. -/
theorem col_eq {a : ℕ} (hp : Fin 4) (w : Fin 2) (d : Fin 256) (h h') :
    (⟨2048 * hp.val + (1024 * w.val + a + d.val), h⟩ : Fin 16384) = ⟨1024 * (hd hp w).val + a + d.val, h'⟩ :=
  Fin.ext (by show 2048 * hp.val + (1024 * w.val + a + d.val) = 1024 * (2 * hp.val + w.val) + a + d.val; omega)

theorem own_eq (hp : Fin 4) (w : Fin 2) (d : Fin 256) (h h') :
    (⟨512 * hp.val + (256 * w.val + d.val), h⟩ : Fin 2048) = ⟨256 * (hd hp w).val + d.val, h'⟩ :=
  Fin.ext (by show 512 * hp.val + (256 * w.val + d.val) = 256 * (2 * hp.val + w.val) + d.val; omega)

variable {m c} {P : Pass} (H : Feeds m P c)
include H

/-- The blocks of every point hold the pass's data. -/
theorem blocks_at : Blocks P (hpOf t) (rbOf t) (iblk m c 0 t) (iblk m c 1 t) (iblk m c 2 t) (iblk m c 3 t) (iblk m c 4 t) (iblk m c 5 t)
    (iblk m c 6 t) (iblk m c 7 t) (iblk m c 8 t) (iblk m c 9 t) := by
  constructor
  · intro w n l d
    refine (blk0 m c t _ _).trans ?_
    rw [row_eq]
    refine Eq.trans ?_ (H.q (hd (hpOf t) w) (at64 (chk (rbOf t) n) l) d)
    exact congrArg (fun x => m ((c : Thread nD τ).loc main_arg0) (ix2 (at64 (chk (rbOf t) n) l) x)) (col_eq (a := 0) (hpOf t) w d _ _)
  · intro w n l d
    refine (blk0 m c t _ _).trans ?_
    rw [row_eq, col_eq]
    exact H.k (hd (hpOf t) w) (at64 (chk (rbOf t) n) l) d
  · intro w n l d
    refine (blk0 m c t _ _).trans ?_
    rw [row_eq, col_eq]
    exact H.v (hd (hpOf t) w) (at64 (chk (rbOf t) n) l) d
  · intro w n l d
    refine (blk0 m c t _ _).trans ?_
    rw [row_eq, col_eq]
    exact H.g (hd (hpOf t) w) (at64 (chk (rbOf t) n) l) d
  · intro n l d
    refine (blk1 m c t _ _).trans ?_
    rw [row_eq]
    exact H.cos _ d
  · intro n l d
    refine (blk2 m c t _ _).trans ?_
    rw [row_eq]
    exact H.sin _ d
  · exact fun w l l' => (blk3 m c t w l l').trans (H.mm _ l l')
  · exact fun w l z => (blk4 m c t w l z).trans (H.qd _ l z)
  · exact fun w l z => (blk5 m c t w l z).trans (H.kd _ l z)
  · exact fun w z z' => (blk6 m c t w z z').trans (H.cd _ z z')
  · intro w n l d
    refine (blk7 m c t _ _).trans ?_
    rw [row_eq, own_eq]
    exact H.y (hd (hpOf t) w) (at64 (chk (rbOf t) n) l) d
  · intro w n l d
    refine (blk8 m c t _ _).trans ?_
    rw [row_eq, own_eq]
    exact H.ct (hd (hpOf t) w) (at64 (chk (rbOf t) n) l) d
  · exact fun w n d e => (blk9 m c t w n d e).trans (H.st _ _ d e)

/-- After every point the kernel's buffer holds the gradient gathered from that point's first chunk on. -/
theorem held_at : ∀ (n : ℕ) (hn : n < cfg0.N), Held P (hpOf ⟨n, hn⟩) (8 * (rbOf ⟨n, hn⟩).val + 0) (outsAt0 m c n hn).2 := by
  intro n
  induction n with
  | zero => exact fun hn => held_first m (blocks_at ⟨0, hn⟩ H) rfl rfl
  | succ n ih =>
    intro hn
    by_cases h : (n + 1) % 16 = 0
    · exact held_first m (blocks_at ⟨n + 1, hn⟩ H) h (Fin.ext (by show 15 - (n + 1) % 16 = 15; omega))
    · refine held_later m (blocks_at ⟨n + 1, hn⟩ H) h ?_
      have hp : hpOf ⟨n + 1, hn⟩ = hpOf ⟨n, by omega⟩ := Fin.ext (by show (n + 1) / 16 = n / 16; omega)
      have hr : 8 * (rbOf ⟨n + 1, hn⟩).val + 8 = 8 * (rbOf ⟨n, by omega⟩).val + 0 := by
        show 8 * (15 - (n + 1) % 16) + 8 = 8 * (15 - n % 16) + 0; omega
      rw [hp, hr]
      exact ih (by omega)

/-- What every point leaves in its block of the result. -/
theorem block_at (y : S512x2048.Idx) : (outsAt0 m c t.val t.isLt).1 y = want P (hpOf t) (rbOf t) y := by
  by_cases h : t.val % 16 = 0
  · exact block_first m (blocks_at t H) h (Fin.ext (by show 15 - t.val % 16 = 15; omega)) y
  · refine block_later m (blocks_at t H) h ?_ y
    have hp : hpOf t = hpOf ⟨t.val - 1, by omega⟩ := Fin.ext (by show t.val / 16 = (t.val - 1) / 16; omega)
    have hr : 8 * (rbOf t).val + 8 = 8 * (rbOf ⟨t.val - 1, by omega⟩).val + 0 := by
      show 8 * (15 - t.val % 16) + 8 = 8 * (15 - (t.val - 1) % 16) + 0; omega
    rw [hp, hr]
    exact held_at H (t.val - 1) (by omega)

/-- THE RESULT: the gradients in the first columns, the rest as it was given. -/
theorem final : (dats m 0 c).arrAt 10 cfg0.N
    = fun i : S8192x22528.Idx => if (i 1).val < 8192 then (P.res (i 0) ⟨(i 1).val % 8192, Nat.mod_lt _ (by norm_num)⟩ : EReal)
        else V m c main_v234 i := by
  refine (dats m 0 c).arrAt_eq_of_coversWhere 10 _ (fun β => β 1 < 4) (by decide +kernel) (fun t hf y => ?_)
    (fun j => by blk_simp [Pipeline.Window.cell_apply]; omega)
  blk_simp
  rw [after0_10]
  refine (block_at t H y).trans ?_
  unfold want
  refine congrArg ((↑) : ℝ → EReal) (congrArg₂ P.res (Fin.ext ?_) (Fin.ext ?_))
  · blk_simp [idx t]
    show 512 * (15 - t.val % 16) + (y 0).val = _
    omega
  · blk_simp [idx t]
    have h1 : (y 1).val < 2048 := (y 1).isLt
    have h2 : t.val < 64 := lt_of_lt_of_eq t.isLt N_0
    show 2048 * (t.val / 16) + (y 1).val = (t.val / 16 * 2048 + (y 1).val) % 8192
    omega

end blocks

end Cert.KernelIdeal.Ret

end
-- ==== Proof.Refer.lean ====
/- The reference's stages, read at an index over the real data of the pass. -/
module

public import proofs.«01_k».proof.Proof.Pass
public import proofs.«01_k».proof.Proof.Gen.ReferenceIdeal.Read
public import Idealize.ShloMosaic.Lib.WordCmp

@[expose] public section

set_option maxRecDepth 16384

noncomputable section

namespace Cert.Ret

open Idealize.ShloMosaic Idealize.ShloMosaic.TcCoe Idealize.SL.Sem
open Cert.ReferenceIdeal Cert.ReferenceIdeal.Gen Cert.ReferenceIdeal.Read

variable (P : Pass) (x0 : FVec Ideal S8192x16384 .bf16) (x1 : IVec S8192 32) (x2 : FVec Ideal S8192x2048 .bf16)

/-- The arrays `x0`, `x1`, `x2` hold the data of the pass. -/
structure Data : Prop where
  q : ∀ h i (d : Fin 256), x0 (ix2 i ⟨1024 * h.val + d.val, by omega⟩) = (P.Q h i d : EReal)
  k : ∀ h i (d : Fin 256), x0 (ix2 i ⟨1024 * h.val + 256 + d.val, by omega⟩) = (P.K h i d : EReal)
  v : ∀ h i (d : Fin 256), x0 (ix2 i ⟨1024 * h.val + 512 + d.val, by omega⟩) = (P.V h i d : EReal)
  g : ∀ h i (d : Fin 256), x0 (ix2 i ⟨1024 * h.val + 768 + d.val, by omega⟩) = (P.G h i d : EReal)
  ct : ∀ h i (d : Fin 256), x2 (ix2 i ⟨256 * h.val + d.val, by omega⟩) = (P.Ct h i d : EReal)
  cos : ∀ i l, val_main_v25 (F := Ideal) x1 (ix2 i l) = (P.C i l : EReal)
  sin : ∀ i l, val_main_v27 (F := Ideal) x1 (ix2 i l) = (P.S i l : EReal)
  lg : ∀ h, val_main_v94 (F := Ideal) (ix1 h) = (P.L h : EReal)

/-- A counter below two to the thirty-first, made a real. -/
theorem sitofp_nat (n : ℕ) (hn : n < 2 ^ 31) :
    FloatOps.sitofp (F := Ideal) .f32 (BitVec.ofNat 32 n) = ((n : ℝ) : EReal) := by
  have h : (BitVec.ofNat 32 n).toInt = (n : ℤ) := by
    rw [BitVec.toInt_eq_toNat_of_lt, BitVec.toNat_ofNat, Nat.mod_eq_of_lt (by omega)]
    rw [BitVec.toNat_ofNat, Nat.mod_eq_of_lt (by omega)]
    omega
  show (((BitVec.ofNat 32 n).toInt : ℝ) : EReal) = _
  rw [h]
  norm_cast

theorem absf_real (a : ℝ) : FloatOps.absf (F := Ideal) (φ := .f32) (a : EReal) = ((|a| : ℝ) : EReal) := by
  rw [Ideal.absf_def, ← EReal.coe_neg, abs_eq_max_neg]
  exact (EReal.coe_strictMono.monotone.map_max).symm

theorem div64 (n : ℕ) (hn : n < 2 ^ 31) :
    IntOp.divsi .host (BitVec.ofNat 32 n) 64#32 = BitVec.ofNat 32 (n / 64) := by
  have hc : ¬ IntOp.SDivCorner (BitVec.ofNat 32 n) 64#32 := by simp [IntOp.SDivCorner]
  have hm : (BitVec.ofNat 32 n).msb = false := by
    rw [BitVec.msb_eq_decide, BitVec.toNat_ofNat, Nat.mod_eq_of_lt (by omega)]
    simp; omega
  rw [IntOp.divsi, if_neg hc, BitVec.sdiv_eq, hm]
  apply BitVec.eq_of_toNat_eq
  simp only [show (64#32).msb = false from rfl, BitVec.toNat_ofNat, BitVec.udiv_eq, BitVec.toNat_udiv]
  rw [Nat.mod_eq_of_lt (by omega : n < 2 ^ 32), Nat.mod_eq_of_lt (by omega : n / 64 < 2 ^ 32)]

variable {P x0 x1 x2}

theorem v6_at (D : Data P x0 x1 x2) (i : Fin 8192) (h : Fin 8) (d : Fin 256) :
    val_main_v6 (F := Ideal) x0 (ix3 i h d) = (P.Q h i d : EReal) := by
  rw [← D.q]
  pointwise [val_main_v6, val_main_v5, val_main_v4, val_main_v3, val_main_v2]
  exact congrArg x0 (congrArg (ix2 i) (Fin.ext (by dsimp only; omega)))

theorem v8_at (D : Data P x0 x1 x2) (i : Fin 8192) (h : Fin 8) (d : Fin 256) :
    val_main_v8 (F := Ideal) x0 (ix3 i h d) = (P.K h i d : EReal) := by
  rw [← D.k]
  pointwise [val_main_v8, val_main_v7, val_main_v4, val_main_v3, val_main_v2]
  exact congrArg x0 (congrArg (ix2 i) (Fin.ext (by dsimp only; omega)))

theorem v10_at (D : Data P x0 x1 x2) (i : Fin 8192) (h : Fin 8) (d : Fin 256) :
    val_main_v10 (F := Ideal) x0 (ix3 i h d) = (P.V h i d : EReal) := by
  rw [← D.v]
  pointwise [val_main_v10, val_main_v9, val_main_v4, val_main_v3, val_main_v2]
  exact congrArg x0 (congrArg (ix2 i) (Fin.ext (by dsimp only; omega)))

theorem v12_at (D : Data P x0 x1 x2) (i : Fin 8192) (h : Fin 8) (d : Fin 256) :
    val_main_v12 (F := Ideal) x0 (ix3 i h d) = (P.G h i d : EReal) := by
  rw [← D.g]
  pointwise [val_main_v12, val_main_v11, val_main_v4, val_main_v3, val_main_v2]
  exact congrArg x0 (congrArg (ix2 i) (Fin.ext (by dsimp only; omega)))

theorem v1_at (D : Data P x0 x1 x2) (i : Fin 8192) (h : Fin 8) (d : Fin 256) :
    val_main_v1 (F := Ideal) x2 (ix3 i h d) = (P.Ct h i d : EReal) := by
  rw [← D.ct]
  pointwise [val_main_v1, val_main_v0]
  exact congrArg x2 (congrArg (ix2 i) (Fin.ext (by dsimp only; omega)))

/-- The tables the keys are rotated by are the queries'. -/
theorem v54_at (D : Data P x0 x1 x2) (i : Fin 8192) (l : Fin 128) :
    val_main_v54 (F := Ideal) x1 (ix2 i l) = (P.C i l : EReal) := D.cos i l

theorem v56_at (D : Data P x0 x1 x2) (i : Fin 8192) (l : Fin 128) :
    val_main_v56 (F := Ideal) x1 (ix2 i l) = (P.S i l : EReal) := D.sin i l

theorem v41_at (D : Data P x0 x1 x2) (i : Fin 8192) (h : Fin 8) (d : Fin 256) :
    val_main_v41 (F := Ideal) x0 x1 (ix3 i h d) = (P.qr h i d : EReal) := by
  pointwise [val_main_v41, val_main_v40, val_main_v39, val_main_v38, val_main_v37, val_main_v36, val_main_v35,
    val_main_v34, val_main_v33, val_main_v32, val_main_v31, val_main_v30, val_main_v29, val_main_v28, val_main_v26]
  simp only [v6_at D, D.cos, D.sin]
  unfold Pass.qr ropeR
  split
  · rw [← EReal.coe_mul, ← EReal.coe_mul, ← EReal.coe_sub]
  · next hd =>
    have e : (⟨128 + (d.val - 128), by omega⟩ : Fin 256) = d := Fin.ext (by dsimp only; omega)
    rw [e, ← EReal.coe_mul, ← EReal.coe_mul, ← EReal.coe_add]

theorem v72_at (D : Data P x0 x1 x2) (i : Fin 8192) (h : Fin 8) (d : Fin 256) :
    val_main_v72 (F := Ideal) x0 x1 (ix3 i h d) = (P.kr h i d : EReal) := by
  pointwise [val_main_v72, val_main_v71, val_main_cst_3, val_main_v70, val_main_v69, val_main_v68, val_main_v67, val_main_v66, val_main_v65,
    val_main_v64, val_main_v63, val_main_v62, val_main_v61, val_main_v60, val_main_v59, val_main_v58, val_main_v57, val_main_v55]
  simp only [v8_at D, v54_at D, v56_at D, lit_sixteenth]
  unfold Pass.kr ropeR
  split
  · rw [← EReal.coe_mul, ← EReal.coe_mul, ← EReal.coe_sub, ← EReal.coe_mul]
  · next hd =>
    have e : (⟨128 + (d.val - 128), by omega⟩ : Fin 256) = d := Fin.ext (by dsimp only; omega)
    rw [e, ← EReal.coe_mul, ← EReal.coe_mul, ← EReal.coe_add, ← EReal.coe_mul]

theorem v101_at (D : Data P x0 x1 x2) (h : Fin 8) (i j : Fin 8192) :
    val_main_v101 (F := Ideal) (ix3 h i j) = (dec (P.L h) i j : EReal) := by
  pointwise [val_main_v101, val_main_v100, val_main_v99, val_main_v98, val_main_v97, val_main_v96, val_main_v95,
    val_main_v87, val_main_v86, val_main_v85, val_main_v84, val_main_v83, val_main_v82, val_main_v81, val_main_v80,
    val_main_v79, val_main_v78, val_main_v77, val_main_v76, val_main_v75, val_main_v74, val_main_v73, val_main_c,
    val_main_call0_v0, val_main_call0_v1, val_main_call0_v2, val_main_cst_6]
  rw [D.lg, sitofp_nat _ (by omega), sitofp_nat _ (by omega), ← EReal.coe_sub, absf_real, ← EReal.coe_mul, Ideal.exp_coe,
    div64 _ (by omega), div64 _ (by omega)]
  unfold dec
  word_cmp
  have z : id (constant (F := Ideal) S_ .f32 0x00000000#32) ix0 = ((0 : ℝ) : EReal) := by
    show Ideal.ofBits .f32 0x00000000#32 = _
    simp [Ideal.ofBits, Ideal.ieee]
  rw [z]
  split <;> rfl

theorem v105_at (D : Data P x0 x1 x2) (i : Fin 8192) (h : Fin 8) (e : Fin 256) :
    val_main_v105 (F := Ideal) x0 x1 (ix3 i h e) = (P.Y h i e : EReal) := by
  pointwise [val_main_v105, val_main_v104, val_main_v103, val_main_v102]
  simp only [v41_at D, v72_at D, v10_at D, v101_at D, ← EReal.coe_mul, ← coe_sum]
  refine congrArg _ (Finset.sum_congr rfl fun j _ => ?_)
  rw [mul_comm]

theorem lit_half : Ideal.ofBits .f32 0xBF000000#32 = ((-(1 / 2) : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

/-- A sum over a row begun at zero, divided by the row's length. -/
theorem mean_real (f : Fin 256 → ℝ) : Ideal.div (∑ e, ((f e : ℝ) : EReal)) (Ideal.ofBits .f32 0x43800000#32) = ((mean f : ℝ) : EReal) := by
  rw [← coe_sum, lit_256, div_real _ _ (by norm_num)]
  rfl

theorem v109_at (D : Data P x0 x1 x2) (i : Fin 8192) (h : Fin 8) (z : Fin 1) :
    val_main_v109 (F := Ideal) x0 x1 (ix3 i h z) = (mean (P.Y h i) : EReal) := by
  pointwise [val_main_v109, val_main_v108, val_main_v107, val_main_v106, val_main_cst_7, val_main_cst_8]
  simp only [v105_at D]
  exact mean_real _

theorem v111_at (D : Data P x0 x1 x2) (i : Fin 8192) (h : Fin 8) (e : Fin 256) :
    val_main_v111 (F := Ideal) x0 x1 (ix3 i h e) = ((P.Y h i e - mean (P.Y h i) : ℝ) : EReal) := by
  pointwise [val_main_v111, val_main_v110]
  rw [v105_at D, v109_at D, ← EReal.coe_sub]

theorem v120_at (D : Data P x0 x1 x2) (i : Fin 8192) (h : Fin 8) (e : Fin 256) :
    val_main_v120 (F := Ideal) x0 x1 (ix3 i h e) = ((P.Y h i e - mean (P.Y h i) : ℝ) : EReal) := by
  pointwise [val_main_v120, val_main_v119]
  rw [v105_at D, v109_at D, ← EReal.coe_sub]

theorem v118_at (D : Data P x0 x1 x2) (i : Fin 8192) (h : Fin 8) (z : Fin 1) :
    val_main_v118 (F := Ideal) x0 x1 (ix3 i h z) = (var (P.Y h i) : EReal) := by
  pointwise [val_main_v118, val_main_v117, val_main_v116, val_main_v115, val_main_v112, val_main_cst_10, val_main_cst_11]
  simp only [v111_at D, ← EReal.coe_mul]
  exact mean_real _

theorem v122_at (D : Data P x0 x1 x2) (i : Fin 8192) (h : Fin 8) (z : Fin 1) :
    val_main_v122 (F := Ideal) x0 x1 (ix3 i h z) = ((var (P.Y h i) + eps : ℝ) : EReal) := by
  pointwise [val_main_v122, val_main_v121, val_main_cst_12]
  rw [v118_at D, lit_eps, ← EReal.coe_add]

theorem v123_at (D : Data P x0 x1 x2) (i : Fin 8192) (h : Fin 8) (z : Fin 1) :
    val_main_v123 (F := Ideal) x0 x1 (ix3 i h z) = (rstd eps (P.Y h i) : EReal) := by
  pointwise [val_main_v123]
  rw [v122_at D]
  exact rsqrt_real _ (by have := var_nonneg (P.Y h i); have := eps_pos; linarith)

theorem v126_at (D : Data P x0 x1 x2) (i : Fin 8192) (h : Fin 8) (z : Fin 1) :
    val_main_v126 (F := Ideal) x0 x1 (ix3 i h z)
      = ((-(1 / 2) * (rstd eps (P.Y h i) / (var (P.Y h i) + eps)) : ℝ) : EReal) := by
  pointwise [val_main_v126, val_main_v125, val_main_v124, val_main_cst_13]
  rw [v122_at D, v123_at D, lit_half, div_real _ _ (by have := var_nonneg (P.Y h i); have := eps_pos; linarith), ← EReal.coe_mul]

theorem v128_at (D : Data P x0 x1 x2) (i : Fin 8192) (h : Fin 8) (e : Fin 256) :
    val_main_v128 (F := Ideal) x0 x1 (ix3 i h e) = (gnorm eps (P.Y h i) e : EReal) := by
  pointwise [val_main_v128, val_main_v127]
  rw [v120_at D, v123_at D, ← EReal.coe_mul]
  rfl

theorem v129_2_at (D : Data P x0 x1 x2) (i : Fin 8192) (h : Fin 8) (e : Fin 256) :
    val_main_v129_2 (F := Ideal) x0 (ix3 i h e) = (lgst (P.G h i e) : EReal) := by
  pointwise [val_main_v129_2, val_main_call1_v0, val_main_call1_v1, val_main_call1_v2, val_main_call1_v3, val_main_call1_v4,
    val_main_call1_cst, val_main_call1_cst_0]
  rw [v12_at D]
  rw [← EReal.coe_neg, Ideal.exp_coe, ← EReal.coe_one, ← EReal.coe_add, div_real _ _ (by positivity)]
  unfold lgst
  rw [one_div]

theorem v129_1_at (D : Data P x0 x1 x2) (i : Fin 8192) (h : Fin 8) (e : Fin 256) :
    val_main_v129_1 (F := Ideal) x0 (ix3 i h e) = ((lgst (P.G h i e) * (1 - lgst (P.G h i e)) : ℝ) : EReal) := by
  pointwise [val_main_v129_1, val_main_call1_v6, val_main_call1_v7, val_main_call1_cst_1]
  rw [v129_2_at D, ← EReal.coe_one, ← EReal.coe_sub, ← EReal.coe_mul]

theorem v132_at (D : Data P x0 x1 x2) (i : Fin 8192) (h : Fin 8) (e : Fin 256) :
    val_main_v132 (F := Ideal) x0 x2 (ix3 i h e) = ((P.Ct h i e * (P.G h i e * lgst (P.G h i e)) : ℝ) : EReal) := by
  pointwise [val_main_v132, val_main_v129_0]
  rw [v129_2_at D, v1_at D, v12_at D, ← EReal.coe_mul, ← EReal.coe_mul]

/-- The gates' gradient. -/
theorem v133_at (D : Data P x0 x1 x2) (i : Fin 8192) (h : Fin 8) (e : Fin 256) :
    val_main_v133 (F := Ideal) x0 x1 x2 (ix3 i h e) = (P.resG h i e : EReal) := by
  pointwise [val_main_v133, val_main_call2_v0, val_main_call2_v1, val_main_call2_v2, val_main_v131]
  rw [v129_2_at D, v129_1_at D, v128_at D, v1_at D, v12_at D]
  simp only [← EReal.coe_mul, ← EReal.coe_add]
  refine congrArg _ ?_
  unfold Pass.resG dgateR
  ring

theorem v138_at (D : Data P x0 x1 x2) (i : Fin 8192) (h : Fin 8) (e : Fin 256) :
    val_main_v138 (F := Ideal) x0 x1 x2 (ix3 i h e)
      = ((P.Ct h i e * (P.G h i e * lgst (P.G h i e)) * rstd eps (P.Y h i) : ℝ) : EReal) := by
  pointwise [val_main_v138, val_main_v137]
  rw [v132_at D, v123_at D, ← EReal.coe_mul]

/-- The gradient's sum against the centred row, through the deviation. -/
theorem v147_at (D : Data P x0 x1 x2) (i : Fin 8192) (h : Fin 8) (e : Fin 256) :
    val_main_v147 (F := Ideal) x0 x1 x2 (ix3 i h e)
      = (((2 * (P.Y h i e - mean (P.Y h i))) * (((∑ e, (P.Y h i e - mean (P.Y h i)) * (P.Ct h i e * (P.G h i e * lgst (P.G h i e))))
          * (-(1 / 2) * (rstd eps (P.Y h i) / (var (P.Y h i) + eps)))) / 256) : ℝ) : EReal) := by
  pointwise [val_main_v147, val_main_v146, val_main_v145, val_main_v144, val_main_v143, val_main_v139, val_main_v136, val_main_v135,
    val_main_v134, val_main_v114, val_main_v113, val_main_cst_9, val_main_cst_14, val_main_cst_16, val_main_cst_17]
  simp only [v120_at D, v132_at D, v111_at D, v126_at D, lit_two, lit_256, ← EReal.coe_mul, ← coe_sum]
  simp only [div_real _ _ (show (256 : ℝ) ≠ 0 by norm_num), Fin.sum_univ_one, ← EReal.coe_mul]
  refine congrArg _ ?_
  ring

/-- The gradient of the retention's output. -/
theorem v157_at (D : Data P x0 x1 x2) (i : Fin 8192) (h : Fin 8) (e : Fin 256) :
    val_main_v157 (F := Ideal) x0 x1 x2 (ix3 i h e) = (P.dy h i e : EReal) := by
  pointwise [val_main_v157, val_main_v156, val_main_v155, val_main_v154, val_main_v153, val_main_v152, val_main_v151, val_main_v150,
    val_main_v149, val_main_v148, val_main_v142, val_main_v141, val_main_v140, val_main_cst_15, val_main_cst_18, val_main_cst_19, val_main_cst_20]
  simp only [v138_at D, v147_at D, lit_256, ← EReal.coe_mul, ← EReal.coe_neg, ← EReal.coe_add, ← coe_sum]
  simp only [div_real _ _ (show (256 : ℝ) ≠ 0 by norm_num), Fin.sum_univ_one, ← EReal.coe_add]
  refine congrArg _ ?_
  unfold Pass.dy doutR
  rw [dgn_chain eps eps_pos]
  simp only [Finset.sum_neg_distrib, Finset.sum_add_distrib, neg_add]

theorem v103_at (D : Data P x0 x1 x2) (h : Fin 8) (i j : Fin 8192) :
    val_main_v103 (F := Ideal) x0 x1 (ix3 h i j) = (((∑ d, P.qr h i d * P.kr h j d) * dec (P.L h) i j : ℝ) : EReal) := by
  pointwise [val_main_v103, val_main_v102]
  simp only [v41_at D, v72_at D, v101_at D, ← EReal.coe_mul, ← coe_sum]

theorem v162_at (D : Data P x0 x1 x2) (h : Fin 8) (i j : Fin 8192) :
    val_main_v162 (F := Ideal) x0 x1 x2 (ix3 h i j) = (((∑ e, P.dy h i e * P.V h j e) * dec (P.L h) i j : ℝ) : EReal) := by
  pointwise [val_main_v162, val_main_v159, val_main_v158]
  simp only [v157_at D, v10_at D, v101_at D, ← EReal.coe_mul, ← coe_sum]

/-- The values' gradient. -/
theorem v161_at (D : Data P x0 x1 x2) (j : Fin 8192) (h : Fin 8) (e : Fin 256) :
    val_main_v161 (F := Ideal) x0 x1 x2 (ix3 j h e) = (P.resV h j e : EReal) := by
  pointwise [val_main_v161, val_main_v160, val_main_v158]
  simp only [v157_at D, v103_at D, ← EReal.coe_mul, ← coe_sum]
  rfl

theorem v164_at (D : Data P x0 x1 x2) (j : Fin 8192) (h : Fin 8) (d : Fin 256) :
    val_main_v164 (F := Ideal) x0 x1 x2 (ix3 j h d) = (P.dkr h j d : EReal) := by
  pointwise [val_main_v164, val_main_v163]
  simp only [v162_at D, v41_at D, ← EReal.coe_mul, ← coe_sum]
  rfl

theorem v166_at (D : Data P x0 x1 x2) (i : Fin 8192) (h : Fin 8) (d : Fin 256) :
    val_main_v166 (F := Ideal) x0 x1 x2 (ix3 i h d) = (P.dqr h i d : EReal) := by
  pointwise [val_main_v166, val_main_v165]
  simp only [v162_at D, v72_at D, ← EReal.coe_mul, ← coe_sum]
  rfl

theorem v168_at (D : Data P x0 x1 x2) (j : Fin 8192) (h : Fin 8) (d : Fin 256) :
    val_main_v168 (F := Ideal) x0 x1 x2 (ix3 j h d) = ((P.dkr h j d * (1 / 16) : ℝ) : EReal) := by
  pointwise [val_main_v168, val_main_v167, val_main_cst_21]
  rw [v164_at D, lit_sixteenth, ← EReal.coe_mul]

/-- Two padded halves added are the pair turned back. -/
theorem halves_back (c s : Fin 128 → ℝ) (t : Fin 256 → ℝ) (d : Fin 256) :
    ((if h : 128 ≤ d.val ∧ d.val - 128 < 128 then
        ((t ⟨128 + (d.val - 128), by omega⟩ : ℝ) : EReal) * ((c ⟨d.val - 128, by omega⟩ : ℝ) : EReal)
          + -((t ⟨d.val - 128, by omega⟩ : ℝ) : EReal) * ((s ⟨d.val - 128, by omega⟩ : ℝ) : EReal) else 0)
      + if h : d.val < 128 then
        ((t ⟨128 + d.val, by omega⟩ : ℝ) : EReal) * ((s ⟨d.val, h⟩ : ℝ) : EReal)
          + ((t d : ℝ) : EReal) * ((c ⟨d.val, h⟩ : ℝ) : EReal) else 0)
      = ((ropeTR c s t d : ℝ) : EReal) := by
  unfold ropeTR
  by_cases hd : d.val < 128
  · rw [dif_neg (by omega), dif_pos hd, dif_pos hd, zero_add, ← EReal.coe_mul, ← EReal.coe_mul, ← EReal.coe_add, add_comm]
  · have e : (⟨128 + (d.val - 128), by omega⟩ : Fin 256) = d := Fin.ext (by dsimp only; omega)
    rw [dif_pos (by omega), dif_neg hd, dif_neg hd, add_zero, e, ← EReal.coe_neg, ← EReal.coe_mul, ← EReal.coe_mul, ← EReal.coe_add]
    refine congrArg _ ?_
    ring

/-- Turning back commutes with a factor. -/
theorem back_scaled (c s : Fin 128 → ℝ) (t : Fin 256 → ℝ) (d : Fin 256) (a : ℝ) :
    ropeTR c s (fun d => t d * a) d = ropeTR c s t d * a := by
  unfold ropeTR
  split <;> ring

/-- The keys' gradient. -/
theorem v184_at (D : Data P x0 x1 x2) (j : Fin 8192) (h : Fin 8) (d : Fin 256) :
    val_main_v184 (F := Ideal) x0 x1 x2 (ix3 j h d) = (P.resK h j d : EReal) := by
  pointwise [val_main_v184, val_main_v183, val_main_v182, val_main_v181, val_main_v180, val_main_v179, val_main_v178, val_main_v177,
    val_main_v176, val_main_v175, val_main_v174, val_main_v173, val_main_v172, val_main_v171, val_main_v170, val_main_v169,
    val_main_v57, val_main_v55, val_main_cst_22, val_main_cst_23]
  simp only [v168_at D, v54_at D, v56_at D]
  unfold Pass.resK
  rw [← back_scaled]
  exact halves_back (P.C j) (P.S j) (fun d => P.dkr h j d * (1 / 16)) d

/-- The queries' gradient. -/
theorem v200_at (D : Data P x0 x1 x2) (j : Fin 8192) (h : Fin 8) (d : Fin 256) :
    val_main_v200 (F := Ideal) x0 x1 x2 (ix3 j h d) = (P.resQ h j d : EReal) := by
  pointwise [val_main_v200, val_main_v199, val_main_v198, val_main_v197, val_main_v196, val_main_v195, val_main_v194, val_main_v193,
    val_main_v192, val_main_v191, val_main_v190, val_main_v189, val_main_v188, val_main_v187, val_main_v186, val_main_v185,
    val_main_v28, val_main_v26, val_main_cst_24, val_main_cst_25]
  simp only [v166_at D, D.cos, D.sin]
  exact halves_back (P.C j) (P.S j) (P.dqr h j) d

/-- The result's columns by their quarter of a head. -/
theorem res_at (P : Pass) (i : Fin 8192) (n : ℕ) (hn : n < 8192) :
    P.res i ⟨n % 8192, Nat.mod_lt _ (by norm_num)⟩
      = if n / 256 % 4 < 1 then P.resQ ⟨n / 1024, by omega⟩ i ⟨n % 256, by omega⟩
        else if n / 256 % 4 - 1 < 1 then P.resK ⟨n / 1024, by omega⟩ i ⟨n % 256, by omega⟩
        else if n / 256 % 4 - 1 - 1 < 1 then P.resV ⟨n / 1024, by omega⟩ i ⟨n % 256, by omega⟩
        else P.resG ⟨n / 1024, by omega⟩ i ⟨n % 256, by omega⟩ := by
  unfold Pass.res
  have e1 : (⟨n % 8192 / 1024, by omega⟩ : Fin 8) = ⟨n / 1024, by omega⟩ := Fin.ext (by dsimp only; omega)
  have e2 : (⟨n % 8192 % 256, by omega⟩ : Fin 256) = ⟨n % 256, by omega⟩ := Fin.ext (by dsimp only; omega)
  dsimp only
  rw [e1, e2]
  generalize P.resQ _ _ _ = a
  generalize P.resK _ _ _ = b
  generalize P.resV _ _ _ = v
  generalize P.resG _ _ _ = g
  repeat' split
  all_goals first | rfl | omega

variable (x3 : FVec Ideal S8192x22528 .bf16)

/-- The reference's result: the four gradients in the columns of the retention, the given gradient elsewhere. -/
theorem v209_at (D : Data P x0 x1 x2) (i : Fin 8192) (n : Fin 22528) :
    val_main_v209 (F := Ideal) x0 x1 x2 x3 (ix2 i n)
      = if n.val < 8192 then (P.res i ⟨n.val % 8192, Nat.mod_lt _ (by norm_num)⟩ : EReal) else x3 (ix2 i n) := by
  pointwise [val_main_v209, val_main_v208, val_main_v207, val_main_v206, val_main_v205, val_main_v204, val_main_v203, val_main_v202,
    val_main_v201]
  simp only [v200_at D, v184_at D, v161_at D, v133_at D]
  by_cases hn : n.val < 8192
  · rw [dif_pos hn, if_pos hn]
    rw [res_at P i n.val hn]
    repeat' split
    all_goals rfl
  · rw [dif_neg hn, if_neg hn]
    exact congrArg x3 (congrArg (ix2 i) (Fin.ext (by dsimp only; omega)))

end Cert.Ret

end
-- ==== Proof.Host.lean ====
/- The host's part of the kernel's program: the tables, the retention's output and the states it hands to the region. -/
module

public import proofs.«01_k».proof.Proof.Final
public import proofs.«01_k».proof.Proof.Refer

@[expose] public section

set_option maxRecDepth 65536
set_option maxHeartbeats 4000000

noncomputable section

namespace Cert.KernelIdeal.Ret

open Idealize.ShloMosaic Idealize.ShloMosaic.TcCoe Idealize.SL.Sem
open Cert.KernelIdeal Cert.KernelIdeal.Gen Cert.Ret
open Cert.ReferenceIdeal.Read (val_main_v25 val_main_v27 val_main_v94 val_main_v105 val_main_v72 val_main_v10)

variable (m : (ℓ : Loc nD τ sig) → Buf (Elt Ideal) ℓ) (c : Dev nD)

/-- The projections as launched. -/
abbrev arg0 : FVec Ideal S8192x16384 .bf16 := m ((c : Thread nD τ).loc main_arg0)
/-- The positions as launched. -/
abbrev arg1 : IVec S8192 32 := m ((c : Thread nD τ).loc main_arg1)
/-- The incoming gradient as launched. -/
abbrev arg2 : FVec Ideal S8192x2048 .bf16 := m ((c : Thread nD τ).loc main_arg2)

/-- The decay from a frame to the border before a chunk, zero for the frames of that chunk and later ones. -/
def toBorder : FVec Ideal S8x128x8192 .f32 :=
  select (broadcastInDim S8x128x8192 ![1, 2] bcast_S128x8192_S8x128x8192_1_2
      (cmpi .slt (broadcastInDim S128x8192 ![0, 1] bcast_S1x8192_S128x8192_0_1 (broadcastInDim S1x8192 ![1] bcast_S8192_S1x8192_1
          (Host.divsi (iotaInDim S8192 32 0) (broadcastInDim S8192 ![] bcast_S_S8192 (constantI S_ 32 64#32)))))
        (broadcastInDim S128x8192 ![0, 1] bcast_S128x1_S128x8192_0_1 (broadcastInDim S128x1 ![0] bcast_S128_S128x1_0 (iotaInDim S128 32 0)))))
    (Host.exp (mulf (broadcastInDim S8x128x8192 ![0, 1, 2] bcast_S1x128x8192_S8x128x8192_0_1_2
        (broadcastInDim S1x128x8192 ![1, 2] bcast_S128x8192_S1x128x8192_1_2
          (subf (broadcastInDim S128x8192 ![0, 1] bcast_S128x1_S128x8192_0_1 (broadcastInDim S128x1 ![0] bcast_S128_S128x1_0
              (subf (mulf (broadcastInDim S128 ![] bcast_S_S128 (constant S_ .f32 0x42800000#32)) (sitofp .f32 (iotaInDim S128 32 0)))
                (broadcastInDim S128 ![] bcast_S_S128 (constant S_ .f32 0x3F800000#32)))))
            (broadcastInDim S128x8192 ![0, 1] bcast_S1x8192_S128x8192_0_1 (broadcastInDim S1x8192 ![1] bcast_S8192_S1x8192_1
              (sitofp .f32 (iotaInDim S8192 32 0)))))))
      (broadcastInDim S8x128x8192 ![0, 1, 2] bcast_S8x1x1_S8x128x8192_0_1_2
        (broadcastInDim S8x1x1 ![0] bcast_S8_S8x1x1_0 (val_main_v94 (F := Ideal))))))
    (broadcastInDim S8x128x8192 ![] bcast_S_S8x128x8192 (id (constant S_ .f32 0x00000000#32)))

/-- The state before each chunk, in the short format. -/
def states (x0 : FVec Ideal S8192x16384 .bf16) (x1 : IVec S8192 32) : FVec Ideal S8x128x256x256 .bf16 :=
  truncf .bf16 (Host.dotGeneral (φ₁ := .f32) (φ₂ := .f32) dot_S8x128x8192x256_S8192x8x256_S8x128x256x256_2_0_13_2_0_1 none
    (mulf (broadcastInDim S8x128x8192x256 ![0, 1, 2, 3] bcast_S8x128x8192x1_S8x128x8192x256_0_1_2_3
        (broadcastInDim S8x128x8192x1 ![0, 1, 2] bcast_S8x128x8192_S8x128x8192x1_0_1_2 toBorder))
      (broadcastInDim S8x128x8192x256 ![0, 1, 2, 3] bcast_S8x1x8192x256_S8x128x8192x256_0_1_2_3
        (broadcastInDim S8x1x8192x256 ![0, 2, 3] bcast_S8x8192x256_S8x1x8192x256_0_2_3
          (transpose S8x8192x256 [1, 0, 2] (val_main_v72 (F := Ideal) x0 x1) transposes_S8192x8x256_S8x8192x256_1_0_2))))
    (val_main_v10 (F := Ideal) x0)) bitsLt_bf16_f32

/-- The decay inside a chunk. -/
def inChunk : FVec Ideal S8x64x64 .f32 :=
  Host.exp (mulf (broadcastInDim S8x64x64 ![0, 1, 2] bcast_S1x64x64_S8x64x64_0_1_2
      (broadcastInDim S1x64x64 ![1, 2] bcast_S64x64_S1x64x64_1_2
        (Host.absf (subf (broadcastInDim S64x64 ![0, 1] bcast_S64x1_S64x64_0_1 (broadcastInDim S64x1 ![0] bcast_S64_S64x1_0 (sitofp .f32 (iotaInDim S64 32 0))))
          (broadcastInDim S64x64 ![0, 1] bcast_S1x64_S64x64_0_1 (broadcastInDim S1x64 ![1] bcast_S64_S1x64_1 (sitofp .f32 (iotaInDim S64 32 0))))))))
    (broadcastInDim S8x64x64 ![0, 1, 2] bcast_S8x1x1_S8x64x64_0_1_2 (broadcastInDim S8x1x1 ![0] bcast_S8_S8x1x1_0 (val_main_v94 (F := Ideal)))))

/-- The decay from the border before a chunk to each of its frames. -/
def fromBorder : FVec Ideal S8x64x1 .f32 :=
  broadcastInDim S8x64x1 ![0, 1] bcast_S8x64_S8x64x1_0_1 (Host.exp (mulf
    (broadcastInDim S8x64 ![0, 1] bcast_S1x64_S8x64_0_1 (broadcastInDim S1x64 ![1] bcast_S64_S1x64_1
      (addf (sitofp .f32 (iotaInDim S64 32 0)) (broadcastInDim S64 ![] bcast_S_S64 (constant S_ .f32 0x3F800000#32)))))
    (broadcastInDim S8x64 ![0, 1] bcast_S8x1_S8x64_0_1 (broadcastInDim S8x1 ![0] bcast_S8_S8x1_0 (val_main_v94 (F := Ideal))))))

/-- The decay from each frame of a chunk to its end. -/
def toEnd : FVec Ideal S8x64x1 .f32 :=
  broadcastInDim S8x64x1 ![0, 1] bcast_S8x64_S8x64x1_0_1 (Host.exp (mulf
    (broadcastInDim S8x64 ![0, 1] bcast_S1x64_S8x64_0_1 (broadcastInDim S1x64 ![1] bcast_S64_S1x64_1
      (subf (broadcastInDim S64 ![] bcast_S_S64 (constant S_ .f32 0x427C0000#32)) (sitofp .f32 (iotaInDim S64 32 0)))))
    (broadcastInDim S8x64 ![0, 1] bcast_S8x1_S8x64_0_1 (broadcastInDim S8x1 ![0] bcast_S8_S8x1_0 (val_main_v94 (F := Ideal))))))

/-- The decay across a chunk. -/
def across : FVec Ideal S8x1x1 .f32 :=
  broadcastInDim S8x1x1 ![0] bcast_S8_S8x1x1_0 (Host.exp (mulf
    (broadcastInDim S8 ![] bcast_S_S8 (constant S_ .f32 0x42800000#32)) (val_main_v94 (F := Ideal))))

theorem V190 : V m c main_v190 = val_main_v25 (F := Ideal) (arg1 m c) := by
  unfold V
  simp only [hostOps0, hostOps0_1, hostOps0_2, hostOps0_3, hostOps0_4, List.flatten_cons, List.flatten_nil, List.append_nil,
    List.cons_append, List.nil_append]
  after_results
  rfl

theorem V191 : V m c main_v191 = val_main_v27 (F := Ideal) (arg1 m c) := by
  unfold V
  simp only [hostOps0, hostOps0_1, hostOps0_2, hostOps0_3, hostOps0_4, List.flatten_cons, List.flatten_nil, List.append_nil,
    List.cons_append, List.nil_append]
  after_results
  rfl

theorem V104 : V m c main_v104 = shapeCast S8192x2048 (val_main_v105 (F := Ideal) (arg0 m c) (arg1 m c)) shapeCasts_S8192x8x256_S8192x2048 := by
  unfold V
  simp only [hostOps0, hostOps0_1, hostOps0_2, hostOps0_3, hostOps0_4, List.flatten_cons, List.flatten_nil, List.append_nil,
    List.cons_append, List.nil_append]
  after_results
  rfl

theorem V177 : V m c main_v177 = states (arg0 m c) (arg1 m c) := by
  unfold V
  simp only [hostOps0, hostOps0_1, hostOps0_2, hostOps0_3, hostOps0_4, List.flatten_cons, List.flatten_nil, List.append_nil,
    List.cons_append, List.nil_append]
  after_results
  rfl

theorem V211 : V m c main_v211 = inChunk := by
  unfold V
  simp only [hostOps0, hostOps0_1, hostOps0_2, hostOps0_3, hostOps0_4, List.flatten_cons, List.flatten_nil, List.append_nil,
    List.cons_append, List.nil_append]
  after_results
  rfl

theorem V220 : V m c main_v220 = fromBorder := by
  unfold V
  simp only [hostOps0, hostOps0_1, hostOps0_2, hostOps0_3, hostOps0_4, List.flatten_cons, List.flatten_nil, List.append_nil,
    List.cons_append, List.nil_append]
  after_results
  rfl

theorem V229 : V m c main_v229 = toEnd := by
  unfold V
  simp only [hostOps0, hostOps0_1, hostOps0_2, hostOps0_3, hostOps0_4, List.flatten_cons, List.flatten_nil, List.append_nil,
    List.cons_append, List.nil_append]
  after_results
  rfl

theorem V233 : V m c main_v233 = across := by
  unfold V
  simp only [hostOps0, hostOps0_1, hostOps0_2, hostOps0_3, hostOps0_4, List.flatten_cons, List.flatten_nil, List.append_nil,
    List.cons_append, List.nil_append]
  after_results
  rfl

/-- The result's buffer enters the region holding the given gradient. -/
theorem V234 : V m c main_v234 = m ((c : Thread nD τ).loc main_arg3) := by
  unfold V
  simp only [hostOps0, hostOps0_1, hostOps0_2, hostOps0_3, hostOps0_4, List.flatten_cons, List.flatten_nil, List.append_nil,
    List.cons_append, List.nil_append]
  after_results
  rfl

theorem lit_64 : Ideal.ofBits .f32 0x42800000#32 = ((64 : ℝ) : EReal) := by
  simp [Ideal.ofBits, Ideal.ieee, -EReal.coe_mul]; norm_num

theorem lit_63 : Ideal.ofBits .f32 0x427C0000#32 = ((63 : ℝ) : EReal) := by
  simp [Ideal.ofBits, Ideal.ieee, -EReal.coe_mul]; norm_num

variable {m c} {P : Pass} {x2 : FVec Ideal S8192x2048 .bf16}
variable {x0 : FVec Ideal S8192x16384 .bf16} {x1 : IVec S8192 32}

theorem inChunk_at (D : Data P x0 x1 x2) (h : Fin 8) (l l' : Fin 64) :
    inChunk (ix3 h l l') = (mmr (P.L h) l l' : EReal) := by
  pointwise [inChunk]
  rw [D.lg, sitofp_nat _ (by omega), sitofp_nat _ (by omega), ← EReal.coe_sub, absf_real, ← EReal.coe_mul, Ideal.exp_coe]
  rfl

theorem fromBorder_at (D : Data P x0 x1 x2) (h : Fin 8) (l : Fin 64) (z : Fin 1) :
    fromBorder (ix3 h l z) = (Real.exp (((l.val : ℝ) + 1) * P.L h) : EReal) := by
  pointwise [fromBorder]
  rw [D.lg, sitofp_nat _ (by omega), ← EReal.coe_one, ← EReal.coe_add, ← EReal.coe_mul, Ideal.exp_coe]

theorem toEnd_at (D : Data P x0 x1 x2) (h : Fin 8) (l : Fin 64) (z : Fin 1) :
    toEnd (ix3 h l z) = (Real.exp ((63 - (l.val : ℝ)) * P.L h) : EReal) := by
  pointwise [toEnd]
  rw [D.lg, sitofp_nat _ (by omega), lit_63, ← EReal.coe_sub, ← EReal.coe_mul, Ideal.exp_coe]

theorem across_at (D : Data P x0 x1 x2) (h : Fin 8) (z z' : Fin 1) :
    across (ix3 h z z') = (Real.exp (64 * P.L h) : EReal) := by
  pointwise [across]
  rw [D.lg, lit_64, ← EReal.coe_mul, Ideal.exp_coe]

theorem toBorder_at (D : Data P x0 x1 x2) (h : Fin 8) (n : Fin 128) (j : Fin 8192) :
    toBorder (ix3 h n j)
      = ((if j.val / 64 < n.val then Real.exp ((64 * (n.val : ℝ) - 1 - (j.val : ℝ)) * P.L h) else 0 : ℝ) : EReal) := by
  pointwise [toBorder]
  rw [D.lg, sitofp_nat _ (by omega), sitofp_nat _ (by omega), lit_64, ← EReal.coe_one, ← EReal.coe_mul, ← EReal.coe_sub, ← EReal.coe_sub,
    ← EReal.coe_mul, Ideal.exp_coe, div64 _ (by omega)]
  word_cmp
  have z : id (constant (F := Ideal) S_ .f32 0x00000000#32) ix0 = ((0 : ℝ) : EReal) := by
    show Ideal.ofBits .f32 0x00000000#32 = _
    simp [Ideal.ofBits, Ideal.ieee]
  rw [z]
  split <;> rfl

theorem states_at (D : Data P x0 x1 x2) (h : Fin 8) (n : Fin 128) (d e : Fin 256) :
    states x0 x1 (ix4 h n d e) = (stR (P.L h) (P.kr h) (P.V h) n.val d e : EReal) := by
  pointwise [states]
  simp only [toBorder_at D, v72_at D, v10_at D, ← EReal.coe_mul, ← coe_sum]
  rfl

theorem feeds (D : Data P (arg0 m c) (arg1 m c) (arg2 m c)) : Feeds m P c where
  q := D.q
  k := D.k
  v := D.v
  g := D.g
  ct := D.ct
  cos i l := by rw [V190]; exact D.cos i l
  sin i l := by rw [V191]; exact D.sin i l
  mm h l l' := by rw [V211]; exact inChunk_at D h l l'
  qd h l z := by rw [V220]; exact fromBorder_at D h l z
  kd h l z := by rw [V229]; exact toEnd_at D h l z
  cd h z z' := by rw [V233]; exact across_at D h z z'
  y h i d := by
    rw [V104, ← v105_at D]
    generalize val_main_v105 (F := Ideal) (arg0 m c) (arg1 m c) = y
    pointwise []
  st h n d e := by rw [V177]; exact states_at D h n d e

end Cert.KernelIdeal.Ret

end
-- ==== Proof.Args.lean ====
/- The pass's data, taken from the arguments: what the precondition says of them, and that every entry is a real. -/
module

public import proofs.«01_k».proof.Pre_finite
public import proofs.«01_k».proof.Proof.Refer
public import Idealize.ShloMosaic.Lib.ReduceAll

@[expose] public section

set_option maxRecDepth 16384

noncomputable section

namespace Cert.Ret

open Idealize.ShloMosaic Idealize.ShloMosaic.TcCoe Idealize.SL.Sem
open Cert.ReferenceIdeal Cert.ReferenceIdeal.Gen Cert.ReferenceIdeal.Read

/-- The side conditions of the precondition's own operations. -/
theorem pre_facts : Cert.Pre_finite.Facts where
  bcast_S_S8192x16384 := by decide
  reducesTo_S8192x16384_S_d0_1 := by decide
  h_S_ := by decide
  bcast_S_S8192x2048 := by decide
  reducesTo_S8192x2048_S_d0_1 := by decide

instance : Subsingleton Cert.Pre_finite.S_.Idx := ⟨fun a b => funext fun k => k.elim0⟩

/-- An extended real whose absolute value is below infinity is its own real part. -/
theorem real_of_lt (x : EReal) (h : FloatOps.cmpf (F := Ideal) (φ := .bf16) .olt (FloatOps.hostAbsf (F := Ideal) (φ := .bf16) x)
    (FloatOps.ofBits (F := Ideal) .bf16 0x7F80#16) = 1#1) : x = (x.toReal : EReal) := by
  have e : FloatOps.ofBits (F := Ideal) .bf16 0x7F80#16 = (⊤ : EReal) := by
    show Ideal.ofBits .bf16 0x7F80#16 = _
    simp [Ideal.ofBits, Ideal.ieee]
  rw [e] at h
  have h2 : max x (-x) < ⊤ := by
    by_contra hn
    have : FloatOps.cmpf (F := Ideal) (φ := .bf16) .olt (max x (-x) : EReal) (⊤ : EReal) = BitVec.ofBool (decide (max x (-x) < ⊤)) := rfl
    rw [show FloatOps.hostAbsf (F := Ideal) (φ := .bf16) x = max x (-x) from rfl, this, decide_eq_false hn] at h
    exact absurd h (by decide)
  refine (EReal.coe_toReal ?_ ?_).symm
  · rintro rfl; simp at h2
  · rintro rfl; simp at h2

/-- The precondition: every entry of the projections and of the incoming gradient is a real. -/
theorem reals (hp : Cert.Pre_finite.Facts) (x0 : FVec Ideal S8192x16384 .bf16) (x1 : IVec S8192 32) (x2 : FVec Ideal S8192x2048 .bf16)
    (x3 : FVec Ideal S8192x22528 .bf16) (h : Cert.Pre_finite.fn (F := Ideal) x0 x1 x2 x3 = fun _ => 1#1) :
    (∀ i, x0 i = ((x0 i).toReal : EReal)) ∧ ∀ i, x2 i = ((x2 i).toReal : EReal) := by
  have h0 := congrFun h (fun a => a.elim0)
  obtain ⟨ha, hb⟩ := IntOp.andi_eq_one.1 h0
  exact ⟨fun i => real_of_lt _ (Host.reduce_andi_all _ _ _ _ _ ha i), fun i => real_of_lt _ (Host.reduce_andi_all _ _ _ _ _ hb i)⟩

/-- The angle of a frame and frequency is a real. -/
theorem angle (x1 : IVec S8192 32) (i : Fin 8192) (l : Fin 128) : ∃ a : ℝ, val_main_v24 (F := Ideal) x1 (ix2 i l) = (a : EReal) := by
  have e1 : Ideal.ofBits .f32 0x43000000#32 = ((128 : ℝ) : EReal) := by
    simp [Ideal.ofBits, Ideal.ieee, -EReal.coe_mul]; norm_num
  have e2 : Ideal.ofBits .f32 0x461C4000#32 = ((10000 : ℝ) : EReal) := by
    simp [Ideal.ofBits, Ideal.ieee, -EReal.coe_mul]; norm_num
  refine ⟨((x1 (ix1 i)).toInt : ℝ) * Real.rpow 10000 (-(l.val : ℝ) / 128), ?_⟩
  pointwise [val_main_v24, val_main_v23, val_main_v22, val_main_v21, val_main_v20, val_main_v19, val_main_v18, val_main_v17,
    val_main_cst_0, val_main_v16, val_main_v15, val_main_cst, val_main_v14, val_main_v13]
  rw [e1, e2, sitofp_nat _ (by omega), ← EReal.coe_neg, div_real _ _ (by norm_num), Ideal.pow_coe_coe, EReal.coe_mul]
  rfl

/-- The logarithm of a head's decay is a real. -/
theorem gamma (h : Fin 8) : ∃ a : ℝ, val_main_v94 (F := Ideal) (ix1 h) = (a : EReal) := by
  pointwise [val_main_v94, val_main_v93, val_main_v92, val_main_v91, val_main_v90, val_main_v89, val_main_v88, val_main_cst_4, val_main_cst_5]
  have e5 : Ideal.ofBits .f32 0xC0A00000#32 = ((-5 : ℝ) : EReal) := by
    simp [Ideal.ofBits, Ideal.ieee, -EReal.coe_mul]; norm_num
  have hlt : (2 : ℝ) ^ (-5 - (h.val : ℝ)) < 1 :=
    Real.rpow_lt_one_of_one_lt_of_neg (by norm_num) (by have : (0 : ℝ) ≤ h.val := Nat.cast_nonneg _; linarith)
  rw [lit_two, e5, sitofp_nat _ (by omega), ← EReal.coe_sub, Ideal.pow_coe_coe, ← EReal.coe_neg]
  show ∃ a : ℝ, Ideal.log (1 + ((-((2 : ℝ) ^ (-5 - (h.val : ℝ))) : ℝ) : EReal)) = _
  rw [← EReal.coe_one, ← EReal.coe_add, Ideal.log_coe, if_neg (by linarith)]
  exact ⟨_, rfl⟩

/-- The pass's data as the arguments give it. -/
def passOf (x0 : FVec Ideal S8192x16384 .bf16) (x1 : IVec S8192 32) (x2 : FVec Ideal S8192x2048 .bf16) : Pass where
  C i l := (val_main_v25 (F := Ideal) x1 (ix2 i l)).toReal
  S i l := (val_main_v27 (F := Ideal) x1 (ix2 i l)).toReal
  L h := (val_main_v94 (F := Ideal) (ix1 h)).toReal
  Q h i d := (x0 (ix2 i ⟨1024 * h.val + d.val, by omega⟩)).toReal
  K h i d := (x0 (ix2 i ⟨1024 * h.val + 256 + d.val, by omega⟩)).toReal
  V h i d := (x0 (ix2 i ⟨1024 * h.val + 512 + d.val, by omega⟩)).toReal
  G h i d := (x0 (ix2 i ⟨1024 * h.val + 768 + d.val, by omega⟩)).toReal
  Ct h i d := (x2 (ix2 i ⟨256 * h.val + d.val, by omega⟩)).toReal

theorem data (x0 : FVec Ideal S8192x16384 .bf16) (x1 : IVec S8192 32) (x2 : FVec Ideal S8192x2048 .bf16)
    (h0 : ∀ i, x0 i = ((x0 i).toReal : EReal)) (h2 : ∀ i, x2 i = ((x2 i).toReal : EReal)) : Data (passOf x0 x1 x2) x0 x1 x2 where
  q _ _ _ := h0 _
  k _ _ _ := h0 _
  v _ _ _ := h0 _
  g _ _ _ := h0 _
  ct _ _ _ := h2 _
  cos i l := by
    obtain ⟨a, ha⟩ := angle x1 i l
    have e : val_main_v25 (F := Ideal) x1 (ix2 i l) = (Real.cos a : EReal) := by
      rw [val_main_v25_apply, ha]; rfl
    show _ = ((val_main_v25 (F := Ideal) x1 (ix2 i l)).toReal : EReal)
    rw [e, EReal.toReal_coe]
  sin i l := by
    obtain ⟨a, ha⟩ := angle x1 i l
    have e : val_main_v27 (F := Ideal) x1 (ix2 i l) = (Real.sin a : EReal) := by
      rw [val_main_v27_apply, ha]; rfl
    show _ = ((val_main_v27 (F := Ideal) x1 (ix2 i l)).toReal : EReal)
    rw [e, EReal.toReal_coe]
  lg h := by
    obtain ⟨a, ha⟩ := gamma h
    show _ = ((val_main_v94 (F := Ideal) (ix1 h)).toReal : EReal)
    rw [ha, EReal.toReal_coe]

end Cert.Ret
-- ==== Proof.Runs.lean ====
/- What a claim asks of a program's runs, from the parts proved of them. -/
module

public import Idealize.ShloMosaic.Lib.Claim

@[expose] public section

noncomputable section

namespace Cert.Runs

open Idealize.ShloMosaic Idealize.ShloMosaic.TcCoe Idealize.SL.Sem

variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val}
  {α : Dev nD → Type} {f : (c : Dev nD) → PUnit × MemSt nD τ sig Val → α c} {a b : (c : Dev nD) → α c}
  {K : Dev nD → PUnit × MemSt nD τ sig Val → Prop}

/-- A result named otherwise. -/
theorem named (h : θ_run defs p s fun r => ∀ c, f c r = a c ∧ K c r) (e : ∀ c, a c = b c) :
    θ_run defs p s fun r => ∀ c, f c r = b c ∧ K c r :=
  (θ_run defs p s).mono (fun r h c => ⟨(h c).1.trans (e c), (h c).2⟩) h

/-- A result read off what a run ends with, beside what the run keeps. -/
theorem with_kept {Q : PUnit × MemSt nD τ sig Val → Prop} (h : θ_run defs p s Q) (hf : ∀ r, Q r → ∀ c, f c r = a c)
    (hk : θ_run defs p s fun r => ∀ c, K c r) : θ_run defs p s fun r => ∀ c, f c r = a c ∧ K c r :=
  (θ_run defs p s).mono (fun r h c => ⟨hf r h.1 c, h.2 c⟩) (θ_run_and h hk)

section

variable {β γ : Dev nD → Type} {f' : (c : Dev nD) → PUnit × MemSt nD τ sig Val → β c} {a' b' : (c : Dev nD) → β c}
  {f'' : (c : Dev nD) → PUnit × MemSt nD τ sig Val → γ c} {a'' b'' : (c : Dev nD) → γ c}

/-- Two results named otherwise. -/
theorem named₂ (h : θ_run defs p s fun r => ∀ c, f c r = a c ∧ f' c r = a' c ∧ K c r)
    (e : ∀ c, a c = b c ∧ a' c = b' c) :
    θ_run defs p s fun r => ∀ c, f c r = b c ∧ f' c r = b' c ∧ K c r :=
  (θ_run defs p s).mono (fun r h c => ⟨(h c).1.trans (e c).1, (h c).2.1.trans (e c).2, (h c).2.2⟩) h

/-- Two results read off what a run ends with, beside what the run keeps. -/
theorem with_kept₂ {Q : PUnit × MemSt nD τ sig Val → Prop} (h : θ_run defs p s Q)
    (hf : ∀ r, Q r → ∀ c, f c r = a c ∧ f' c r = a' c) (hk : θ_run defs p s fun r => ∀ c, K c r) :
    θ_run defs p s fun r => ∀ c, f c r = a c ∧ f' c r = a' c ∧ K c r :=
  (θ_run defs p s).mono (fun r h c => ⟨(hf r h.1 c).1, (hf r h.1 c).2, h.2 c⟩) (θ_run_and h hk)

/-- Three results named otherwise. -/
theorem named₃ (h : θ_run defs p s fun r => ∀ c, f c r = a c ∧ f' c r = a' c ∧ f'' c r = a'' c ∧ K c r)
    (e : ∀ c, a c = b c ∧ a' c = b' c ∧ a'' c = b'' c) :
    θ_run defs p s fun r => ∀ c, f c r = b c ∧ f' c r = b' c ∧ f'' c r = b'' c ∧ K c r :=
  (θ_run defs p s).mono (fun r h c => ⟨(h c).1.trans (e c).1, (h c).2.1.trans (e c).2.1, (h c).2.2.1.trans (e c).2.2, (h c).2.2.2⟩) h

/-- Three results read off what a run ends with, beside what the run keeps. -/
theorem with_kept₃ {Q : PUnit × MemSt nD τ sig Val → Prop} (h : θ_run defs p s Q)
    (hf : ∀ r, Q r → ∀ c, f c r = a c ∧ f' c r = a' c ∧ f'' c r = a'' c) (hk : θ_run defs p s fun r => ∀ c, K c r) :
    θ_run defs p s fun r => ∀ c, f c r = a c ∧ f' c r = a' c ∧ f'' c r = a'' c ∧ K c r :=
  (θ_run defs p s).mono (fun r h c => ⟨(hf r h.1 c).1, (hf r h.1 c).2.1, (hf r h.1 c).2.2, h.2 c⟩) (θ_run_and h hk)

end

/-- A run under a table of bodies written otherwise. -/
theorem of_defs {defs' : Defs nD τ sig Val Λ} {Q : PUnit × MemSt nD τ sig Val → Prop} (e : defs = defs')
    (h : θ_run defs' p s Q) : θ_run defs p s Q :=
  e ▸ h

end Cert.Runs

end
-- ==== Proof.Blocks.lean ====
/- Sums taken a block of terms at a time, and matrix products read at an entry. -/
module

public import Idealize.ShloMosaic.Lib.MatmulPlain
public import Idealize.ShloMosaic.Lib.Pipeline.ValueKit
public import Idealize.ShloMosaic.Lib.Pointwise
public import Idealize.ShloMosaic.PureOps.Ideal.Laws

@[expose] public section

noncomputable section

open Idealize.ShloMosaic
open scoped BigOperators

namespace Cert.Mul

/-- The first `n` terms of a sum. -/
def upto {K : ℕ} (f : Fin K → EReal) (n : ℕ) : EReal := ∑ k ∈ Finset.range n, if h : k < K then f ⟨k, h⟩ else 0

theorem upto_zero {K : ℕ} (f : Fin K → EReal) : upto f 0 = 0 := rfl

/-- The next block of terms. -/
theorem upto_add {K : ℕ} (f : Fin K → EReal) (n T : ℕ) (h : n + T ≤ K) :
    upto f (n + T) = upto f n + ∑ i : Fin T, f ⟨n + i.val, by omega⟩ := by
  unfold upto
  rw [Finset.sum_range_add, Finset.sum_range (n := T)]
  exact congrArg (_ + ·) (Finset.sum_congr rfl fun i _ => dif_pos _)

/-- All of them. -/
theorem upto_all {K : ℕ} (f : Fin K → EReal) : upto f K = ∑ k, f k := by
  unfold upto
  rw [Finset.sum_range]
  exact Finset.sum_congr rfl fun i _ => dif_pos i.isLt

/-- A sum over two blocks of terms, given by where they start. -/
theorem two_halves (f : Fin 8192 → EReal) (a b : ℕ) (ha : 4096 * a = 0) (hb : 4096 * b = 4096) :
    (∑ k : Fin 4096, f ⟨4096 * a + k.val, by omega⟩) + ∑ k : Fin 4096, f ⟨4096 * b + k.val, by omega⟩ = ∑ k, f k := by
  obtain rfl : a = 0 := by omega
  obtain rfl : b = 1 := by omega
  have h0 : upto f 4096 = ∑ i : Fin 4096, f ⟨0 + i.val, by omega⟩ := (upto_add f 0 4096 (by decide)).trans (by rw [upto_zero, zero_add])
  exact (congrArg (· + _) h0.symm).trans ((upto_add f 4096 4096 (by decide)).symm.trans (upto_all f))

/-- A product of vectors with zeros appended. -/
theorem sum_padded {K L : ℕ} (f g : Fin K → EReal) :
    ∑ k : Fin (K + L), (if h : k.val < K then f ⟨k.val, h⟩ else 0) * (if h : k.val < K then g ⟨k.val, h⟩ else 0) = ∑ k, f k * g k := by
  rw [Fin.sum_univ_add]
  have hr : ∑ i : Fin L, (if h : (Fin.natAdd K i).val < K then f ⟨(Fin.natAdd K i).val, h⟩ else 0)
      * (if h : (Fin.natAdd K i).val < K then g ⟨(Fin.natAdd K i).val, h⟩ else 0) = 0 :=
    Finset.sum_eq_zero fun i _ => by
      have hi : ¬ (Fin.natAdd K i).val < K := by rw [Fin.val_natAdd]; omega
      rw [dif_neg hi, zero_mul]
  rw [hr, add_zero]
  refine Finset.sum_congr rfl fun i _ => ?_
  have hi : (Fin.castAdd L i).val < K := i.isLt
  rw [dif_pos hi, dif_pos hi]
  rfl

theorem zero_word : Ideal.ofBits .f32 0x00000000#32 = 0 := by simp [Ideal.ofBits, Ideal.ieee]

/-- The two ways of writing an index of a matrix. -/
theorem same_ix {M N : ℕ} (r : Fin M) (n : Fin N) : ValueIdx.ix2 r n = ix2 r n := funext fun a => by fin_cases a <;> rfl

/-- A matrix of extended reals. -/
abbrev Mat (M N : ℕ) := (⟨2, ![M, N]⟩ : Shape).Idx → EReal

/-- An index of a matrix by its row and column. -/
theorem pair {M N : ℕ} (y : (⟨2, ![M, N]⟩ : Shape).Idx) : y = ix2 (n0 := M) (n1 := N) (y 0) (y 1) := funext fun a => by fin_cases a <;> rfl

/-- The terms of an entry of a product. -/
def terms {M K N : ℕ} (x : Mat M K) (y : Mat K N) (r : Fin M) (n : Fin N) (k : Fin K) : EReal := x (ix2 r k) * y (ix2 k n)

/-- The terms of an entry of a product by a transposed matrix. -/
def termsT {M K N : ℕ} (x : Mat M K) (y : Mat N K) (r : Fin M) (n : Fin N) (k : Fin K) : EReal := x (ix2 r k) * y (ix2 n k)

/-- A product of matrices. -/
def product {M K N : ℕ} (x : Mat M K) (y : Mat K N) : Mat M N := fun i => ∑ k, terms x y (i 0) (i 1) k

/-- A product by a transposed matrix. -/
def productT {M K N : ℕ} (x : Mat M K) (y : Mat N K) : Mat M N := fun i => ∑ k, termsT x y (i 0) (i 1) k

section

variable {M K N : ℕ} {φ₁ φ₂ : FTy} (prec : Option ContractPrecision)

/-- A product added to zeros. -/
theorem plain_at (D : DotDims ⟨2, ![M, K]⟩ ⟨2, ![K, N]⟩ ⟨2, ![M, N]⟩) (hD : D = DotDims.plain M K N)
    (x : FVec Ideal ⟨2, ![M, K]⟩ φ₁) (y : FVec Ideal ⟨2, ![K, N]⟩ φ₂) (r : Fin M) (n : Fin N) :
    FloatOps.matmul (F := Ideal) D prec x y (constant ⟨2, ![M, N]⟩ .f32 0x00000000#32) (ix2 r n) = ∑ k, terms x y r n k := by
  subst hD
  rw [← same_ix, Ideal.matmul_plain_apply]
  simp only [same_ix]
  rw [show constant (F := Ideal) ⟨2, ![M, N]⟩ .f32 0x00000000#32 (ix2 r n) = 0 from zero_word, zero_add]
  rfl

/-- A product by a transposed matrix added to zeros. -/
theorem transposed_at (D : DotDims ⟨2, ![M, K]⟩ ⟨2, ![N, K]⟩ ⟨2, ![M, N]⟩) (hD : D = DotDims.transposedRhs M K N)
    (x : FVec Ideal ⟨2, ![M, K]⟩ φ₁) (y : FVec Ideal ⟨2, ![N, K]⟩ φ₂) (r : Fin M) (n : Fin N) :
    FloatOps.matmul (F := Ideal) D prec x y (constant ⟨2, ![M, N]⟩ .f32 0x00000000#32) (ix2 r n) = ∑ k, termsT x y r n k := by
  subst hD
  rw [← same_ix, Ideal.matmul_transposedRhs_apply]
  simp only [same_ix]
  rw [show constant (F := Ideal) ⟨2, ![M, N]⟩ .f32 0x00000000#32 (ix2 r n) = 0 from zero_word, zero_add]
  rfl

end

theorem origin : (![0, 0] : Fin 2 → ℕ) = fun _ => 0 := funext fun a => by fin_cases a <;> rfl

end Cert.Mul

end
-- ==== Proof.GWin.lean ====
/- The gradient of the input projection's weights, half of its rows: the kernel's result and the reference's. -/
module

public import proofs.«01_k».proof.Defs
public import proofs.«01_k».proof.Proof.Blocks
public import proofs.«01_k».proof.Proof.Gen.Kernel5Ideal.Frame
public import proofs.«01_k».proof.Proof.Gen.Reference5Ideal.Read
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mul

/-- Half of a product's rows. -/
def half {N : ℕ} (h : Fin 2) (x : Mat 2048 8192) (y : Mat 8192 N) : Mat 1024 N :=
  fun i => product x y (ix2 (n0 := 2048) ⟨1024 * h.val + (i 0).val, by have := (i 0).isLt; have := h.isLt; dsimp at *; omega⟩ (i 1))

/-- The choice of a half by a word that is 0 or 1. -/
theorem select_half {N : ℕ} (h : Fin 2) (x : Mat 2048 8192) (y : Mat 8192 N) (w : BitVec 32) (hw : w = BitVec.ofNat 32 h.val) (r : Fin 1024) (n : Fin N)
    (a b : Fin 2048) (ha : a.val = r.val) (hb : b.val = 1024 + r.val) :
    Scalar.select (IntOp.cmpi .eq w 0#32) (product x y (ix2 a n)) (product x y (ix2 b n)) = half h x y (ix2 r n) := by
  match h, hw with
  | 0, hw =>
    refine (congrArg (fun v => Scalar.select (IntOp.cmpi .eq v 0#32) _ _) hw).trans ?_
    exact congrArg (fun l => product x y (ix2 l n)) (Fin.ext (by simpa using ha))
  | 1, hw =>
    refine (congrArg (fun v => Scalar.select (IntOp.cmpi .eq v 0#32) _ _) hw).trans ?_
    exact congrArg (fun l => product x y (ix2 l n)) (Fin.ext (by simpa using hb))

/-- What the precondition says of the word. -/
theorem half_of_word (w : BitVec 32) (e : IntOp.ori (IntOp.cmpi .eq w 0#32) (IntOp.cmpi .eq w 1#32) = 1#1) : ∃ h : Fin 2, w = BitVec.ofNat 32 h.val := by
  by_cases h0 : w = 0#32
  · exact ⟨0, h0⟩
  by_cases h1 : w = 1#32
  · exact ⟨1, h1⟩
  exact absurd e (by simp [IntOp.ori, IntOp.cmpi, beq_eq_false_iff_ne.2 h0, beq_eq_false_iff_ne.2 h1])

end Cert.Mul

namespace Cert.Kernel5Ideal.Mul

open Cert.Kernel5Ideal Cert.Kernel5Ideal.Gen Cert.Mul

/-! The half of the rows is a word the kernel reads before it starts. -/

/-- The block of rows and the block of terms at a point, by the half's word. -/
def rowsOf (w : BitVec 32) (i : grid0.Coords) : Fin 2 → Nat :=
  ![(Scalar.addi (BitVec.ofNat 32 (i 0).val) w).toNat,
    (Scalar.addi 0#32 (Scalar.minsi 1#32 (Scalar.maxsi 0#32 (Scalar.subi (BitVec.ofNat 32 (i 2).val) 0#32)))).toNat]

theorem rowsOf_eq : ∀ (h : Fin 2) (t : Fin grid0.N), rowsOf (BitVec.ofNat 32 h.val) (grid0.coords t) = ![h.val, t.val % 2] := by
  decide +kernel

theorem rowsOf_inside : ∀ (h : Fin 2) (i : grid0.Coords),
    ∃ hb : (∀ a, (rowsOf (BitVec.ofNat 32 h.val) i a + 1) * S1024x4096.size a ≤ S2048x8192.size a), EltTy.bits .bf16 = 32
      ∨ (Rect.block (s := S2048x8192) S1024x4096.size (rowsOf (BitVec.ofNat 32 h.val) i) hb).WholeWords (EltTy.packing .bf16) := by
  decide +kernel

section

variable {F : FTy → Type} [FloatOps F] (m : (ℓ : Loc nD τ sig) → Buf (Elt F) ℓ)

/-- The word. -/
def word : BitVec 32 := (m (((0 : Dev nD) : Thread nD τ).loc main_arg2) : IVec S1 32) (ix1 0)

theorem map0 (i : grid0.Coords) : cc0_transform_0 inb_S1_S1_0 numel1_S1 (tbl m) i = rowsOf (word m) i := by
  unfold cc0_transform_0 rowsOf
  rw [show (tbl m).at 0 (Rect.unit (s := S1) ![0] S1.size inb_S1_S1_0) numel1_S1 = word m from
    congrArg (m (((0 : Dev nD) : Thread nD τ).loc main_arg2) : IVec S1 32) (funext fun a => by fin_cases a; rfl)]

/-- The kernel's condition on the word. -/
theorem ok (h : Fin 2) (hw : word m = BitVec.ofNat 32 h.val) : Ok m := fun i => by
  rw [map0, hw]
  exact rowsOf_inside h i

end

variable (m : (ℓ : Loc nD τ sig) → Buf (Elt Ideal) ℓ) (hO : Ok m) (h : Fin 2) (hw : word m = BitVec.ofNat 32 h.val) (c : Dev nD)

include hw in
theorem idx0 (t : Fin (cfgM m hO).N) : ((cfgM m hO).win 0).index t = ![h.val, t.val % 2] := by
  refine (map0 m (grid0.coords t)).trans ?_
  rw [hw]
  exact rowsOf_eq h t

theorem idx1 (t : Fin (cfgM m hO).N) : ((cfgM m hO).win 1).index t = ![t.val % 2, t.val / 2] :=
  (by decide +kernel : ∀ t : Fin grid0.N, cc0_transform_1 (grid0.coords t) = ![t.val % 2, t.val / 2]) t

theorem idx2 (t : Fin (cfgM m hO).N) : ((cfgM m hO).win 2).index t = ![0, t.val / 2] :=
  (by decide +kernel : ∀ t : Fin grid0.N, cc0_transform_2 (grid0.coords t) = ![0, t.val / 2]) t

include hw in
theorem blk0 (t : Fin (cfgM m hO).N) (r : Fin 1024) (k : Fin 4096) (i : Fin 2048) (l : Fin 8192) (hi : i.val = 1024 * h.val + r.val)
    (hl : l.val = 4096 * (t.val % 2) + k.val) : iblk m hO c 0 t (ix2 r k) = m ((c : Thread nD τ).loc main_arg0) (ix2 i l) := by
  obtain ⟨i, _⟩ := i
  obtain ⟨l, _⟩ := l
  subst hi hl
  rw [← V_main_arg0 m c]; blk_ext [iblk, idx0 m hO h hw t]

theorem blk1 (t : Fin (cfgM m hO).N) (k : Fin 4096) (n : Fin 1024) (l : Fin 8192) (j : Fin 22528) (hl : l.val = 4096 * (t.val % 2) + k.val)
    (hj : j.val = 1024 * (t.val / 2) + n.val) : iblk m hO c 1 t (ix2 k n) = m ((c : Thread nD τ).loc main_arg1) (ix2 l j) := by
  obtain ⟨j, _⟩ := j
  obtain ⟨l, _⟩ := l
  subst hj hl
  rw [← V_main_arg1 m c]; blk_ext [iblk, idx1 m hO t]

include hw in
/-- The terms of a block. -/
theorem block_sum (t : Fin (cfgM m hO).N) (r n : Fin 1024) (i : Fin 2048) (j : Fin 22528) (hi : i.val = 1024 * h.val + r.val)
    (hj : j.val = 1024 * (t.val / 2) + n.val) : ∑ k, terms (iblk m hO c 0 t) (iblk m hO c 1 t) r n k
      = ∑ k : Fin 4096, terms (m ((c : Thread nD τ).loc main_arg0)) (m ((c : Thread nD τ).loc main_arg1)) i j
          ⟨4096 * (t.val % 2) + k.val, by omega⟩ :=
  Finset.sum_congr rfl fun k _ => congrArg₂ (· * ·) (blk0 m hO h hw c t r k i _ hi rfl) (blk1 m hO c t k n _ j rfl hj)

/-- A block added. -/
theorem added_at (a : FVec Ideal S1024x1024 .f32) (x : FVec Ideal S1024x4096 .bf16) (y : FVec Ideal S4096x1024 .bf16) (r n : Fin 1024) :
    k0_pay2 a x y (ix2 r n) = a (ix2 r n) + ∑ k, terms x y r n k := by
  unfold k0_pay2
  rw [shapeCast_self]
  exact congrArg (a (ix2 r n) + ·) (plain_at (φ₁ := .bf16) (φ₂ := .bf16) none _ rfl x y r n)

/-- The blocks as the body reads them. -/
theorem staged (t : Fin (cfgM m hO).N) (r n : Fin 1024) :
    ∑ k, terms (M := 1024) (K := 4096) (N := 1024) (View.read (Elt Ideal) (ms0_0 m hO t).view ((hs0_0 m hO t).unread (iblk m hO c 0 t)))
      (View.read (Elt Ideal) (ms0_1 m hO t).view ((hs0_1 m hO t).unread (iblk m hO c 1 t))) r n k
      = ∑ k, terms (iblk m hO c 0 t) (iblk m hO c 1 t) r n k :=
  congrArg₂ (fun (x : Mat 1024 4096) (y : Mat 4096 1024) => ∑ k, terms x y r n k)
    ((hs0_0 m hO t).read_unread (iblk m hO c 0 t)) ((hs0_1 m hO t).read_unread (iblk m hO c 1 t))

/-- The sum after the first block. -/
theorem acc_first (t : Fin (cfgM m hO).N) (ht : t.val % 2 = 0) (r n : Fin 1024) :
    (outsAt0 m hO c t.val t.isLt).2 (ix2 r n) = ∑ k, terms (iblk m hO c 0 t) (iblk m hO c 1 t) r n k := by
  rw [outsAt0_A m hO c t ht (by omega)]
  frame_out
  rw [added_at, show k0_pay1 (F := Ideal) (ix2 r n) = 0 from by unfold k0_pay1; rw [shapeCast_self]; exact zero_word, zero_add]
  exact staged m hO c t r n

/-- The second block, and what is stored. -/
theorem out_last (t : Fin (cfgM m hO).N) (ht : t.val % 2 = 1) (r n : Fin 1024) : (outsAt0 m hO c t.val t.isLt).1 (ix2 r n)
    = (outsAt0 m hO c (t.val - 1) (lt_of_le_of_lt (Nat.sub_le _ _) t.isLt)).2 (ix2 r n) + ∑ k, terms (iblk m hO c 0 t) (iblk m hO c 1 t) r n k := by
  rw [outsAt0_B m hO c t (by omega) ht]
  frame_out
  exact (added_at _ _ _ r n).trans (congrArg₂ (· + ·) (by rw [read_unread_whole]) (staged m hO c t r n))

include hw in
/-- A block of the result. -/
theorem block_at (t : Fin (cfgM m hO).N) (ht : t.val % 2 = 1) (r n : Fin 1024) (i : Fin 2048) (j : Fin 22528) (hi : i.val = 1024 * h.val + r.val)
    (hj : j.val = 1024 * (t.val / 2) + n.val) : (outsAt0 m hO c t.val t.isLt).1 (ix2 r n)
      = product (m ((c : Thread nD τ).loc main_arg0)) (m ((c : Thread nD τ).loc main_arg1)) (ix2 i j) := by
  have hp : t.val - 1 < (cfgM m hO).N := lt_of_le_of_lt (Nat.sub_le _ _) t.isLt
  refine (out_last m hO c t ht r n).trans ((congrArg₂ (· + ·) ((acc_first m hO c ⟨t.val - 1, hp⟩ (by dsimp only; omega) r n).trans
    (block_sum m hO h hw c ⟨t.val - 1, hp⟩ r n i j hi (by dsimp only; omega))) (block_sum m hO h hw c t r n i j hi hj)).trans ?_)
  refine (two_halves _ _ _ (by dsimp only; omega) (by omega)).trans ?_
  rfl

theorem covers : ((cfgM m hO).win 2).CoversWhere fun _ => True :=
  ⟨(by decide : ∀ a : Fin 2, 0 < S1024x1024.size a), fun t _ => ⟨trivial, fun a => Or.inl rfl⟩, fun β _ =>
    ((by decide +kernel : ∀ β : (a : Fin 2) → Fin ((S1024x22528.size a + S1024x1024.size a - 1) / S1024x1024.size a),
      ∃ t : Fin grid0.N, (∀ a, cc0_transform_2 (grid0.coords t) a = β a) ∧ t.val % 2 = 1) β).imp
      fun t ht => ⟨ht.1, (flush0_2 _ t).2 ht.2⟩⟩

include hw in
/-- The kernel's result. -/
theorem final : (dats m hO 0 c).arrAt 2 (cfgM m hO).N
    = half h (m ((c : Thread nD τ).loc main_arg0)) (m ((c : Thread nD τ).loc main_arg1)) := by
  refine ((dats m hO 0 c).arrAt_eq_of_coversWhere 2 (half h (m ((c : Thread nD τ).loc main_arg0)) (m ((c : Thread nD τ).loc main_arg1)))
    (fun _ => True) (covers m hO) (fun t hf y => ?_) (fun j => Iff.rfl)).trans (funext fun i => if_pos trivial)
  blk_simp
  rw [after0_2]
  refine (congrArg (outsAt0 m hO c t.val t.isLt).1 (pair y)).trans (block_at m hO h hw c t ((flush0_2 _ t).1 hf) _ _ _ _ ?_ ?_) <;>
    (blk_simp [idx2 m hO t]; try (dsimp only; omega))

/-- The reference's result. -/
theorem reference_at (x : FVec Ideal S2048x8192 .bf16) (y : FVec Ideal S8192x22528 .bf16) (w : IVec S1 32) (hx : w (ix1 0) = BitVec.ofNat 32 h.val) :
    Cert.Reference5Ideal.Read.val_main_v11 (F := Ideal) x y w = half h x y := by
  funext i
  rw [pair i]
  pointwise [Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_c, Cert.Reference5Ideal.Read.val_main_v6, Cert.Reference5Ideal.Read.val_main_v5, Cert.Reference5Ideal.Read.val_main_v4, Cert.Reference5Ideal.Read.val_main_v1, Cert.Reference5Ideal.Read.val_main_v0]
  have hsum : ∀ l : Fin 2048, ∑ k, y (ix2 k (i 1)) * x (ix2 l k) = product x y (ix2 l (i 1)) :=
    fun l => Finset.sum_congr rfl fun k _ => mul_comm _ _
  refine (congrArg₂ (Scalar.select _) (hsum _) (hsum _)).trans ?_
  exact select_half h x y _ hx (i 0) (i 1) _ _ (by simp) (by simp)

/-- The precondition on the half. -/
theorem half_of_pre {F : FTy → Type} [FloatOps F] [Cert.Pre_either_half.Facts] (x : FVec F S2048x8192 .bf16) (y : FVec F S8192x22528 .bf16) (w : IVec S1 32)
    (hp : Cert.Pre_either_half.fn (F := F) x y w = fun _ => 1#1) : ∃ h : Fin 2, w (ix1 0) = BitVec.ofNat 32 h.val := by
  have e := congrFun hp Idealize.ShloMosaic.ix0
  have hs : shapeCast Cert.Pre_either_half.S_ w Cert.Pre_either_half.Facts.shapeCasts_S1_S_ Idealize.ShloMosaic.ix0 = w (ix1 0) :=
    congrArg w (funext fun a => by fin_cases a; exact Subsingleton.elim (α := Fin 1) _ _)
  refine half_of_word _ ?_
  rw [← hs]
  exact e

end Cert.Kernel5Ideal.Mul

end
-- ==== Proof.NormStrips.lean ====
/- The strips of the norm's backward pass do not depend on what the output's buffer held before, nor on how the sums' buffer came to hold what it reads. -/
module

public import proofs.«01_k».proof.Proof.Gen.Kernel17Ideal.Frame.Runs

@[expose] public section

set_option maxRecDepth 16384

noncomputable section

namespace Cert.Kernel17Ideal.Gen

open Idealize.ShloMosaic Idealize.ShloMosaic.TcCoe

variable {F : FTy → Type} [FloatOps F]

/-- Stores over contents that read the same read the same. -/
theorem read_writes_congr {sig : RefSig} {κ : Kind} {sp : Space} {s : Shape} {e : EltTy} (v : View sig κ sp s e)
    {f g : v.ty.Contents (Elt F)} (h : v.read (Elt F) f = v.read (Elt F) g) (L : List (View.Piece (Elt F) s e)) :
    v.read (Elt F) (v.writes (Elt F) f L) = v.read (Elt F) (v.writes (Elt F) g L) := by
  induction L with
  | nil => exact h
  | cons p L ih =>
    funext y
    by_cases hy : y ∈ p.1.set
    · obtain ⟨r, w⟩ := p
      obtain ⟨x, rfl⟩ : ∃ x, r.emb x = y := r.exists_idx_of_mem hy
      rw [View.read_writes_cons_emb, View.read_writes_cons_emb]
    · have hy' : y ∉ Finset.univ.map p.1.emb := by rwa [Rect.map_emb_univ]
      rw [View.writes_cons, View.writes_cons, View.read_slice_write_of_not_mem p.1 _ _ _ hy', View.read_slice_write_of_not_mem p.1 _ _ _ hy']
      exact congrFun ih y

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole)
  (X1 : BufTy.Contents (Elt F) arg1.view.ty) (X2 : BufTy.Contents (Elt F) arg2.view.ty) (X3 : BufTy.Contents (Elt F) arg3.view.ty) (X4 : BufTy.Contents (Elt F) arg4.view.ty)

/-- One trip's stores. -/
theorem trip_free (k : Fin k0_t1_loop.trips) {f f' : BufTy.Contents (Elt F) arg5.view.ty} {g g' : BufTy.Contents (Elt F) arg7.view.ty}
    (h : arg7.view.read (Elt F) g = arg7.view.read (Elt F) g') :
    tripL_k0_t1 (F := F) Variants.none c none i arg1 harg1 arg2 harg2 arg3 harg3 arg4 harg4 arg5 harg5 arg6 harg6 arg7 harg7 X1 X2 X3 X4 k f g
      = tripL_k0_t1 (F := F) Variants.none c none i arg1 harg1 arg2 harg2 arg3 harg3 arg4 harg4 arg5 harg5 arg6 harg6 arg7 harg7 X1 X2 X3 X4 k f' g' := by
  have e : arg7.view.readAt (Elt F) (Rect.unit (s := S16x2048) ![0, 0] S16x2048.size inb_S16x2048_S16x2048_0_0).toLoadRect g
      = arg7.view.readAt (Elt F) (Rect.unit (s := S16x2048) ![0, 0] S16x2048.size inb_S16x2048_S16x2048_0_0).toLoadRect g' :=
    congrArg (fun r : Vec F S16x2048 .f32 => fun y => r ((Rect.unit (s := S16x2048) ![0, 0] S16x2048.size inb_S16x2048_S16x2048_0_0).toLoadRect.idx y)) h
  unfold tripL_k0_t1 trip_k0_t1
  dsimp only
  rw [e]

/-- The first trips' stores. -/
theorem trips_free (n : ℕ) (hn : n ≤ k0_t1_loop.trips) {f f' : BufTy.Contents (Elt F) arg5.view.ty} {g g' : BufTy.Contents (Elt F) arg7.view.ty}
    (h : arg7.view.read (Elt F) g = arg7.view.read (Elt F) g') :
    pb_k0_t1 (F := F) Variants.none c none i arg1 harg1 arg2 harg2 arg3 harg3 arg4 harg4 arg5 harg5 arg6 harg6 arg7 harg7 X1 X2 X3 X4 f g n
      = pb_k0_t1 (F := F) Variants.none c none i arg1 harg1 arg2 harg2 arg3 harg3 arg4 harg4 arg5 harg5 arg6 harg6 arg7 harg7 X1 X2 X3 X4 f' g' n := by
  induction n with
  | zero => rfl
  | succ n ih =>
    have ih := ih (Nat.le_of_succ_le hn)
    rw [pb_k0_t1_succ Variants.none c none i arg1 harg1 arg2 harg2 arg3 harg3 arg4 harg4 arg5 harg5 arg6 harg6 arg7 harg7 X1 X2 X3 X4 f g ⟨n, hn⟩, pb_k0_t1_succ Variants.none c none i arg1 harg1 arg2 harg2 arg3 harg3 arg4 harg4 arg5 harg5 arg6 harg6 arg7 harg7 X1 X2 X3 X4 f' g' ⟨n, hn⟩]
    rw [ih]
    have t := trip_free c i arg1 harg1 arg2 harg2 arg3 harg3 arg4 harg4 arg5 harg5 arg6 harg6 arg7 harg7 X1 X2 X3 X4 ⟨n, hn⟩ (f := arg5.view.writes (Elt F) f (pb_k0_t1 (F := F) Variants.none c none i arg1 harg1 arg2 harg2 arg3 harg3 arg4 harg4 arg5 harg5 arg6 harg6 arg7 harg7 X1 X2 X3 X4 f' g' n).1) (f' := arg5.view.writes (Elt F) f' (pb_k0_t1 (F := F) Variants.none c none i arg1 harg1 arg2 harg2 arg3 harg3 arg4 harg4 arg5 harg5 arg6 harg6 arg7 harg7 X1 X2 X3 X4 f' g' n).1) (read_writes_congr arg7.view h (pb_k0_t1 (F := F) Variants.none c none i arg1 harg1 arg2 harg2 arg3 harg3 arg4 harg4 arg5 harg5 arg6 harg6 arg7 harg7 X1 X2 X3 X4 f' g' n).2)
    exact congrArg (fun q : List (View.Piece (Elt F) S256x2048 .f32) × List (View.Piece (Elt F) S16x2048 .f32) => (q.1 ++ (pb_k0_t1 (F := F) Variants.none c none i arg1 harg1 arg2 harg2 arg3 harg3 arg4 harg4 arg5 harg5 arg6 harg6 arg7 harg7 X1 X2 X3 X4 f' g' n).1, q.2 ++ (pb_k0_t1 (F := F) Variants.none c none i arg1 harg1 arg2 harg2 arg3 harg3 arg4 harg4 arg5 harg5 arg6 harg6 arg7 harg7 X1 X2 X3 X4 f' g' n).2)) t

end Cert.Kernel17Ideal.Gen

end
-- ==== Proof.NormRun.lean ====
/- The runs of the norm's backward body, point by point. The pieces stored are named over fixed contents of the output's buffer, on which they do not depend. -/
module

public import proofs.«01_k».proof.Proof.NormStrips

@[expose] public section

set_option maxRecDepth 16384

noncomputable section

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the first point: the sums' buffer is cleared, then the strips are taken. -/
noncomputable def kernelRun0_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : cond0_0 i) (hc1 : ¬cond0_1 i)
    (x0 : Vec F S256x2048 .f32) (x1 : Vec F S1x2048 .f32) (x2 : Vec F S256x2048 .bf16) (x3 : Vec F S256x2048 .f32) :
    Σ' (L4 : List (View.Piece (Elt F) S256x2048 .f32)), Σ' (L5 : List (View.Piece (Elt F) S1x2048 .f32)), { LS0 : List (View.Piece (Elt F) S16x2048 .f32) //
      ∀ (xi5 : Vec F S1x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0_norm1_bwd i arg1 harg1 arg2 harg2 arg3 harg3 arg4 harg4 arg5 harg5 arg6 harg6 arg7 harg7) K } := by
  refine ⟨?_, [], ?_, fun xi5 E K => ?run⟩
  case run =>
    simp only [cc0_norm1_bwd_eq_skeleton]; unfold cc0_norm1_bwd_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1)
    sl_step
    have e := trips_free (F := F) c i arg1 harg1 arg2 harg2 arg3 harg3 arg4 harg4 arg5 harg5 arg6 harg6 arg7 harg7 (harg1.unread x0) (harg2.unread x1) (harg3.unread x2) (harg4.unread x3) (Scf.trips k0_t1_loop.lb k0_t1_loop.ub k0_t1_loop.st) (le_refl _)
      (f := f4) (f' := arg5.view.junk) (g := (arg7.view.writes (Elt F) arg7.view.junk kernelRun0_A.sl.HS0_1)) rfl
    rw [e]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexists _; iexact HS0

set_option maxHeartbeats 1000000 in
/-- The body's run at a middle point: the strips are taken over the sums the point before left. -/
noncomputable def kernelRun0_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : ¬cond0_1 i)
    (x0 : Vec F S256x2048 .f32) (x1 : Vec F S1x2048 .f32) (x2 : Vec F S256x2048 .bf16) (x3 : Vec F S256x2048 .f32) (xs0 : Vec F S16x2048 .f32) :
    Σ' (L4 : List (View.Piece (Elt F) S256x2048 .f32)), Σ' (L5 : List (View.Piece (Elt F) S1x2048 .f32)), { LS0 : List (View.Piece (Elt F) S16x2048 .f32) //
      ∀ (xi5 : Vec F S1x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0_norm1_bwd i arg1 harg1 arg2 harg2 arg3 harg3 arg4 harg4 arg5 harg5 arg6 harg6 arg7 harg7) K } := by
  refine ⟨?_, [], ?_, fun xi5 E K => ?run⟩
  case run =>
    simp only [cc0_norm1_bwd_eq_skeleton]; unfold cc0_norm1_bwd_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hfs0
    sl_exec (disch := first | sl_exact hc0 | sl_exact hc1)
    sl_step
    have e := trips_free (F := F) c i arg1 harg1 arg2 harg2 arg3 harg3 arg4 harg4 arg5 harg5 arg6 harg6 arg7 harg7 (harg1.unread x0) (harg2.unread x1) (harg3.unread x2) (harg4.unread x3) (Scf.trips k0_t1_loop.lb k0_t1_loop.ub k0_t1_loop.st) (le_refl _)
      (f := f4) (f' := arg5.view.junk) (g := (harg7.unread xs0)) rfl
    rw [e]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexists _; iexact HS0

set_option maxHeartbeats 1000000 in
/-- The body's run at the last point: the strips are taken, and the sums are added up. -/
noncomputable def kernelRun0_C (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) :
    Σ' (L4 : List (View.Piece (Elt F) S256x2048 .f32)), Σ' (L5 : List (View.Piece (Elt F) S1x2048 .f32)), { LS0 : List (View.Piece (Elt F) S16x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_norm1_bwd i arg1 harg1 arg2 harg2 arg3 harg3 arg4 harg4 arg5 harg5 arg6 harg6 arg7 harg7) K } := by
  refine ⟨?_, ?_, ?_, fun E K => ?run⟩
  case run =>
    simp only [cc0_norm1_bwd_eq_skeleton]; unfold cc0_norm1_bwd_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    have e := trips_free (F := F) c i arg1 harg1 arg2 harg2 arg3 harg3 arg4 harg4 arg5 harg5 arg6 harg6 arg7 harg7 (harg1.unread x0) (harg2.unread x1) (harg3.unread x2) (harg4.unread x3) (Scf.trips k0_t1_loop.lb k0_t1_loop.ub k0_t1_loop.st) (le_refl _)
      (f := f4) (f' := arg5.view.junk) (g := (harg7.unread xs0)) rfl
    unfold kernelRun0_C.sl.v7
    rw [e]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel17Ideal.Gen

end
-- ==== Proof.NormFrame.lean ====
/- The norm's backward program runs without fault and leaves its arguments as they were; what its blocks hold is named point by point. -/
module

public import proofs.«01_k».proof.Proof.NormRun
public import Idealize.ShloMosaic.Lib.Claim

@[expose] public section

set_option maxRecDepth 16384

noncomputable section

namespace Cert.Kernel17Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored at the first point cover the output block; the ones below say the same of the other points and of the sums. -/
theorem cover0_A_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : cond0_0 i) (hc1 : ¬cond0_1 i)
    (x0 : Vec F S256x2048 .f32) (x1 : Vec F S1x2048 .f32) (x2 : Vec F S256x2048 .bf16) (x3 : Vec F S256x2048 .f32) (y : S256x2048.Idx) :
    ∃ pc ∈ (kernelRun0_A c i arg1 harg1 arg2 harg2 arg3 harg3 arg4 harg4 arg5 harg5 arg6 harg6 arg7 harg7 hc0 hc1 x0 x1 x2 x3).1, y ∈ pc.1.set :=
  View.cover_of_tiledL (kernelRun0_A c i arg1 harg1 arg2 harg2 arg3 harg3 arg4 harg4 arg5 harg5 arg6 harg6 arg7 harg7 hc0 hc1 x0 x1 x2 x3).1 S16x2048.size (by sl_kernel_rfl) y

/-- What a point leaves in the output block, in the total and in the running sums. -/
def out0_A_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : cond0_0 i) (hc1 : ¬cond0_1 i)
    (x0 : Vec F S256x2048 .f32) (x1 : Vec F S1x2048 .f32) (x2 : Vec F S256x2048 .bf16) (x3 : Vec F S256x2048 .f32) : Vec F S256x2048 .f32 :=
  VO0_4.read (Elt F) (VO0_4.writes (Elt F) VO0_4.junk (kernelRun0_A c i arg1 harg1 arg2 harg2 arg3 harg3 arg4 harg4 arg5 harg5 arg6 harg6 arg7 harg7 hc0 hc1 x0 x1 x2 x3).1)

def out0_A_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : cond0_0 i) (hc1 : ¬cond0_1 i)
    (x0 : Vec F S256x2048 .f32) (x1 : Vec F S1x2048 .f32) (x2 : Vec F S256x2048 .bf16) (x3 : Vec F S256x2048 .f32) : Vec F S1x2048 .f32 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3).2.1)

theorem scover0_A_0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : cond0_0 i) (hc1 : ¬cond0_1 i)
    (x0 : Vec F S256x2048 .f32) (x1 : Vec F S1x2048 .f32) (x2 : Vec F S256x2048 .bf16) (x3 : Vec F S256x2048 .f32) (y : S16x2048.Idx) :
    ∃ pc ∈ (kernelRun0_A c i arg1 harg1 arg2 harg2 arg3 harg3 arg4 harg4 arg5 harg5 arg6 harg6 arg7 harg7 hc0 hc1 x0 x1 x2 x3).2.2.1, y ∈ pc.1.set :=
  View.cover_of_tiledL (kernelRun0_A c i arg1 harg1 arg2 harg2 arg3 harg3 arg4 harg4 arg5 harg5 arg6 harg6 arg7 harg7 hc0 hc1 x0 x1 x2 x3).2.2.1 S16x2048.size (by sl_kernel_rfl) y

def sout0_A_0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : cond0_0 i) (hc1 : ¬cond0_1 i)
    (x0 : Vec F S256x2048 .f32) (x1 : Vec F S1x2048 .f32) (x2 : Vec F S256x2048 .bf16) (x3 : Vec F S256x2048 .f32) : Vec F S16x2048 .f32 :=
  VS0_0.read (Elt F) (VS0_0.writes (Elt F) VS0_0.junk (kernelRun0_A c i arg1 harg1 arg2 harg2 arg3 harg3 arg4 harg4 arg5 harg5 arg6 harg6 arg7 harg7 hc0 hc1 x0 x1 x2 x3).2.2.1)

theorem cover0_B_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : ¬cond0_1 i)
    (x0 : Vec F S256x2048 .f32) (x1 : Vec F S1x2048 .f32) (x2 : Vec F S256x2048 .bf16) (x3 : Vec F S256x2048 .f32) (xs0 : Vec F S16x2048 .f32) (y : S256x2048.Idx) :
    ∃ pc ∈ (kernelRun0_B c i arg1 harg1 arg2 harg2 arg3 harg3 arg4 harg4 arg5 harg5 arg6 harg6 arg7 harg7 hc0 hc1 x0 x1 x2 x3 xs0).1, y ∈ pc.1.set :=
  View.cover_of_tiledL (kernelRun0_B c i arg1 harg1 arg2 harg2 arg3 harg3 arg4 harg4 arg5 harg5 arg6 harg6 arg7 harg7 hc0 hc1 x0 x1 x2 x3 xs0).1 S16x2048.size (by sl_kernel_rfl) y

def out0_B_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : ¬cond0_1 i)
    (x0 : Vec F S256x2048 .f32) (x1 : Vec F S1x2048 .f32) (x2 : Vec F S256x2048 .bf16) (x3 : Vec F S256x2048 .f32) (xs0 : Vec F S16x2048 .f32) : Vec F S256x2048 .f32 :=
  VO0_4.read (Elt F) (VO0_4.writes (Elt F) VO0_4.junk (kernelRun0_B c i arg1 harg1 arg2 harg2 arg3 harg3 arg4 harg4 arg5 harg5 arg6 harg6 arg7 harg7 hc0 hc1 x0 x1 x2 x3 xs0).1)

def out0_B_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : ¬cond0_1 i)
    (x0 : Vec F S256x2048 .f32) (x1 : Vec F S1x2048 .f32) (x2 : Vec F S256x2048 .bf16) (x3 : Vec F S256x2048 .f32) (xs0 : Vec F S16x2048 .f32) : Vec F S1x2048 .f32 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 xs0).2.1)

theorem scover0_B_0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : ¬cond0_1 i)
    (x0 : Vec F S256x2048 .f32) (x1 : Vec F S1x2048 .f32) (x2 : Vec F S256x2048 .bf16) (x3 : Vec F S256x2048 .f32) (xs0 : Vec F S16x2048 .f32) (y : S16x2048.Idx) :
    ∃ pc ∈ (kernelRun0_B c i arg1 harg1 arg2 harg2 arg3 harg3 arg4 harg4 arg5 harg5 arg6 harg6 arg7 harg7 hc0 hc1 x0 x1 x2 x3 xs0).2.2.1, y ∈ pc.1.set :=
  View.cover_of_tiledL (kernelRun0_B c i arg1 harg1 arg2 harg2 arg3 harg3 arg4 harg4 arg5 harg5 arg6 harg6 arg7 harg7 hc0 hc1 x0 x1 x2 x3 xs0).2.2.1 S16x2048.size (by sl_kernel_rfl) y

def sout0_B_0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : ¬cond0_1 i)
    (x0 : Vec F S256x2048 .f32) (x1 : Vec F S1x2048 .f32) (x2 : Vec F S256x2048 .bf16) (x3 : Vec F S256x2048 .f32) (xs0 : Vec F S16x2048 .f32) : Vec F S16x2048 .f32 :=
  VS0_0.read (Elt F) (VS0_0.writes (Elt F) VS0_0.junk (kernelRun0_B c i arg1 harg1 arg2 harg2 arg3 harg3 arg4 harg4 arg5 harg5 arg6 harg6 arg7 harg7 hc0 hc1 x0 x1 x2 x3 xs0).2.2.1)

theorem cover0_C_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) (y : S256x2048.Idx) :
    ∃ pc ∈ (kernelRun0_C c i arg1 harg1 arg2 harg2 arg3 harg3 arg4 harg4 arg5 harg5 arg6 harg6 arg7 harg7 hc0 hc1 x0 x1 x2 x3 xs0).1, y ∈ pc.1.set :=
  View.cover_of_tiledL (kernelRun0_C c i arg1 harg1 arg2 harg2 arg3 harg3 arg4 harg4 arg5 harg5 arg6 harg6 arg7 harg7 hc0 hc1 x0 x1 x2 x3 xs0).1 S16x2048.size (by sl_kernel_rfl) y

def out0_C_4 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) : Vec F S256x2048 .f32 :=
  VO0_4.read (Elt F) (VO0_4.writes (Elt F) VO0_4.junk (kernelRun0_C c i arg1 harg1 arg2 harg2 arg3 harg3 arg4 harg4 arg5 harg5 arg6 harg6 arg7 harg7 hc0 hc1 x0 x1 x2 x3 xs0).1)

theorem cover0_C_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) (y : S1x2048.Idx) :
    ∃ pc ∈ (kernelRun0_C c i arg1 harg1 arg2 harg2 arg3 harg3 arg4 harg4 arg5 harg5 arg6 harg6 arg7 harg7 hc0 hc1 x0 x1 x2 x3 xs0).2.1, y ∈ pc.1.set :=
  View.cover_of_tiledL (kernelRun0_C c i arg1 harg1 arg2 harg2 arg3 harg3 arg4 harg4 arg5 harg5 arg6 harg6 arg7 harg7 hc0 hc1 x0 x1 x2 x3 xs0).2.1 S1x2048.size (by sl_kernel_rfl) y

def out0_C_5 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) : Vec F S1x2048 .f32 :=
  VO0_5.read (Elt F) (VO0_5.writes (Elt F) VO0_5.junk (kernelRun0_C c i arg1 harg1 arg2 harg2 arg3 harg3 arg4 harg4 arg5 harg5 arg6 harg6 arg7 harg7 hc0 hc1 x0 x1 x2 x3 xs0).2.1)

theorem scover0_C_0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) (y : S16x2048.Idx) :
    ∃ pc ∈ (kernelRun0_C c i arg1 harg1 arg2 harg2 arg3 harg3 arg4 harg4 arg5 harg5 arg6 harg6 arg7 harg7 hc0 hc1 x0 x1 x2 x3 xs0).2.2.1, y ∈ pc.1.set :=
  View.cover_of_tiledL (kernelRun0_C c i arg1 harg1 arg2 harg2 arg3 harg3 arg4 harg4 arg5 harg5 arg6 harg6 arg7 harg7 hc0 hc1 x0 x1 x2 x3 xs0).2.2.1 S16x2048.size (by sl_kernel_rfl) y

def sout0_C_0 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole) (hc0 : ¬cond0_0 i) (hc1 : cond0_1 i)
    (x0 : Vec F S256x2048 .f32) (x1 : Vec F S1x2048 .f32) (x2 : Vec F S256x2048 .bf16) (x3 : Vec F S256x2048 .f32) (xs0 : Vec F S16x2048 .f32) : Vec F S16x2048 .f32 :=
  VS0_0.read (Elt F) (VS0_0.writes (Elt F) VS0_0.junk (kernelRun0_C c i arg1 harg1 arg2 harg2 arg3 harg3 arg4 harg4 arg5 harg5 arg6 harg6 arg7 harg7 hc0 hc1 x0 x1 x2 x3 xs0).2.2.1)

/-- What the blocks and the running sums hold after each point. -/
def outsAt0 (c : Dev nD) : (n : ℕ) → n < cfg0.N → Vec F S256x2048 .f32 × Vec F S1x2048 .f32 × Vec F S16x2048 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What is held between points: the running sums of the point before. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The data of the pipeline: what it starts from and what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What the body gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_4 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _)
        iexists _; iexact H5
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_4 out0_C_5 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) (iblk m c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        iintro ⟨H0, H1, H2, H3, ⟨%e4, H4⟩, ⟨%e5, H5⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_4 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) (iblk m c 3 t) _).2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        iintro ⟨H0, H1, H2, H3, ⟨%e4, H4⟩, H5, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _)
        iexists _; iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program runs, and changes nothing but what it writes. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel17Ideal.Gen

end
-- ==== Proof.GWinDt.lean ====
/- The gradient of the input projection's weights, its dt columns and half of its rows: the kernel's result and the reference's. -/
module

public import proofs.«01_k».proof.Defs
public import proofs.«01_k».proof.Proof.GWin
public import proofs.«01_k».proof.Proof.Gen.Kernel19Ideal.Frame
public import proofs.«01_k».proof.Proof.Gen.Reference19Ideal.Read
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel19Ideal.Mul

open Cert.Kernel19Ideal Cert.Kernel19Ideal.Gen Cert.Mul

/-! The half of the rows is a word the kernel reads before it starts. -/

/-- The block of rows and the block of terms at a point, by the half's word. -/
def rowsOf (w : BitVec 32) (i : grid0.Coords) : Fin 2 → Nat :=
  ![(Scalar.addi (BitVec.ofNat 32 (i 0).val) w).toNat,
    (Scalar.addi 0#32 (Scalar.minsi 1#32 (Scalar.maxsi 0#32 (Scalar.subi (BitVec.ofNat 32 (i 2).val) 0#32)))).toNat]

theorem rowsOf_eq : ∀ (h : Fin 2) (t : Fin grid0.N), rowsOf (BitVec.ofNat 32 h.val) (grid0.coords t) = ![h.val, t.val % 2] := by
  decide +kernel

theorem rowsOf_inside : ∀ (h : Fin 2) (i : grid0.Coords),
    ∃ hb : (∀ a, (rowsOf (BitVec.ofNat 32 h.val) i a + 1) * S1024x4096.size a ≤ S2048x8192.size a), EltTy.bits .bf16 = 32
      ∨ (Rect.block (s := S2048x8192) S1024x4096.size (rowsOf (BitVec.ofNat 32 h.val) i) hb).WholeWords (EltTy.packing .bf16) := by
  decide +kernel

section

variable {F : FTy → Type} [FloatOps F] (m : (ℓ : Loc nD τ sig) → Buf (Elt F) ℓ)

/-- The word. -/
def word : BitVec 32 := (m (((0 : Dev nD) : Thread nD τ).loc main_arg2) : IVec S1 32) (ix1 0)

theorem map0 (i : grid0.Coords) : cc0_transform_0 inb_S1_S1_0 numel1_S1 (tbl m) i = rowsOf (word m) i := by
  unfold cc0_transform_0 rowsOf
  rw [show (tbl m).at 0 (Rect.unit (s := S1) ![0] S1.size inb_S1_S1_0) numel1_S1 = word m from
    congrArg (m (((0 : Dev nD) : Thread nD τ).loc main_arg2) : IVec S1 32) (funext fun a => by fin_cases a; rfl)]

/-- The kernel's condition on the word. -/
theorem ok (h : Fin 2) (hw : word m = BitVec.ofNat 32 h.val) : Ok m := fun i => by
  rw [map0, hw]
  exact rowsOf_inside h i

end

variable (m : (ℓ : Loc nD τ sig) → Buf (Elt Ideal) ℓ) (hO : Ok m) (h : Fin 2) (hw : word m = BitVec.ofNat 32 h.val) (c : Dev nD)

include hw in
theorem idx0 (t : Fin (cfgM m hO).N) : ((cfgM m hO).win 0).index t = ![h.val, t.val % 2] := by
  refine (map0 m (grid0.coords t)).trans ?_
  rw [hw]
  exact rowsOf_eq h t

theorem idx1 (t : Fin (cfgM m hO).N) : ((cfgM m hO).win 1).index t = ![t.val % 2, 0] :=
  (by decide +kernel : ∀ t : Fin grid0.N, cc0_transform_1 (grid0.coords t) = ![t.val % 2, 0]) t

theorem idx2 (t : Fin (cfgM m hO).N) : ((cfgM m hO).win 2).index t = ![0, 0] :=
  (by decide +kernel : ∀ t : Fin grid0.N, cc0_transform_2 (grid0.coords t) = ![0, 0]) t

include hw in
theorem blk0 (t : Fin (cfgM m hO).N) (r : Fin 1024) (k : Fin 4096) (i : Fin 2048) (l : Fin 8192) (hi : i.val = 1024 * h.val + r.val)
    (hl : l.val = 4096 * (t.val % 2) + k.val) : iblk m hO c 0 t (ix2 r k) = m ((c : Thread nD τ).loc main_arg0) (ix2 i l) := by
  obtain ⟨i, _⟩ := i
  obtain ⟨l, _⟩ := l
  subst hi hl
  rw [← V_main_arg0 m c]; blk_ext [iblk, idx0 m hO h hw t]

theorem blk1 (t : Fin (cfgM m hO).N) (k : Fin 4096) (n : Fin 128) (l : Fin 8192) (j : Fin 128) (hl : l.val = 4096 * (t.val % 2) + k.val)
    (hj : j.val = n.val) : iblk m hO c 1 t (ix2 k n) = m ((c : Thread nD τ).loc main_arg1) (ix2 l j) := by
  obtain ⟨j, _⟩ := j
  obtain ⟨l, _⟩ := l
  subst hj hl
  rw [← V_main_arg1 m c]; blk_ext [iblk, idx1 m hO t]

include hw in
/-- The terms of a block. -/
theorem block_sum (t : Fin (cfgM m hO).N) (r : Fin 1024) (n : Fin 128) (i : Fin 2048) (j : Fin 128) (hi : i.val = 1024 * h.val + r.val)
    (hj : j.val = n.val) : ∑ k, terms (iblk m hO c 0 t) (iblk m hO c 1 t) r n k
      = ∑ k : Fin 4096, terms (m ((c : Thread nD τ).loc main_arg0)) (m ((c : Thread nD τ).loc main_arg1)) i j
          ⟨4096 * (t.val % 2) + k.val, by omega⟩ :=
  Finset.sum_congr rfl fun k _ => congrArg₂ (· * ·) (blk0 m hO h hw c t r k i _ hi rfl) (blk1 m hO c t k n _ j rfl hj)

/-- A block added. -/
theorem added_at (a : FVec Ideal S1024x128 .f32) (x : FVec Ideal S1024x4096 .bf16) (y : FVec Ideal S4096x128 .bf16) (r : Fin 1024) (n : Fin 128) :
    k0_pay2 a x y (ix2 r n) = a (ix2 r n) + ∑ k, terms x y r n k := by
  unfold k0_pay2
  rw [shapeCast_self]
  exact congrArg (a (ix2 r n) + ·) (plain_at (φ₁ := .bf16) (φ₂ := .bf16) none _ rfl x y r n)

/-- The blocks as the body reads them. -/
theorem staged (t : Fin (cfgM m hO).N) (r : Fin 1024) (n : Fin 128) :
    ∑ k, terms (M := 1024) (K := 4096) (N := 128) (View.read (Elt Ideal) (ms0_0 m hO t).view ((hs0_0 m hO t).unread (iblk m hO c 0 t)))
      (View.read (Elt Ideal) (ms0_1 m hO t).view ((hs0_1 m hO t).unread (iblk m hO c 1 t))) r n k
      = ∑ k, terms (iblk m hO c 0 t) (iblk m hO c 1 t) r n k :=
  congrArg₂ (fun (x : Mat 1024 4096) (y : Mat 4096 128) => ∑ k, terms x y r n k)
    ((hs0_0 m hO t).read_unread (iblk m hO c 0 t)) ((hs0_1 m hO t).read_unread (iblk m hO c 1 t))

/-- The sum after the first block. -/
theorem acc_first (t : Fin (cfgM m hO).N) (ht : t.val % 2 = 0) (r : Fin 1024) (n : Fin 128) :
    (outsAt0 m hO c t.val t.isLt).2 (ix2 r n) = ∑ k, terms (iblk m hO c 0 t) (iblk m hO c 1 t) r n k := by
  rw [outsAt0_A m hO c t ht (by omega)]
  frame_out
  rw [added_at, show k0_pay1 (F := Ideal) (ix2 r n) = 0 from by unfold k0_pay1; rw [shapeCast_self]; exact zero_word, zero_add]
  exact staged m hO c t r n

/-- The second block, and what is stored. -/
theorem out_last (t : Fin (cfgM m hO).N) (ht : t.val % 2 = 1) (r : Fin 1024) (n : Fin 128) : (outsAt0 m hO c t.val t.isLt).1 (ix2 r n)
    = (outsAt0 m hO c (t.val - 1) (lt_of_le_of_lt (Nat.sub_le _ _) t.isLt)).2 (ix2 r n) + ∑ k, terms (iblk m hO c 0 t) (iblk m hO c 1 t) r n k := by
  rw [outsAt0_B m hO c t (by omega) ht]
  frame_out
  exact (added_at _ _ _ r n).trans (congrArg₂ (· + ·) (by rw [read_unread_whole]) (staged m hO c t r n))

include hw in
/-- A block of the result. -/
theorem block_at (t : Fin (cfgM m hO).N) (ht : t.val % 2 = 1) (r : Fin 1024) (n : Fin 128) (i : Fin 2048) (j : Fin 128) (hi : i.val = 1024 * h.val + r.val)
    (hj : j.val = n.val) : (outsAt0 m hO c t.val t.isLt).1 (ix2 r n)
      = product (m ((c : Thread nD τ).loc main_arg0)) (m ((c : Thread nD τ).loc main_arg1)) (ix2 i j) := by
  have hp : t.val - 1 < (cfgM m hO).N := lt_of_le_of_lt (Nat.sub_le _ _) t.isLt
  refine (out_last m hO c t ht r n).trans ((congrArg₂ (· + ·) ((acc_first m hO c ⟨t.val - 1, hp⟩ (by dsimp only; omega) r n).trans
    (block_sum m hO h hw c ⟨t.val - 1, hp⟩ r n i j hi hj)) (block_sum m hO h hw c t r n i j hi hj)).trans ?_)
  refine (two_halves _ _ _ (by dsimp only; omega) (by omega)).trans ?_
  rfl

theorem covers : ((cfgM m hO).win 2).CoversWhere fun _ => True :=
  ⟨(by decide : ∀ a : Fin 2, 0 < S1024x128.size a), fun t _ => ⟨trivial, fun a => Or.inl rfl⟩, fun β _ =>
    ((by decide +kernel : ∀ β : (a : Fin 2) → Fin ((S1024x128.size a + S1024x128.size a - 1) / S1024x128.size a),
      ∃ t : Fin grid0.N, (∀ a, cc0_transform_2 (grid0.coords t) a = β a) ∧ t.val % 2 = 1) β).imp
      fun t ht => ⟨ht.1, (flush0_2 _ t).2 ht.2⟩⟩

include hw in
/-- The kernel's result. -/
theorem final : (dats m hO 0 c).arrAt 2 (cfgM m hO).N
    = half h (m ((c : Thread nD τ).loc main_arg0)) (m ((c : Thread nD τ).loc main_arg1)) := by
  refine ((dats m hO 0 c).arrAt_eq_of_coversWhere 2 (half h (m ((c : Thread nD τ).loc main_arg0)) (m ((c : Thread nD τ).loc main_arg1)))
    (fun _ => True) (covers m hO) (fun t hf y => ?_) (fun j => Iff.rfl)).trans (funext fun i => if_pos trivial)
  blk_simp
  rw [after0_2]
  refine (congrArg (outsAt0 m hO c t.val t.isLt).1 (pair y)).trans (block_at m hO h hw c t ((flush0_2 _ t).1 hf) _ _ _ _ ?_ ?_) <;>
    (blk_simp [idx2 m hO t]; try (dsimp only; omega))

/-- The reference's result. -/
theorem reference_at (x : FVec Ideal S2048x8192 .bf16) (y : FVec Ideal S8192x128 .bf16) (w : IVec S1 32) (hx : w (ix1 0) = BitVec.ofNat 32 h.val) :
    Cert.Reference19Ideal.Read.val_main_v11 (F := Ideal) x y w = half h x y := by
  funext i
  rw [pair i]
  pointwise [Cert.Reference19Ideal.Read.val_main_v11, Cert.Reference19Ideal.Read.val_main_v10, Cert.Reference19Ideal.Read.val_main_v9, Cert.Reference19Ideal.Read.val_main_v8, Cert.Reference19Ideal.Read.val_main_v7, Cert.Reference19Ideal.Read.val_main_c, Cert.Reference19Ideal.Read.val_main_v6, Cert.Reference19Ideal.Read.val_main_v5, Cert.Reference19Ideal.Read.val_main_v4, Cert.Reference19Ideal.Read.val_main_v1, Cert.Reference19Ideal.Read.val_main_v0]
  have hsum : ∀ l : Fin 2048, ∑ k, y (ix2 k (i 1)) * x (ix2 l k) = product x y (ix2 l (i 1)) :=
    fun l => Finset.sum_congr rfl fun k _ => mul_comm _ _
  refine (congrArg₂ (Scalar.select _) (hsum _) (hsum _)).trans ?_
  exact select_half h x y _ hx (i 0) (i 1) _ _ (by simp) (by simp)

/-- The precondition on the half. -/
theorem half_of_pre {F : FTy → Type} [FloatOps F] [Cert.Pre_either_half_dt.Facts] (x : FVec F S2048x8192 .bf16) (y : FVec F S8192x128 .bf16) (w : IVec S1 32)
    (hp : Cert.Pre_either_half_dt.fn (F := F) x y w = fun _ => 1#1) : ∃ h : Fin 2, w (ix1 0) = BitVec.ofNat 32 h.val := by
  have e := congrFun hp Idealize.ShloMosaic.ix0
  have hs : shapeCast Cert.Pre_either_half_dt.S_ w Cert.Pre_either_half_dt.Facts.shapeCasts_S1_S_ Idealize.ShloMosaic.ix0 = w (ix1 0) :=
    congrArg w (funext fun a => by fin_cases a; exact Subsingleton.elim (α := Fin 1) _ _)
  refine half_of_word _ ?_
  rw [← hs]
  exact e

end Cert.Kernel19Ideal.Mul

end
-- ==== Proof.LossStrips.lean ====
/- The strips of the last norm do not depend on what the outputs' buffers held before, nor on how the sums' buffers came to hold what they read. -/
module

public import proofs.«01_k».proof.Proof.NormStrips
public import proofs.«01_k».proof.Proof.Gen.Kernel20Ideal.Frame.Runs

@[expose] public section

set_option maxRecDepth 16384

noncomputable section

namespace Cert.Kernel20Ideal.Gen

open Idealize.ShloMosaic Idealize.ShloMosaic.TcCoe
open Cert.Kernel17Ideal.Gen (read_writes_congr)

variable {F : FTy → Type} [FloatOps F]

variable (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole)
  (X1 : BufTy.Contents (Elt F) arg1.view.ty) (X2 : BufTy.Contents (Elt F) arg2.view.ty) (X3 : BufTy.Contents (Elt F) arg3.view.ty) (X4 : BufTy.Contents (Elt F) arg4.view.ty)

/-- One trip's stores. -/
theorem trip_free (t : Fin k0_t1_loop.trips) {f f' : BufTy.Contents (Elt F) arg5.view.ty} {e e' : BufTy.Contents (Elt F) arg6.view.ty} {g g' : BufTy.Contents (Elt F) arg9.view.ty} {k k' : BufTy.Contents (Elt F) arg10.view.ty} (hg : arg9.view.read (Elt F) g = arg9.view.read (Elt F) g') (hk : arg10.view.read (Elt F) k = arg10.view.read (Elt F) k') :
    tripL_k0_t1 (F := F) Variants.none c none i arg1 harg1 arg2 harg2 arg3 harg3 arg4 harg4 arg5 harg5 arg6 harg6 arg7 harg7 arg8 harg8 arg9 harg9 arg10 harg10 X1 X2 X3 X4 t f e g k
      = tripL_k0_t1 (F := F) Variants.none c none i arg1 harg1 arg2 harg2 arg3 harg3 arg4 harg4 arg5 harg5 arg6 harg6 arg7 harg7 arg8 harg8 arg9 harg9 arg10 harg10 X1 X2 X3 X4 t f' e' g' k' := by
  have e9 : arg9.view.readAt (Elt F) (Rect.unit (s := S16x2048) ![0, 0] S16x2048.size inb_S16x2048_S16x2048_0_0).toLoadRect g = arg9.view.readAt (Elt F) (Rect.unit (s := S16x2048) ![0, 0] S16x2048.size inb_S16x2048_S16x2048_0_0).toLoadRect g' :=
    congrArg (fun r : Vec F S16x2048 .f32 => fun y => r ((Rect.unit (s := S16x2048) ![0, 0] S16x2048.size inb_S16x2048_S16x2048_0_0).toLoadRect.idx y)) hg
  have e10 : arg10.view.readAt (Elt F) (Rect.unit (s := S16x1) ![0, 0] S16x1.size inb_S16x1_S16x1_0_0).toLoadRect k = arg10.view.readAt (Elt F) (Rect.unit (s := S16x1) ![0, 0] S16x1.size inb_S16x1_S16x1_0_0).toLoadRect k' :=
    congrArg (fun r : Vec F S16x1 .f32 => fun y => r ((Rect.unit (s := S16x1) ![0, 0] S16x1.size inb_S16x1_S16x1_0_0).toLoadRect.idx y)) hk
  unfold tripL_k0_t1 trip_k0_t1 trip_k0_t1.sl.r_4
  dsimp only
  rw [e9, e10]

/-- The first trips' stores. -/
theorem trips_free (n : ℕ) (hn : n ≤ k0_t1_loop.trips) {f f' : BufTy.Contents (Elt F) arg5.view.ty} {e e' : BufTy.Contents (Elt F) arg6.view.ty} {g g' : BufTy.Contents (Elt F) arg9.view.ty} {k k' : BufTy.Contents (Elt F) arg10.view.ty} (hg : arg9.view.read (Elt F) g = arg9.view.read (Elt F) g') (hk : arg10.view.read (Elt F) k = arg10.view.read (Elt F) k') :
    pb_k0_t1 (F := F) Variants.none c none i arg1 harg1 arg2 harg2 arg3 harg3 arg4 harg4 arg5 harg5 arg6 harg6 arg7 harg7 arg8 harg8 arg9 harg9 arg10 harg10 X1 X2 X3 X4 f e g k n
      = pb_k0_t1 (F := F) Variants.none c none i arg1 harg1 arg2 harg2 arg3 harg3 arg4 harg4 arg5 harg5 arg6 harg6 arg7 harg7 arg8 harg8 arg9 harg9 arg10 harg10 X1 X2 X3 X4 f' e' g' k' n := by
  induction n with
  | zero => rfl
  | succ n ih =>
    have ih := ih (Nat.le_of_succ_le hn)
    rw [pb_k0_t1_succ Variants.none c none i arg1 harg1 arg2 harg2 arg3 harg3 arg4 harg4 arg5 harg5 arg6 harg6 arg7 harg7 arg8 harg8 arg9 harg9 arg10 harg10 X1 X2 X3 X4 f e g k ⟨n, hn⟩, pb_k0_t1_succ Variants.none c none i arg1 harg1 arg2 harg2 arg3 harg3 arg4 harg4 arg5 harg5 arg6 harg6 arg7 harg7 arg8 harg8 arg9 harg9 arg10 harg10 X1 X2 X3 X4 f' e' g' k' ⟨n, hn⟩]
    rw [ih]
    generalize pb_k0_t1 (F := F) Variants.none c none i arg1 harg1 arg2 harg2 arg3 harg3 arg4 harg4 arg5 harg5 arg6 harg6 arg7 harg7 arg8 harg8 arg9 harg9 arg10 harg10 X1 X2 X3 X4 f' e' g' k' n = q
    have t := trip_free c i arg1 harg1 arg2 harg2 arg3 harg3 arg4 harg4 arg5 harg5 arg6 harg6 arg7 harg7 arg8 harg8 arg9 harg9 arg10 harg10 X1 X2 X3 X4 ⟨n, hn⟩ (f := arg5.view.writes (Elt F) f q.1) (f' := arg5.view.writes (Elt F) f' q.1)
      (e := arg6.view.writes (Elt F) e q.2.1) (e' := arg6.view.writes (Elt F) e' q.2.1)
      (read_writes_congr arg9.view hg q.2.2.1) (read_writes_congr arg10.view hk q.2.2.2)
    exact congrArg (fun p : List (View.Piece (Elt F) S256x2048 .f32) × List (View.Piece (Elt F) S256x2048 .bf16) × List (View.Piece (Elt F) S16x2048 .f32) × List (View.Piece (Elt F) S16x1 .f32) => (p.1 ++ q.1, p.2.1 ++ q.2.1, p.2.2.1 ++ q.2.2.1, p.2.2.2 ++ q.2.2.2)) t

end Cert.Kernel20Ideal.Gen

end
-- ==== Proof.LossRun.lean ====
/- The runs of the last norm's body, point by point. The pieces stored are named over fixed contents of the outputs' buffers, on which they do not depend. -/
module

public import proofs.«01_k».proof.Proof.LossStrips

@[expose] public section

set_option maxRecDepth 16384

noncomputable section

namespace Cert.Kernel20Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run at the first point: the sums' buffers are cleared, then the strips are taken. -/
noncomputable def kernelRun0_A (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) :
    Σ' (L4 : List (View.Piece (Elt F) S256x2048 .f32)), Σ' (L5 : List (View.Piece (Elt F) S256x2048 .bf16)), Σ' (L6 : List (View.Piece (Elt F) S1x1 .f32)), Σ' (L7 : List (View.Piece (Elt F) S1x2048 .f32)), Σ' (LS0 : List (View.Piece (Elt F) S16x2048 .f32)), { LS1 : List (View.Piece (Elt F) S16x1 .f32) //
      ∀ (xi6 : Vec F S1x1 .f32) (xi7 : Vec F S1x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_final_norm_loss i arg1 harg1 arg2 harg2 arg3 harg3 arg4 harg4 arg5 harg5 arg6 harg6 arg7 harg7 arg8 harg8 arg9 harg9 arg10 harg10) K } := by
  refine ⟨?_, ?_, [], [], ?_, ?_, fun xi6 xi7 E K => ?run⟩
  case run =>
    simp only [cc0_final_norm_loss_eq_skeleton]; unfold cc0_final_norm_loss_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | sl_exact hc0 | sl_exact hc1)
    sl_step
    have e := trips_free (F := F) c i arg1 harg1 arg2 harg2 arg3 harg3 arg4 harg4 arg5 harg5 arg6 harg6 arg7 harg7 arg8 harg8 arg9 harg9 arg10 harg10 (harg1.unread x0) (harg2.unread x1) (harg3.unread x2) (harg4.unread x3) (Scf.trips k0_t1_loop.lb k0_t1_loop.ub k0_t1_loop.st) (le_refl _)
      (f := f4) (f' := arg5.view.junk) (e := f5) (e' := arg6.view.junk) (g := (arg9.view.writes (Elt F) arg9.view.junk kernelRun0_A.sl.HS0_1)) (k := (arg10.view.writes (Elt F) arg10.view.junk kernelRun0_A.sl.HS1_1)) rfl rfl
    rw [e]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

set_option maxHeartbeats 1000000 in
/-- The body's run at a middle point: the strips are taken over the sums the point before left. -/
noncomputable def kernelRun0_B (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) :
    Σ' (L4 : List (View.Piece (Elt F) S256x2048 .f32)), Σ' (L5 : List (View.Piece (Elt F) S256x2048 .bf16)), Σ' (L6 : List (View.Piece (Elt F) S1x1 .f32)), Σ' (L7 : List (View.Piece (Elt F) S1x2048 .f32)), Σ' (LS0 : List (View.Piece (Elt F) S16x2048 .f32)), { LS1 : List (View.Piece (Elt F) S16x1 .f32) //
      ∀ (xi6 : Vec F S1x1 .f32) (xi7 : Vec F S1x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_final_norm_loss i arg1 harg1 arg2 harg2 arg3 harg3 arg4 harg4 arg5 harg5 arg6 harg6 arg7 harg7 arg8 harg8 arg9 harg9 arg10 harg10) K } := by
  refine ⟨?_, ?_, [], [], ?_, ?_, fun xi6 xi7 E K => ?run⟩
  case run =>
    simp only [cc0_final_norm_loss_eq_skeleton]; unfold cc0_final_norm_loss_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hfs0; obtain rfl := harg10.eq_unread hfs1
    sl_exec (disch := first | sl_exact hc0 | sl_exact hc1)
    sl_step
    have e := trips_free (F := F) c i arg1 harg1 arg2 harg2 arg3 harg3 arg4 harg4 arg5 harg5 arg6 harg6 arg7 harg7 arg8 harg8 arg9 harg9 arg10 harg10 (harg1.unread x0) (harg2.unread x1) (harg3.unread x2) (harg4.unread x3) (Scf.trips k0_t1_loop.lb k0_t1_loop.ub k0_t1_loop.st) (le_refl _)
      (f := f4) (f' := arg5.view.junk) (e := f5) (e' := arg6.view.junk) (g := (harg9.unread xs0)) (k := (harg10.unread xs1)) rfl rfl
    rw [e]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

set_option maxHeartbeats 1000000 in
/-- The body's run at the last point: the strips are taken, and the sums are added up. -/
noncomputable def kernelRun0_C (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) :
    Σ' (L4 : List (View.Piece (Elt F) S256x2048 .f32)), Σ' (L5 : List (View.Piece (Elt F) S256x2048 .bf16)), Σ' (L6 : List (View.Piece (Elt F) S1x1 .f32)), Σ' (L7 : List (View.Piece (Elt F) S1x2048 .f32)), Σ' (LS0 : List (View.Piece (Elt F) S16x2048 .f32)), { LS1 : List (View.Piece (Elt F) S16x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_final_norm_loss i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_final_norm_loss_eq_skeleton]; unfold cc0_final_norm_loss_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1
    sl_exec (disch := first | sl_exact hc0 | sl_exact hc1)
    sl_step
    have e := trips_free (F := F) c i arg1 harg1 arg2 harg2 arg3 harg3 arg4 harg4 arg5 harg5 arg6 harg6 arg7 harg7 arg8 harg8 arg9 harg9 arg10 harg10 (harg1.unread x0) (harg2.unread x1) (harg3.unread x2) (harg4.unread x3) (Scf.trips k0_t1_loop.lb k0_t1_loop.ub k0_t1_loop.st) (le_refl _)
      (f := f4) (f' := arg5.view.junk) (e := f5) (e' := arg6.view.junk) (g := (harg9.unread xs0)) (k := (harg10.unread xs1)) rfl rfl
    unfold kernelRun0_C.sl.v7 kernelRun0_C.sl.v11
    rw [e]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.Kernel20Ideal.Gen

end
-- ==== Proof.LossFrame.lean ====
/- The last norm and the loss: the program runs without fault and leaves its arguments as they were; what its blocks hold is named point by point. -/
module

public import proofs.«01_k».proof.Proof.LossRun
public import Idealize.ShloMosaic.Lib.Claim

@[expose] public section

set_option maxRecDepth 16384

noncomputable section

namespace Cert.Kernel20Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored at the first point cover the first output block; the ones below say the same of the other outputs, points and sums. -/
theorem cover0_A_4 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) (y : S256x2048.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).1 S16x2048.size (by sl_kernel_rfl) y

/-- What a point leaves in the first output block; the ones below say the same of the other outputs, points and sums. -/
def out0_A_4 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) : Vec F S256x2048 .f32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 arg10 harg10 hc0 hc1 x0 x1 x2 x3).1)

theorem cover0_A_5 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) (y : S256x2048.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.1 S16x2048.size (by sl_kernel_rfl) y

def out0_A_5 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) : Vec F S256x2048 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3).2.1)

def out0_A_6 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) : Vec F S1x1 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 hc0 hc1 x0 x1 x2 x3).2.2.1)

def out0_A_7 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) : Vec F S1x2048 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 hc1 x0 x1 x2 x3).2.2.2.1)

theorem scover0_A_0 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) (y : S16x2048.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.2.2.2.1 S16x2048.size (by sl_kernel_rfl) y

def sout0_A_0 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) : Vec F S16x2048 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3).2.2.2.2.1)

theorem scover0_A_1 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) (y : S16x1.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3).2.2.2.2.2.1 S16x1.size (by sl_kernel_rfl) y

def sout0_A_1 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : cond0_0 i) (hc1 : ¬cond0_1 i)
    (x0 : Vec F S256x2048 .f32) (x1 : Vec F S256x2048 .bf16) (x2 : Vec F S256x2048 .f32) (x3 : Vec F S1x2048 .f32) : Vec F S16x1 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3).2.2.2.2.2.1)

theorem cover0_B_4 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S256x2048.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 xs0 xs1).1 S16x2048.size (by sl_kernel_rfl) y

def out0_B_4 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S256x2048 .f32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 arg10 harg10 hc0 hc1 x0 x1 x2 x3 xs0 xs1).1)

theorem cover0_B_5 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S256x2048.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 xs0 xs1).2.1 S16x2048.size (by sl_kernel_rfl) y

def out0_B_5 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S256x2048 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 xs0 xs1).2.1)

def out0_B_6 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S1x1 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 hc0 hc1 x0 x1 x2 x3 xs0 xs1).2.2.1)

def out0_B_7 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S1x2048 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.1)

theorem scover0_B_0 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S16x2048.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.2.1 S16x2048.size (by sl_kernel_rfl) y

def sout0_B_0 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S16x2048 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.2.1)

theorem scover0_B_1 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S16x1.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.2.2.1 S16x1.size (by sl_kernel_rfl) y

def sout0_B_1 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : ¬cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S16x1 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 xs0 xs1).2.2.2.2.2.1)

theorem cover0_C_4 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S256x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs1).1 S16x2048.size (by sl_kernel_rfl) y

def out0_C_4 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S256x2048 .f32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 arg10 harg10 hc0 hc1 x0 x1 x2 x3 xs0 xs1).1)

theorem cover0_C_5 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S256x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs1).2.1 S16x2048.size (by sl_kernel_rfl) y

def out0_C_5 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S256x2048 .bf16 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 xs0 xs1).2.1)

theorem cover0_C_6 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S1x1.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs1).2.2.1 S1x1.size (by sl_kernel_rfl) y

def out0_C_6 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S1x1 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 xs0 xs1).2.2.1)

theorem cover0_C_7 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S1x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.1 S1x2048.size (by sl_kernel_rfl) y

def out0_C_7 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S1x2048 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.1)

theorem scover0_C_0 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S16x2048.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.2.1 S16x2048.size (by sl_kernel_rfl) y

def sout0_C_0 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S16x2048 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.2.1)

theorem scover0_C_1 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) (y : S16x1.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.2.2.1 S16x1.size (by sl_kernel_rfl) y

def sout0_C_1 (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole) (hc0 : ¬cond0_0 i) (hc1 : cond0_1 i)
    (x0 : Vec F S256x2048 .f32) (x1 : Vec F S256x2048 .bf16) (x2 : Vec F S256x2048 .f32) (x3 : Vec F S1x2048 .f32) (xs0 : Vec F S16x2048 .f32) (xs1 : Vec F S16x1 .f32) : Vec F S16x1 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 xs0 xs1).2.2.2.2.2.1)

/-- What the blocks and the running sums hold after each point. -/
def outsAt0 (c : Dev nD) : (n : ℕ) → n < cfg0.N → Vec F S256x2048 .f32 × Vec F S256x2048 .bf16 × Vec F S1x1 .f32 × Vec F S1x2048 .f32 × Vec F S16x2048 .f32 × Vec F S16x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 32 = 0 then
      if h1 : (n + 1) % 32 = 31 then
        False.elim (by have hN : n + 1 < 32 := lt_of_lt_of_eq hn (show cfg0.N = 32 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 32 = 31 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2)

theorem outsAt0_A (c : Dev nD) (t : Fin cfg0.N) (h0 : t.val % 32 = 0) (h1 : ¬t.val % 32 = 31) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- What is held between points: the running sums of the point before. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-- The data of the pipeline: what it starts from and what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_4 out0_A_5 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexact HS0
        isplitl [HS1]; · iexact HS1
        iintro ⟨H0, H1, H2, H3, ⟨%e4, H4⟩, ⟨%e5, H5⟩, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _)
        isplitl [H6]; · iexists _; iexact H6
        iexists _; iexact H7
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_4 out0_C_5 out0_C_6 out0_C_7 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, ⟨%e4, H4⟩, ⟨%e5, H5⟩, ⟨%e6, H6⟩, ⟨%e7, H7⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_4 out0_B_5 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _).2.2.2.2.2.2 _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexact HS0
        isplitl [HS1]; · iexact HS1
        iintro ⟨H0, H1, H2, H3, ⟨%e4, H4⟩, ⟨%e5, H5⟩, H6, H7, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _)
        isplitl [H6]; · iexists _; iexact H6
        iexists _; iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program runs, and changes nothing but what it writes. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel20Ideal.Gen

end
-- ==== Proof.Frames.lean ====
/- The frames of all programs but the first. A program over bit patterns is the same text as the one over extended reals. -/
module

public import proofs.«01_k».proof.Defs
public import proofs.«01_k».proof.Proof.Runs
public import proofs.«01_k».proof.Proof.GWin
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal.Run
public import proofs.«01_k».proof.Proof.Gen.Kernel17
public import proofs.«01_k».proof.Proof.NormFrame
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal.Run
public import proofs.«01_k».proof.Proof.Gen.Kernel19
public import proofs.«01_k».proof.Proof.GWinDt
public import proofs.«01_k».proof.Proof.Gen.Reference19Ideal.Run
public import proofs.«01_k».proof.Proof.Gen.Kernel20
public import proofs.«01_k».proof.Proof.LossFrame
public import proofs.«01_k».proof.Proof.Gen.Reference20Ideal.Run

@[expose] public section

set_option maxRecDepth 16384
set_option maxHeartbeats 0

noncomputable section

namespace Cert.Proof

open Idealize.ShloMosaic Idealize.ShloMosaic.TcCoe Idealize.SL.Sem Cert.Runs

attribute [local instance] Cert.Kernel2.Gen.facts Cert.Kernel2Ideal.Gen.facts Cert.Reference2Ideal.Gen.facts Cert.Kernel3.Gen.facts Cert.Kernel3Ideal.Gen.facts Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts Cert.Kernel8.Gen.facts Cert.Kernel8Ideal.Gen.facts Cert.Reference8Ideal.Gen.facts Cert.Kernel9.Gen.facts Cert.Kernel9Ideal.Gen.facts Cert.Reference9Ideal.Gen.facts Cert.Kernel10.Gen.facts Cert.Kernel10Ideal.Gen.facts Cert.Reference10Ideal.Gen.facts Cert.Kernel11.Gen.facts Cert.Kernel11Ideal.Gen.facts Cert.Reference11Ideal.Gen.facts Cert.Kernel12.Gen.facts Cert.Kernel12Ideal.Gen.facts Cert.Reference12Ideal.Gen.facts Cert.Kernel13.Gen.facts Cert.Kernel13Ideal.Gen.facts Cert.Reference13Ideal.Gen.facts Cert.Kernel14.Gen.facts Cert.Kernel14Ideal.Gen.facts Cert.Reference14Ideal.Gen.facts Cert.Kernel15.Gen.facts Cert.Kernel15Ideal.Gen.facts Cert.Reference15Ideal.Gen.facts Cert.Kernel16.Gen.facts Cert.Kernel16Ideal.Gen.facts Cert.Reference16Ideal.Gen.facts Cert.Kernel17.Gen.facts Cert.Kernel17Ideal.Gen.facts Cert.Reference17Ideal.Gen.facts Cert.Kernel18.Gen.facts Cert.Kernel18Ideal.Gen.facts Cert.Reference18Ideal.Gen.facts Cert.Kernel19.Gen.facts Cert.Kernel19Ideal.Gen.facts Cert.Reference19Ideal.Gen.facts Cert.Kernel20.Gen.facts Cert.Kernel20Ideal.Gen.facts Cert.Reference20Ideal.Gen.facts

theorem half_facts : Cert.Pre_either_half.Facts where
  shapeCasts_S1_S_ := by decide

theorem half_dt_facts : Cert.Pre_either_half_dt.Facts where
  shapeCasts_S1_S_ := by decide

attribute [local instance] half_facts half_dt_facts

theorem same_defs2 : Cert.Kernel2.defs (F := Bits) = Cert.Kernel2Ideal.defs (F := Bits) :=
  congrArg (Pipeline.defs Cert.Kernel2Ideal.pcfgs) (congrArg Defs.onTc (funext fun l => match l with | 0 => rfl))

theorem frame_kernel2 : Cert.quiescent_Kernel2 := fun m ρ _ => of_defs same_defs2 (Cert.Kernel2Ideal.Gen.frame (F := Bits) m ρ)

theorem frame_ideal2 : Cert.quiescent_Kernel2Ideal := fun m ρ _ => Cert.Kernel2Ideal.Gen.frame (F := Ideal) m ρ

theorem frame_reference2 : Cert.quiescent_Reference2Ideal := fun m g _ => (θ_run Cert.Reference2Ideal.defs _ _).mono
  (fun r h => ⟨fun c => (h c).2, sem_eq_zero_of_no_sems rfl _⟩) (Cert.Reference2Ideal.Value.run (F := Ideal) m g)

theorem same_defs3 : Cert.Kernel3.defs (F := Bits) = Cert.Kernel3Ideal.defs (F := Bits) :=
  congrArg (Pipeline.defs Cert.Kernel3Ideal.pcfgs) (congrArg Defs.onTc (funext fun l => match l with | 0 => rfl))

theorem frame_kernel3 : Cert.quiescent_Kernel3 := fun m ρ _ => of_defs same_defs3 (Cert.Kernel3Ideal.Gen.frame (F := Bits) m ρ)

theorem frame_ideal3 : Cert.quiescent_Kernel3Ideal := fun m ρ _ => Cert.Kernel3Ideal.Gen.frame (F := Ideal) m ρ

theorem frame_reference3 : Cert.quiescent_Reference3Ideal := fun m g _ => (θ_run Cert.Reference3Ideal.defs _ _).mono
  (fun r h => ⟨fun c => (h c).2, sem_eq_zero_of_no_sems rfl _⟩) (Cert.Reference3Ideal.Value.run (F := Ideal) m g)

theorem same_defs4 : Cert.Kernel4.defs (F := Bits) = Cert.Kernel4Ideal.defs (F := Bits) :=
  congrArg (Pipeline.defs Cert.Kernel4Ideal.pcfgs) (congrArg Defs.onTc (funext fun l => match l with | 0 => rfl))

theorem frame_kernel4 : Cert.quiescent_Kernel4 := fun m ρ _ => of_defs same_defs4 (Cert.Kernel4Ideal.Gen.frame (F := Bits) m ρ)

theorem frame_ideal4 : Cert.quiescent_Kernel4Ideal := fun m ρ _ => Cert.Kernel4Ideal.Gen.frame (F := Ideal) m ρ

theorem frame_reference4 : Cert.quiescent_Reference4Ideal := fun m g _ => (θ_run Cert.Reference4Ideal.defs _ _).mono
  (fun r h => ⟨fun c => (h c).2, sem_eq_zero_of_no_sems rfl _⟩) (Cert.Reference4Ideal.Value.run (F := Ideal) m g)

theorem same_defs5 : Cert.Kernel5.defs (F := Bits) = Cert.Kernel5Ideal.defs (F := Bits) :=
  congrArg (Pipeline.defs Cert.Kernel5Ideal.pcfgs) (congrArg Defs.onTc (funext fun l => match l with | 0 => rfl))

theorem frame_kernel5 : Cert.quiescent_Kernel5 := fun m ρ hp =>
  (Cert.Kernel5Ideal.Mul.half_of_pre _ _ _ (hp 0)).elim fun h hw => of_defs same_defs5 (Cert.Kernel5Ideal.Gen.frame (F := Bits) m ρ (Cert.Kernel5Ideal.Mul.ok m h hw))

theorem frame_ideal5 : Cert.quiescent_Kernel5Ideal := fun m ρ hp =>
  (Cert.Kernel5Ideal.Mul.half_of_pre _ _ _ (hp 0)).elim fun h hw => Cert.Kernel5Ideal.Gen.frame (F := Ideal) m ρ (Cert.Kernel5Ideal.Mul.ok m h hw)

theorem frame_reference5 : Cert.quiescent_Reference5Ideal := fun m g _ => (θ_run Cert.Reference5Ideal.defs _ _).mono
  (fun r h => ⟨fun c => (h c).2, sem_eq_zero_of_no_sems rfl _⟩) (Cert.Reference5Ideal.Value.run (F := Ideal) m g)

theorem same_defs6 : Cert.Kernel6.defs (F := Bits) = Cert.Kernel6Ideal.defs (F := Bits) :=
  congrArg (Pipeline.defs Cert.Kernel6Ideal.pcfgs) (congrArg Defs.onTc (funext fun l => match l with | 0 => rfl))

theorem frame_kernel6 : Cert.quiescent_Kernel6 := fun m ρ _ => of_defs same_defs6 (Cert.Kernel6Ideal.Gen.frame (F := Bits) m ρ)

theorem frame_ideal6 : Cert.quiescent_Kernel6Ideal := fun m ρ _ => Cert.Kernel6Ideal.Gen.frame (F := Ideal) m ρ

theorem frame_reference6 : Cert.quiescent_Reference6Ideal := fun m g _ => (θ_run Cert.Reference6Ideal.defs _ _).mono
  (fun r h => ⟨fun c => (h c).2, sem_eq_zero_of_no_sems rfl _⟩) (Cert.Reference6Ideal.Value.run (F := Ideal) m g)

theorem same_defs7 : Cert.Kernel7.defs (F := Bits) = Cert.Kernel7Ideal.defs (F := Bits) :=
  congrArg (Pipeline.defs Cert.Kernel7Ideal.pcfgs) (congrArg Defs.onTc (funext fun l => match l with | 0 => rfl))

theorem frame_kernel7 : Cert.quiescent_Kernel7 := fun m ρ _ => of_defs same_defs7 (Cert.Kernel7Ideal.Gen.frame (F := Bits) m ρ)

theorem frame_ideal7 : Cert.quiescent_Kernel7Ideal := fun m ρ _ => Cert.Kernel7Ideal.Gen.frame (F := Ideal) m ρ

theorem frame_reference7 : Cert.quiescent_Reference7Ideal := fun m g _ => (θ_run Cert.Reference7Ideal.defs _ _).mono
  (fun r h => ⟨fun c => (h c).2, sem_eq_zero_of_no_sems rfl _⟩) (Cert.Reference7Ideal.Value.run (F := Ideal) m g)

theorem same_defs8 : Cert.Kernel8.defs (F := Bits) = Cert.Kernel8Ideal.defs (F := Bits) :=
  congrArg (Pipeline.defs Cert.Kernel8Ideal.pcfgs) (congrArg Defs.onTc (funext fun l => match l with | 0 => rfl))

theorem frame_kernel8 : Cert.quiescent_Kernel8 := fun m ρ _ => of_defs same_defs8 (Cert.Kernel8Ideal.Gen.frame (F := Bits) m ρ)

theorem frame_ideal8 : Cert.quiescent_Kernel8Ideal := fun m ρ _ => Cert.Kernel8Ideal.Gen.frame (F := Ideal) m ρ

theorem frame_reference8 : Cert.quiescent_Reference8Ideal := fun m g _ => (θ_run Cert.Reference8Ideal.defs _ _).mono
  (fun r h => ⟨fun c => (h c).2, sem_eq_zero_of_no_sems rfl _⟩) (Cert.Reference8Ideal.Value.run (F := Ideal) m g)

theorem same_defs9 : Cert.Kernel9.defs (F := Bits) = Cert.Kernel9Ideal.defs (F := Bits) :=
  congrArg (Pipeline.defs Cert.Kernel9Ideal.pcfgs) (congrArg Defs.onTc (funext fun l => match l with | 0 => rfl))

theorem frame_kernel9 : Cert.quiescent_Kernel9 := fun m ρ _ => of_defs same_defs9 (Cert.Kernel9Ideal.Gen.frame (F := Bits) m ρ)

theorem frame_ideal9 : Cert.quiescent_Kernel9Ideal := fun m ρ _ => Cert.Kernel9Ideal.Gen.frame (F := Ideal) m ρ

theorem frame_reference9 : Cert.quiescent_Reference9Ideal := fun m g _ => (θ_run Cert.Reference9Ideal.defs _ _).mono
  (fun r h => ⟨fun c => (h c).2, sem_eq_zero_of_no_sems rfl _⟩) (Cert.Reference9Ideal.Value.run (F := Ideal) m g)

theorem same_defs10 : Cert.Kernel10.defs (F := Bits) = Cert.Kernel10Ideal.defs (F := Bits) :=
  congrArg (Pipeline.defs Cert.Kernel10Ideal.pcfgs) (congrArg Defs.onTc (funext fun l => match l with | 0 => rfl))

theorem frame_kernel10 : Cert.quiescent_Kernel10 := fun m ρ _ => of_defs same_defs10 (Cert.Kernel10Ideal.Gen.frame (F := Bits) m ρ)

theorem frame_ideal10 : Cert.quiescent_Kernel10Ideal := fun m ρ _ => Cert.Kernel10Ideal.Gen.frame (F := Ideal) m ρ

theorem frame_reference10 : Cert.quiescent_Reference10Ideal := fun m g _ => (θ_run Cert.Reference10Ideal.defs _ _).mono
  (fun r h => ⟨fun c => (h c).2, sem_eq_zero_of_no_sems rfl _⟩) (Cert.Reference10Ideal.Value.run (F := Ideal) m g)

theorem same_defs11 : Cert.Kernel11.defs (F := Bits) = Cert.Kernel11Ideal.defs (F := Bits) :=
  congrArg (Pipeline.defs Cert.Kernel11Ideal.pcfgs) (congrArg Defs.onTc (funext fun l => match l with | 0 => rfl))

theorem frame_kernel11 : Cert.quiescent_Kernel11 := fun m ρ _ => of_defs same_defs11 (Cert.Kernel11Ideal.Gen.frame (F := Bits) m ρ)

theorem frame_ideal11 : Cert.quiescent_Kernel11Ideal := fun m ρ _ => Cert.Kernel11Ideal.Gen.frame (F := Ideal) m ρ

theorem frame_reference11 : Cert.quiescent_Reference11Ideal := fun m g _ => (θ_run Cert.Reference11Ideal.defs _ _).mono
  (fun r h => ⟨fun c => (h c).2, sem_eq_zero_of_no_sems rfl _⟩) (Cert.Reference11Ideal.Value.run (F := Ideal) m g)

theorem same_defs12 : Cert.Kernel12.defs (F := Bits) = Cert.Kernel12Ideal.defs (F := Bits) :=
  congrArg (Pipeline.defs Cert.Kernel12Ideal.pcfgs) (congrArg Defs.onTc (funext fun l => match l with | 0 => rfl))

theorem frame_kernel12 : Cert.quiescent_Kernel12 := fun m ρ _ => of_defs same_defs12 (Cert.Kernel12Ideal.Gen.frame (F := Bits) m ρ)

theorem frame_ideal12 : Cert.quiescent_Kernel12Ideal := fun m ρ _ => Cert.Kernel12Ideal.Gen.frame (F := Ideal) m ρ

theorem frame_reference12 : Cert.quiescent_Reference12Ideal := fun m g _ => (θ_run Cert.Reference12Ideal.defs _ _).mono
  (fun r h => ⟨fun c => (h c).2.2.2, sem_eq_zero_of_no_sems rfl _⟩) (Cert.Reference12Ideal.Value.run (F := Ideal) m g)

theorem same_defs13 : Cert.Kernel13.defs (F := Bits) = Cert.Kernel13Ideal.defs (F := Bits) :=
  congrArg (Pipeline.defs Cert.Kernel13Ideal.pcfgs) (congrArg Defs.onTc (funext fun l => match l with | 0 => rfl))

theorem frame_kernel13 : Cert.quiescent_Kernel13 := fun m ρ _ => of_defs same_defs13 (Cert.Kernel13Ideal.Gen.frame (F := Bits) m ρ)

theorem frame_ideal13 : Cert.quiescent_Kernel13Ideal := fun m ρ _ => Cert.Kernel13Ideal.Gen.frame (F := Ideal) m ρ

theorem frame_reference13 : Cert.quiescent_Reference13Ideal := fun m g _ => (θ_run Cert.Reference13Ideal.defs _ _).mono
  (fun r h => ⟨fun c => (h c).2.2.2, sem_eq_zero_of_no_sems rfl _⟩) (Cert.Reference13Ideal.Value.run (F := Ideal) m g)

theorem same_defs14 : Cert.Kernel14.defs (F := Bits) = Cert.Kernel14Ideal.defs (F := Bits) :=
  congrArg (Pipeline.defs Cert.Kernel14Ideal.pcfgs) (congrArg Defs.onTc (funext fun l => match l with | 0 => rfl))

theorem frame_kernel14 : Cert.quiescent_Kernel14 := fun m ρ _ => of_defs same_defs14 (Cert.Kernel14Ideal.Gen.frame (F := Bits) m ρ)

theorem frame_ideal14 : Cert.quiescent_Kernel14Ideal := fun m ρ _ => Cert.Kernel14Ideal.Gen.frame (F := Ideal) m ρ

theorem frame_reference14 : Cert.quiescent_Reference14Ideal := fun m g _ => (θ_run Cert.Reference14Ideal.defs _ _).mono
  (fun r h => ⟨fun c => (h c).2.2.2, sem_eq_zero_of_no_sems rfl _⟩) (Cert.Reference14Ideal.Value.run (F := Ideal) m g)

theorem same_defs15 : Cert.Kernel15.defs (F := Bits) = Cert.Kernel15Ideal.defs (F := Bits) :=
  congrArg (Pipeline.defs Cert.Kernel15Ideal.pcfgs) (congrArg Defs.onTc (funext fun l => match l with | 0 => rfl))

theorem frame_kernel15 : Cert.quiescent_Kernel15 := fun m ρ _ => of_defs same_defs15 (Cert.Kernel15Ideal.Gen.frame (F := Bits) m ρ)

theorem frame_ideal15 : Cert.quiescent_Kernel15Ideal := fun m ρ _ => Cert.Kernel15Ideal.Gen.frame (F := Ideal) m ρ

theorem frame_reference15 : Cert.quiescent_Reference15Ideal := fun m g _ => (θ_run Cert.Reference15Ideal.defs _ _).mono
  (fun r h => ⟨fun c => (h c).2.2, sem_eq_zero_of_no_sems rfl _⟩) (Cert.Reference15Ideal.Value.run (F := Ideal) m g)

theorem same_defs16 : Cert.Kernel16.defs (F := Bits) = Cert.Kernel16Ideal.defs (F := Bits) :=
  congrArg (Pipeline.defs Cert.Kernel16Ideal.pcfgs) (congrArg Defs.onTc (funext fun l => match l with | 0 => rfl))

theorem frame_kernel16 : Cert.quiescent_Kernel16 := fun m ρ _ => of_defs same_defs16 (Cert.Kernel16Ideal.Gen.frame (F := Bits) m ρ)

theorem frame_ideal16 : Cert.quiescent_Kernel16Ideal := fun m ρ _ => Cert.Kernel16Ideal.Gen.frame (F := Ideal) m ρ

theorem frame_reference16 : Cert.quiescent_Reference16Ideal := fun m g _ => (θ_run Cert.Reference16Ideal.defs _ _).mono
  (fun r h => ⟨fun c => (h c).2.2, sem_eq_zero_of_no_sems rfl _⟩) (Cert.Reference16Ideal.Value.run (F := Ideal) m g)

theorem same_defs17 : Cert.Kernel17.defs (F := Bits) = Cert.Kernel17Ideal.defs (F := Bits) :=
  congrArg (Pipeline.defs Cert.Kernel17Ideal.pcfgs) (congrArg Defs.onTc (funext fun l => match l with | 0 => rfl))

theorem frame_kernel17 : Cert.quiescent_Kernel17 := fun m ρ _ => of_defs same_defs17 (Cert.Kernel17Ideal.Gen.frame (F := Bits) m ρ)

theorem frame_ideal17 : Cert.quiescent_Kernel17Ideal := fun m ρ _ => Cert.Kernel17Ideal.Gen.frame (F := Ideal) m ρ

theorem frame_reference17 : Cert.quiescent_Reference17Ideal := fun m g _ => (θ_run Cert.Reference17Ideal.defs _ _).mono
  (fun r h => ⟨fun c => (h c).2, sem_eq_zero_of_no_sems rfl _⟩) (Cert.Reference17Ideal.Value.run (F := Ideal) m g)

theorem same_defs18 : Cert.Kernel18.defs (F := Bits) = Cert.Kernel18Ideal.defs (F := Bits) :=
  congrArg (Pipeline.defs Cert.Kernel18Ideal.pcfgs) (congrArg Defs.onTc (funext fun l => match l with | 0 => rfl))

theorem frame_kernel18 : Cert.quiescent_Kernel18 := fun m ρ _ => of_defs same_defs18 (Cert.Kernel18Ideal.Gen.frame (F := Bits) m ρ)

theorem frame_ideal18 : Cert.quiescent_Kernel18Ideal := fun m ρ _ => Cert.Kernel18Ideal.Gen.frame (F := Ideal) m ρ

theorem frame_reference18 : Cert.quiescent_Reference18Ideal := fun m g _ => (θ_run Cert.Reference18Ideal.defs _ _).mono
  (fun r h => ⟨fun c => (h c).2, sem_eq_zero_of_no_sems rfl _⟩) (Cert.Reference18Ideal.Value.run (F := Ideal) m g)

theorem same_defs19 : Cert.Kernel19.defs (F := Bits) = Cert.Kernel19Ideal.defs (F := Bits) :=
  congrArg (Pipeline.defs Cert.Kernel19Ideal.pcfgs) (congrArg Defs.onTc (funext fun l => match l with | 0 => rfl))

theorem frame_kernel19 : Cert.quiescent_Kernel19 := fun m ρ hp =>
  (Cert.Kernel19Ideal.Mul.half_of_pre _ _ _ (hp 0)).elim fun h hw => of_defs same_defs19 (Cert.Kernel19Ideal.Gen.frame (F := Bits) m ρ (Cert.Kernel19Ideal.Mul.ok m h hw))

theorem frame_ideal19 : Cert.quiescent_Kernel19Ideal := fun m ρ hp =>
  (Cert.Kernel19Ideal.Mul.half_of_pre _ _ _ (hp 0)).elim fun h hw => Cert.Kernel19Ideal.Gen.frame (F := Ideal) m ρ (Cert.Kernel19Ideal.Mul.ok m h hw)

theorem frame_reference19 : Cert.quiescent_Reference19Ideal := fun m g _ => (θ_run Cert.Reference19Ideal.defs _ _).mono
  (fun r h => ⟨fun c => (h c).2, sem_eq_zero_of_no_sems rfl _⟩) (Cert.Reference19Ideal.Value.run (F := Ideal) m g)

theorem same_defs20 : Cert.Kernel20.defs (F := Bits) = Cert.Kernel20Ideal.defs (F := Bits) :=
  congrArg (Pipeline.defs Cert.Kernel20Ideal.pcfgs) (congrArg Defs.onTc (funext fun l => match l with | 0 => rfl))

theorem frame_kernel20 : Cert.quiescent_Kernel20 := fun m ρ _ => of_defs same_defs20 (Cert.Kernel20Ideal.Gen.frame (F := Bits) m ρ)

theorem frame_ideal20 : Cert.quiescent_Kernel20Ideal := fun m ρ _ => Cert.Kernel20Ideal.Gen.frame (F := Ideal) m ρ

theorem frame_reference20 : Cert.quiescent_Reference20Ideal := fun m g _ => (θ_run Cert.Reference20Ideal.defs _ _).mono
  (fun r h => ⟨fun c => (h c).2, sem_eq_zero_of_no_sems rfl _⟩) (Cert.Reference20Ideal.Value.run (F := Ideal) m g)

end Cert.Proof

end
-- ==== Proof.DH.lean ====
/- The gradient of the input projection's rows: the kernel's result and the reference's. -/
module

public import proofs.«01_k».proof.Proof.Blocks
public import Idealize.ShloMosaic.Lib.Pipeline.ReadBack
public import proofs.«01_k».proof.Proof.Gen.Kernel2Ideal.Frame
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Kernel2Ideal.Mul

open Cert.Kernel2Ideal Cert.Kernel2Ideal.Gen Cert.Mul

variable (m : (ℓ : Loc nD τ sig) → Buf (Elt Ideal) ℓ)

/-- The result of both programs. -/
def result (dp : FVec Ideal S8192x22528 .bf16) (dt : FVec Ideal S8192x64 .f32) (w : FVec Ideal S2048x22528 .bf16)
    (wt : FVec Ideal S2048x64 .bf16) : FVec Ideal S8192x2048 .bf16 :=
  fun i => ∑ k, termsT dp w (i 0) (i 1) k + ∑ k, termsT dt wt (i 0) (i 1) k

/-- Which block of its array each window takes at each point. -/
theorem idx : ∀ t : Fin cfg0.N, win0_0.index t = ![t.val / 18, min (t.val % 9) 7] ∧ win0_1.index t = ![t.val / 9 % 2, min (t.val % 9) 7]
    ∧ win0_2.index t = ![t.val / 18, 0] ∧ win0_3.index t = ![t.val / 9 % 2, 0] ∧ win0_4.index t = ![t.val / 18, t.val / 9 % 2] :=
  (by decide +kernel : ∀ t : Fin grid0.N, _)

section blocks

variable (c : Dev nD) (t : Fin cfg0.N)

theorem blk0 (ht : t.val % 9 ≤ 7) (r : Fin 1024) (k : Fin 2816) (i : Fin 8192) (l : Fin 22528) (hi : i.val = 1024 * (t.val / 18) + r.val)
    (hl : l.val = 2816 * (t.val % 9) + k.val) : iblk m c 0 t (ix2 r k) = m ((c : Thread nD τ).loc main_arg0) (ix2 i l) := by
  obtain ⟨i, h⟩ := i
  obtain ⟨l, h'⟩ := l
  subst hi hl
  rw [← V_main_arg0 m c]; blk_ext [iblk, idx t]

theorem blk1 (ht : t.val % 9 ≤ 7) (r : Fin 1024) (k : Fin 2816) (i : Fin 2048) (l : Fin 22528) (hi : i.val = 1024 * (t.val / 9 % 2) + r.val)
    (hl : l.val = 2816 * (t.val % 9) + k.val) : iblk m c 1 t (ix2 r k) = m ((c : Thread nD τ).loc main_arg2) (ix2 i l) := by
  obtain ⟨i, h⟩ := i
  obtain ⟨l, h'⟩ := l
  subst hi hl
  rw [← V_main_arg2 m c]; blk_ext [iblk, idx t]

theorem blk2 (r : Fin 1024) (k : Fin 128) (i : Fin 8192) (hi : i.val = 1024 * (t.val / 18) + r.val) :
    iblk m c 2 t (ix2 r k) = V m c main_v1 (ix2 i k) := by
  obtain ⟨i, h⟩ := i
  subst hi
  blk_ext [iblk, idx t]

theorem blk3 (r : Fin 1024) (k : Fin 128) (i : Fin 2048) (hi : i.val = 1024 * (t.val / 9 % 2) + r.val) :
    iblk m c 3 t (ix2 r k) = V m c main_v2 (ix2 i k) := by
  obtain ⟨i, h⟩ := i
  subst hi
  blk_ext [iblk, idx t]

theorem V_v1 : V m c main_v1 = truncf .bf16 (pad S8192x128 ![0, 0] ![0, 64] ![0, 0] (m ((c : Thread nD τ).loc main_arg1) : FVec Ideal S8192x64 .f32)
    (sitofp (F := Ideal) .f32 (constantI S_ 32 0#32)) pads_S8192x64_S8192x128_000_0640 h_S_) bitsLt_bf16_f32 := by
  unfold V
  simp only [hostOps0, hostOps0_1, hostOps0_2, hostOps0_3, List.flatten_cons, List.flatten_nil, List.append_nil,
    List.cons_append, List.nil_append]
  after_results
  rfl

theorem V_v2 : V m c main_v2 = pad S2048x128 ![0, 0] ![0, 64] ![0, 0] (m ((c : Thread nD τ).loc main_arg3) : FVec Ideal S2048x64 .bf16)
    (sitofp (F := Ideal) .bf16 (constantI S_ 32 0#32)) pads_S2048x64_S2048x128_000_0640 h_S_ := by
  unfold V
  simp only [hostOps0, hostOps0_1, hostOps0_2, hostOps0_3, List.flatten_cons, List.flatten_nil, List.append_nil,
    List.cons_append, List.nil_append]
  after_results
  rfl

/-- An index of the widened array lies in the given one when its column does. -/
theorem columns {M : ℕ} (i : Fin M) (k : Fin 128) : (∀ a : Fin 2, (![0, 0] : Fin 2 → ℕ) a ≤ (ix2 i k a).val
    ∧ ((ix2 i k a).val - (![0, 0] : Fin 2 → ℕ) a) % ((![0, 0] : Fin 2 → ℕ) a + 1) = 0
    ∧ ((ix2 i k a).val - (![0, 0] : Fin 2 → ℕ) a) / ((![0, 0] : Fin 2 → ℕ) a + 1) < (![M, 64] : Fin 2 → ℕ) a) ↔ k.val < 64 := by
  refine ⟨fun h => ?_, fun h a => ?_⟩
  · simpa using (h 1).2.2
  · fin_cases a
    · simp [Nat.mod_one]
    · simpa [Nat.mod_one] using h

theorem sitofp_zero (φ : FTy) : (FloatOps.sitofp φ (0#32 : BitVec 32) : Ideal φ) = (0 : EReal) := by
  simp [FloatOps.sitofp]

/-- The appended columns hold zeros. -/
theorem v1_at (i : Fin 8192) (k : Fin 128) : V m c main_v1 (ix2 i k)
    = if h : k.val < 64 then m ((c : Thread nD τ).loc main_arg1) (ix2 i ⟨k.val, h⟩) else (0 : EReal) := by
  rw [V_v1]
  pointwise []
  exact dite_congr (propext (columns i k)) (fun h => rfl) (fun h => sitofp_zero _)

theorem v2_at (i : Fin 2048) (k : Fin 128) : V m c main_v2 (ix2 i k)
    = if h : k.val < 64 then m ((c : Thread nD τ).loc main_arg3) (ix2 i ⟨k.val, h⟩) else (0 : EReal) := by
  rw [V_v2]
  pointwise []
  exact dite_congr (propext (columns i k)) (fun h => rfl) (fun h => sitofp_zero _)

/-- A wide block added. -/
theorem wide_at (a : FVec Ideal S1024x1024 .f32) (x y : FVec Ideal S1024x2816 .bf16) (r n : Fin 1024) :
    k0_pay2 a x y (ix2 r n) = a (ix2 r n) + ∑ k, termsT x y r n k := by
  unfold k0_pay2
  rw [shapeCast_self]
  exact congrArg (a (ix2 r n) + ·) (transposed_at (φ₁ := .bf16) (φ₂ := .bf16) none _ rfl x y r n)

/-- A narrow one. -/
theorem narrow_at (a : FVec Ideal S1024x1024 .f32) (x y : FVec Ideal S1024x128 .bf16) (r n : Fin 1024) :
    k0_pay3 a x y (ix2 r n) = a (ix2 r n) + ∑ k, termsT x y r n k := by
  unfold k0_pay3
  simp only [shapeCast_self]
  exact congrArg (a (ix2 r n) + ·) (transposed_at (φ₁ := .bf16) (φ₂ := .bf16) none _ rfl x y r n)

/-- The sum a row of blocks starts with. -/
theorem acc_first (h : t.val % 9 = 0) (r n : Fin 1024) :
    (outsAt0 m c t.val t.isLt).2 (ix2 r n) = ∑ k, termsT (iblk m c 0 t) (iblk m c 1 t) r n k := by
  rw [outsAt0_A m c t h (by omega) (by omega) (by omega)]
  frame_out
  rw [wide_at, show k0_pay1 (F := Ideal) (ix2 r n) = 0 from by unfold k0_pay1; rw [shapeCast_self]; exact zero_word, zero_add]

/-- A block further. -/
theorem acc_next (h0 : ¬ t.val % 9 = 0) (h1 : t.val % 9 ≤ 7) (r n : Fin 1024) : (outsAt0 m c t.val t.isLt).2 (ix2 r n)
    = (outsAt0 m c (t.val - 1) (by omega)).2 (ix2 r n) + ∑ k, termsT (iblk m c 0 t) (iblk m c 1 t) r n k := by
  rw [outsAt0_B m c t h0 h1 (by omega) (by omega)]
  frame_out
  rw [wide_at, read_unread_whole]

/-- The last block, and what is stored. -/
theorem out_last (h : t.val % 9 = 8) (r n : Fin 1024) : (outsAt0 m c t.val t.isLt).1 (ix2 r n)
    = (outsAt0 m c (t.val - 1) (by omega)).2 (ix2 r n) + ∑ k, termsT (iblk m c 2 t) (iblk m c 3 t) r n k := by
  rw [outsAt0_C m c t (by omega) (by omega) h h]
  frame_out
  exact (narrow_at _ _ _ r n).trans (by rw [read_unread_whole])

/-- The terms of a wide block. -/
theorem wide_sum (ht : t.val % 9 ≤ 7) (r n : Fin 1024) (i : Fin 8192) (j : Fin 2048) (hi : i.val = 1024 * (t.val / 18) + r.val)
    (hj : j.val = 1024 * (t.val / 9 % 2) + n.val) : ∑ k, termsT (iblk m c 0 t) (iblk m c 1 t) r n k
      = ∑ k : Fin 2816, termsT (m ((c : Thread nD τ).loc main_arg0)) (m ((c : Thread nD τ).loc main_arg2)) i j
          ⟨2816 * (t.val % 9) + k.val, by omega⟩ :=
  Finset.sum_congr rfl fun k _ => congrArg₂ (· * ·) (blk0 m c t ht r k i _ hi rfl) (blk1 m c t ht n k j _ hj rfl)

/-- The terms of the narrow block. -/
theorem narrow_sum (r n : Fin 1024) (i : Fin 8192) (j : Fin 2048) (hi : i.val = 1024 * (t.val / 18) + r.val)
    (hj : j.val = 1024 * (t.val / 9 % 2) + n.val) : ∑ k, termsT (iblk m c 2 t) (iblk m c 3 t) r n k
      = ∑ k, termsT (m ((c : Thread nD τ).loc main_arg1)) (m ((c : Thread nD τ).loc main_arg3)) i j k := by
  refine Eq.trans ?_ (sum_padded (K := 64) (L := 64) (fun k => m ((c : Thread nD τ).loc main_arg1) (ix2 i k))
    (fun k => m ((c : Thread nD τ).loc main_arg3) (ix2 j k)))
  exact Finset.sum_congr rfl fun k _ => congrArg₂ (· * ·) ((blk2 m c t r k i hi).trans (v1_at m c i k)) ((blk3 m c t n k j hj).trans (v2_at m c j k))

end blocks

variable (c : Dev nD)

/-- What is gathered up to a point. -/
theorem acc_at : ∀ (p : ℕ) (hp : p < cfg0.N) (h : p % 9 ≤ 7) (r n : Fin 1024) (i : Fin 8192) (j : Fin 2048)
    (hi : i.val = 1024 * (p / 18) + r.val) (hj : j.val = 1024 * (p / 9 % 2) + n.val), (outsAt0 m c p hp).2 (ix2 r n)
      = upto (termsT (m ((c : Thread nD τ).loc main_arg0)) (m ((c : Thread nD τ).loc main_arg2)) i j) (2816 * (p % 9) + 2816) := by
  intro p
  induction p with
  | zero =>
    intro hp h r n i j hi hj
    rw [upto_add _ _ 2816 (by decide)]
    exact (acc_first m c ⟨0, hp⟩ rfl r n).trans ((wide_sum m c ⟨0, hp⟩ h r n i j hi hj).trans (zero_add _).symm)
  | succ p ih =>
    intro hp h r n i j hi hj
    rw [upto_add _ _ 2816 (by omega)]
    by_cases h0 : (p + 1) % 9 = 0
    · refine (acc_first m c ⟨p + 1, hp⟩ h0 r n).trans ((wide_sum m c ⟨p + 1, hp⟩ h r n i j hi hj).trans ?_)
      rw [show upto _ (2816 * ((p + 1) % 9)) = 0 from by rw [h0]; rfl, zero_add]
    · refine (acc_next m c ⟨p + 1, hp⟩ h0 h r n).trans (congrArg₂ (· + ·) ?_ (wide_sum m c ⟨p + 1, hp⟩ h r n i j hi hj))
      refine (ih (by omega) (by omega) r n i j (by omega) (by omega)).trans ?_
      exact congrArg _ (by omega)

/-- A block of the result. -/
theorem block_at (t : Fin cfg0.N) (h : t.val % 9 = 8) (r n : Fin 1024) (i : Fin 8192) (j : Fin 2048)
    (hi : i.val = 1024 * (t.val / 18) + r.val) (hj : j.val = 1024 * (t.val / 9 % 2) + n.val) : (outsAt0 m c t.val t.isLt).1 (ix2 r n)
      = ∑ k, termsT (m ((c : Thread nD τ).loc main_arg0)) (m ((c : Thread nD τ).loc main_arg2)) i j k
        + ∑ k, termsT (m ((c : Thread nD τ).loc main_arg1)) (m ((c : Thread nD τ).loc main_arg3)) i j k := by
  refine (out_last m c t h r n).trans (congrArg₂ (· + ·) ?_ (narrow_sum m c t r n i j hi hj))
  refine (acc_at m c (t.val - 1) (lt_of_le_of_lt (Nat.sub_le _ _) t.isLt) (by omega) r n i j (by omega) (by omega)).trans ?_
  rw [show 2816 * ((t.val - 1) % 9) + 2816 = 22528 from by omega, upto_all]

/-- The kernel's result. -/
theorem final : (dats m 0 c).arrAt 4 cfg0.N = result (m ((c : Thread nD τ).loc main_arg0)) (m ((c : Thread nD τ).loc main_arg1))
    (m ((c : Thread nD τ).loc main_arg2)) (m ((c : Thread nD τ).loc main_arg3)) := by
  refine ((dats m 0 c).arrAt_eq_of_coversWhere 4 (result (m ((c : Thread nD τ).loc main_arg0)) (m ((c : Thread nD τ).loc main_arg1))
    (m ((c : Thread nD τ).loc main_arg2)) (m ((c : Thread nD τ).loc main_arg3)))
    (fun _ => True) (by decide +kernel) (fun t hf y => ?_) (fun j => Iff.rfl)).trans (funext fun i => if_pos trivial)
  have ht : t.val % 9 = 8 := (flush0_4 t).1 hf
  blk_simp
  rw [after0_4]
  refine (congrArg (outsAt0 m c t.val t.isLt).1 (pair y)).trans (block_at m c t ht _ _ _ _ ?_ ?_) <;>
    (blk_simp [idx t]; dsimp only; omega)

/-- The reference's result. -/
theorem reference_at (dp dt w wt) : Cert.Reference2Ideal.Read.val_main_v9 (F := Ideal) dp dt w wt = result dp dt w wt := by
  funext i
  rw [pair i]
  pointwise [Cert.Reference2Ideal.Read.val_main_v9, Cert.Reference2Ideal.Read.val_main_v8, Cert.Reference2Ideal.Read.val_main_v7,
    Cert.Reference2Ideal.Read.val_main_v6, Cert.Reference2Ideal.Read.val_main_v5, Cert.Reference2Ideal.Read.val_main_v3,
    Cert.Reference2Ideal.Read.val_main_v1, Cert.Reference2Ideal.Read.val_main_v0]
  exact add_comm _ _

end Cert.Kernel2Ideal.Mul

end
-- ==== Proof.ProjMain.lean ====
/- The columns of the input projection before the convolution's: the kernel's result and the reference's. -/
module

public import proofs.«01_k».proof.Proof.Blocks
public import proofs.«01_k».proof.Proof.Gen.Kernel3Ideal.Frame
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Kernel3Ideal.Mul

open Cert.Kernel3Ideal Cert.Kernel3Ideal.Gen Cert.Mul

variable (m : (ℓ : Loc nD τ sig) → Buf (Elt Ideal) ℓ)

/-- The result of both programs. -/
def result (x : FVec Ideal S8192x2048 .bf16) (w : FVec Ideal S2048x22528 .bf16) : FVec Ideal S8192x16384 .bf16 :=
  fun i => ∑ k, terms x w (i 0) ⟨(i 1).val, lt_of_lt_of_le (i 1).isLt (by decide)⟩ k

/-- Which block of its array each window takes at each point. -/
theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

theorem blk0 (c : Dev nD) (t : Fin cfg0.N) (r : Fin 1024) (k : Fin 2048) (i : Fin 8192) (hi : i.val = 1024 * (t.val / 16) + r.val) :
    iblk m c 0 t (ix2 r k) = m ((c : Thread nD τ).loc main_arg0) (ix2 i k) := by
  obtain ⟨i, h⟩ := i
  subst hi
  rw [← V_main_arg0 m c]; blk_ext [iblk, idx t]

theorem blk1 (c : Dev nD) (t : Fin cfg0.N) (k : Fin 2048) (n : Fin 1024) (j : Fin 22528) (hj : j.val = 1024 * (t.val % 16) + n.val) :
    iblk m c 1 t (ix2 k n) = m ((c : Thread nD τ).loc main_arg1) (ix2 k j) := by
  obtain ⟨j, h⟩ := j
  subst hj
  rw [← V_main_arg1 m c]; blk_ext [iblk, idx t]

/-- A block of the result. -/
theorem out_at (x : Vec Ideal S1024x2048 .bf16) (w : Vec Ideal S2048x1024 .bf16) (r n : Fin 1024) :
    out0_2 (F := Ideal) x w (ix2 r n) = ∑ k, terms x w r n k := by
  unfold out0_2 k0_pay1
  rw [View.canon_unit_zero (S := S1024x1024) origin, View.ld_unit_zero (S := S1024x2048) origin, View.ld_unit_zero (S := S2048x1024) origin]
  exact plain_at (φ₁ := .bf16) (φ₂ := .bf16) none _ rfl x w r n

/-- The kernel's result. -/
theorem final (c : Dev nD) : (dats m 0 c).arrAt 2 cfg0.N
    = result (m ((c : Thread nD τ).loc main_arg0)) (m ((c : Thread nD τ).loc main_arg1)) := by
  refine ((dats m 0 c).arrAt_eq_of_coversWhere 2 (result (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t k _ _ ?_) <;>
    (blk_simp [idx t]; dsimp only; omega)

/-- The reference's result. -/
theorem reference_at (x : FVec Ideal S8192x2048 .bf16) (w : FVec Ideal S2048x22528 .bf16) :
    Cert.Reference3Ideal.Read.val_main_v4 (F := Ideal) x w = result x w := by
  funext i
  rw [pair i]
  pointwise [Cert.Reference3Ideal.Read.val_main_v4, Cert.Reference3Ideal.Read.val_main_v3, Cert.Reference3Ideal.Read.val_main_v2, Cert.Reference3Ideal.Read.val_main_v1, Cert.Reference3Ideal.Read.val_main_v0]
  rfl

end Cert.Kernel3Ideal.Mul

end
-- ==== Proof.ProjXbc.lean ====
/- The convolution's columns of the input projection: the kernel's result and the reference's. -/
module

public import proofs.«01_k».proof.Proof.Blocks
public import proofs.«01_k».proof.Proof.Gen.Kernel4Ideal.Frame
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Kernel4Ideal.Mul

open Cert.Kernel4Ideal Cert.Kernel4Ideal.Gen Cert.Mul

variable (m : (ℓ : Loc nD τ sig) → Buf (Elt Ideal) ℓ)

/-- The result of both programs. -/
def result (x : FVec Ideal S8192x2048 .bf16) (w : FVec Ideal S2048x22528 .bf16) : FVec Ideal S8192x6144 .f32 :=
  fun i => ∑ k, terms x w (i 0) ⟨16384 + (i 1).val, Nat.add_lt_add_left (i 1).isLt 16384⟩ k

/-- Which block of its array each window takes at each point. -/
theorem idx : ∀ t : Fin cfg0.N, win0_0.index t = ![t.val / 6, 0] ∧ win0_1.index t = ![0, 16 + t.val % 6]
    ∧ win0_2.index t = ![t.val / 6, t.val % 6] :=
  (by decide +kernel : ∀ t : Fin grid0.N, _)

theorem blk0 (c : Dev nD) (t : Fin cfg0.N) (r : Fin 1024) (k : Fin 2048) (i : Fin 8192) (hi : i.val = 1024 * (t.val / 6) + r.val) :
    iblk m c 0 t (ix2 r k) = m ((c : Thread nD τ).loc main_arg0) (ix2 i k) := by
  obtain ⟨i, h⟩ := i
  subst hi
  rw [← V_main_arg0 m c]; blk_ext [iblk, idx t]

theorem blk1 (c : Dev nD) (t : Fin cfg0.N) (k : Fin 2048) (n : Fin 1024) (j : Fin 22528) (hj : j.val = 1024 * (16 + t.val % 6) + n.val) :
    iblk m c 1 t (ix2 k n) = m ((c : Thread nD τ).loc main_arg1) (ix2 k j) := by
  obtain ⟨j, h⟩ := j
  subst hj
  rw [← V_main_arg1 m c]; blk_ext [iblk, idx t]

/-- A block of the result. -/
theorem out_at (x : Vec Ideal S1024x2048 .bf16) (w : Vec Ideal S2048x1024 .bf16) (r n : Fin 1024) :
    out0_2 (F := Ideal) x w (ix2 r n) = ∑ k, terms x w r n k := by
  unfold out0_2 k0_pay1
  rw [View.canon_unit_zero (S := S1024x1024) origin, View.ld_unit_zero (S := S1024x2048) origin, View.ld_unit_zero (S := S2048x1024) origin]
  exact plain_at (φ₁ := .bf16) (φ₂ := .bf16) none _ rfl x w r n

/-- The kernel's result. -/
theorem final (c : Dev nD) : (dats m 0 c).arrAt 2 cfg0.N
    = result (m ((c : Thread nD τ).loc main_arg0)) (m ((c : Thread nD τ).loc main_arg1)) := by
  refine ((dats m 0 c).arrAt_eq_of_coversWhere 2 (result (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t k _ _ ?_) <;>
    (blk_simp [idx t]; dsimp only; omega)

/-- The reference's result. -/
theorem reference_at (x : FVec Ideal S8192x2048 .bf16) (w : FVec Ideal S2048x22528 .bf16) :
    Cert.Reference4Ideal.Read.val_main_v3 (F := Ideal) x w = result x w := by
  funext i
  rw [pair i]
  pointwise [Cert.Reference4Ideal.Read.val_main_v3, Cert.Reference4Ideal.Read.val_main_v2, Cert.Reference4Ideal.Read.val_main_v1, Cert.Reference4Ideal.Read.val_main_v0]
  rfl

end Cert.Kernel4Ideal.Mul

end
-- ==== Proof.Branch.lean ====
/- The output projections of the branches: the kernels' results and the references'. -/
module

public import proofs.«01_k».proof.Proof.Blocks
public import proofs.«01_k».proof.Proof.Gen.Kernel6Ideal.Frame
public import proofs.«01_k».proof.Proof.Gen.Reference6Ideal.Read
public import proofs.«01_k».proof.Proof.Gen.Kernel7Ideal.Frame
public import proofs.«01_k».proof.Proof.Gen.Reference7Ideal.Read

@[expose] public section

set_option maxRecDepth 16384

noncomputable section

open Idealize.ShloMosaic Idealize.ShloMosaic.TcCoe Idealize.SL.Sem
open Idealize.ShloMosaic.Pipeline (Dat)

/-! The projections with 2048 inputs. -/
namespace Cert.Kernel6Ideal.Mul

open Cert.Kernel6Ideal Cert.Kernel6Ideal.Gen Cert.Mul

variable (m : (ℓ : Loc nD τ sig) → Buf (Elt Ideal) ℓ) (c : Dev nD)

/-- Which block of its array each window takes at each point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem blk0 (t : Fin cfg0.N) (r : Fin 1024) (k : Fin 2048) (i : Fin 8192) (hi : i.val = 1024 * (t.val / 2) + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (k : Fin 2048) (n : Fin 1024) (j : Fin 2048) (hj : j.val = 1024 * (t.val % 2) + n.val) :
    iblk m c 1 t (ix2 k n) = m ((c : Thread nD τ).loc main_arg1) (ix2 k j) := by
  obtain ⟨j, h⟩ := j
  subst hj
  rw [← V_main_arg1 m c]; blk_ext [iblk, idx t]

/-- A block of the result. -/
theorem out_at (x : Vec Ideal S1024x2048 .bf16) (w : Vec Ideal S2048x1024 .bf16) (r n : Fin 1024) :
    out0_2 (F := Ideal) x w (ix2 r n) = ∑ k, terms x w r n k := by
  unfold out0_2 k0_pay1
  rw [View.canon_unit_zero (S := S1024x1024) origin, View.ld_unit_zero (S := S1024x2048) origin, View.ld_unit_zero (S := S2048x1024) origin]
  exact plain_at (φ₁ := .bf16) (φ₂ := .bf16) none _ rfl x w r n

/-- The kernel's result. -/
theorem final : (dats m 0 c).arrAt 2 cfg0.N
    = product (m ((c : Thread nD τ).loc main_arg0)) (m ((c : Thread nD τ).loc main_arg1)) := by
  refine ((dats m 0 c).arrAt_eq_of_coversWhere 2 (product (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t k _ _ ?_) <;>
    (blk_simp [idx t]; dsimp only; omega)

/-- The reference's result. -/
theorem reference_at (x : FVec Ideal S8192x2048 .bf16) (w : FVec Ideal S2048x2048 .bf16) :
    Cert.Reference6Ideal.Read.val_main_v3 (F := Ideal) x w = product x w := by
  funext i
  rw [pair i]
  pointwise [Cert.Reference6Ideal.Read.val_main_v3, Cert.Reference6Ideal.Read.val_main_v2, Cert.Reference6Ideal.Read.val_main_v1, Cert.Reference6Ideal.Read.val_main_v0]
  rfl

end Cert.Kernel6Ideal.Mul

/-! The projection with 4096 inputs. -/
namespace Cert.Kernel7Ideal.Mul

open Cert.Kernel7Ideal Cert.Kernel7Ideal.Gen Cert.Mul

variable (m : (ℓ : Loc nD τ sig) → Buf (Elt Ideal) ℓ) (c : Dev nD)

/-- Which block of its array each window takes at each point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

theorem blk0 (t : Fin cfg0.N) (r : Fin 1024) (k : Fin 4096) (i : Fin 8192) (hi : i.val = 1024 * (t.val / 2) + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (k : Fin 4096) (n : Fin 1024) (j : Fin 2048) (hj : j.val = 1024 * (t.val % 2) + n.val) :
    iblk m c 1 t (ix2 k n) = m ((c : Thread nD τ).loc main_arg1) (ix2 k j) := by
  obtain ⟨j, h⟩ := j
  subst hj
  rw [← V_main_arg1 m c]; blk_ext [iblk, idx t]

/-- A block of the result. -/
theorem out_at (x : Vec Ideal S1024x4096 .bf16) (w : Vec Ideal S4096x1024 .bf16) (r n : Fin 1024) :
    out0_2 (F := Ideal) x w (ix2 r n) = ∑ k, terms x w r n k := by
  unfold out0_2 k0_pay1
  rw [View.canon_unit_zero (S := S1024x1024) origin, View.ld_unit_zero (S := S1024x4096) origin, View.ld_unit_zero (S := S4096x1024) origin]
  exact plain_at (φ₁ := .bf16) (φ₂ := .bf16) none _ rfl x w r n

/-- The kernel's result. -/
theorem final : (dats m 0 c).arrAt 2 cfg0.N
    = product (m ((c : Thread nD τ).loc main_arg0)) (m ((c : Thread nD τ).loc main_arg1)) := by
  refine ((dats m 0 c).arrAt_eq_of_coversWhere 2 (product (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t k _ _ ?_) <;>
    (blk_simp [idx t]; dsimp only; omega)

/-- The reference's result. -/
theorem reference_at (x : FVec Ideal S8192x4096 .bf16) (w : FVec Ideal S4096x2048 .bf16) :
    Cert.Reference7Ideal.Read.val_main_v3 (F := Ideal) x w = product x w := by
  funext i
  rw [pair i]
  pointwise [Cert.Reference7Ideal.Read.val_main_v3, Cert.Reference7Ideal.Read.val_main_v2, Cert.Reference7Ideal.Read.val_main_v1, Cert.Reference7Ideal.Read.val_main_v0]
  rfl

end Cert.Kernel7Ideal.Mul

end
-- ==== Proof.DBranch.lean ====
/- The gradients of the branches: the kernels' results and the references'. -/
module

public import proofs.«01_k».proof.Proof.Blocks
public import proofs.«01_k».proof.Proof.Gen.Kernel8Ideal.Frame
public import proofs.«01_k».proof.Proof.Gen.Reference8Ideal.Read
public import proofs.«01_k».proof.Proof.Gen.Kernel9Ideal.Frame
public import proofs.«01_k».proof.Proof.Gen.Reference9Ideal.Read

@[expose] public section

set_option maxRecDepth 16384

noncomputable section

open Idealize.ShloMosaic Idealize.ShloMosaic.TcCoe Idealize.SL.Sem
open Idealize.ShloMosaic.Pipeline (Dat)

/-! The branches with 2048 columns. -/
namespace Cert.Kernel8Ideal.Mul

open Cert.Kernel8Ideal Cert.Kernel8Ideal.Gen Cert.Mul

variable (m : (ℓ : Loc nD τ sig) → Buf (Elt Ideal) ℓ) (c : Dev nD)

/-- Which block of its array each window takes at each point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

theorem blk0 (t : Fin cfg0.N) (r : Fin 1024) (k : Fin 2048) (i : Fin 8192) (hi : i.val = 1024 * (t.val / 2) + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (n : Fin 1024) (k : Fin 2048) (j : Fin 2048) (hj : j.val = 1024 * (t.val % 2) + n.val) :
    iblk m c 1 t (ix2 n k) = m ((c : Thread nD τ).loc main_arg1) (ix2 j k) := by
  obtain ⟨j, h⟩ := j
  subst hj
  rw [← V_main_arg1 m c]; blk_ext [iblk, idx t]

/-- A block of the result. -/
theorem out_at (x : Vec Ideal S1024x2048 .bf16) (w : Vec Ideal S1024x2048 .bf16) (r n : Fin 1024) :
    out0_2 (F := Ideal) x w (ix2 r n) = ∑ k, termsT x w r n k := by
  unfold out0_2 k0_pay1
  rw [View.canon_unit_zero (S := S1024x1024) origin, View.ld_unit_zero (S := S1024x2048) origin, View.ld_unit_zero (S := S1024x2048) origin]
  exact transposed_at (φ₁ := .bf16) (φ₂ := .bf16) none _ rfl x w r n

/-- The kernel's result. -/
theorem final : (dats m 0 c).arrAt 2 cfg0.N
    = productT (m ((c : Thread nD τ).loc main_arg0)) (m ((c : Thread nD τ).loc main_arg1)) := by
  refine ((dats m 0 c).arrAt_eq_of_coversWhere 2 (productT (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t _ k _ ?_) <;>
    (blk_simp [idx t]; dsimp only; omega)

/-- The reference's result. -/
theorem reference_at (x : FVec Ideal S8192x2048 .bf16) (w : FVec Ideal S2048x2048 .bf16) :
    Cert.Reference8Ideal.Read.val_main_v5 (F := Ideal) x w = productT x w := by
  funext i
  rw [pair i]
  pointwise [Cert.Reference8Ideal.Read.val_main_v5, Cert.Reference8Ideal.Read.val_main_v4, Cert.Reference8Ideal.Read.val_main_v3, Cert.Reference8Ideal.Read.val_main_v1]
  rfl

end Cert.Kernel8Ideal.Mul

/-! The branch with 4096 columns. -/
namespace Cert.Kernel9Ideal.Mul

open Cert.Kernel9Ideal Cert.Kernel9Ideal.Gen Cert.Mul

variable (m : (ℓ : Loc nD τ sig) → Buf (Elt Ideal) ℓ) (c : Dev nD)

/-- Which block of its array each window takes at each point. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

theorem blk0 (t : Fin cfg0.N) (r : Fin 1024) (k : Fin 2048) (i : Fin 8192) (hi : i.val = 1024 * (t.val / 4) + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (n : Fin 1024) (k : Fin 2048) (j : Fin 4096) (hj : j.val = 1024 * (t.val % 4) + n.val) :
    iblk m c 1 t (ix2 n k) = m ((c : Thread nD τ).loc main_arg1) (ix2 j k) := by
  obtain ⟨j, h⟩ := j
  subst hj
  rw [← V_main_arg1 m c]; blk_ext [iblk, idx t]

/-- A block of the result. -/
theorem out_at (x : Vec Ideal S1024x2048 .bf16) (w : Vec Ideal S1024x2048 .bf16) (r n : Fin 1024) :
    out0_2 (F := Ideal) x w (ix2 r n) = ∑ k, termsT x w r n k := by
  unfold out0_2 k0_pay1
  rw [View.canon_unit_zero (S := S1024x1024) origin, View.ld_unit_zero (S := S1024x2048) origin, View.ld_unit_zero (S := S1024x2048) origin]
  exact transposed_at (φ₁ := .bf16) (φ₂ := .bf16) none _ rfl x w r n

/-- The kernel's result. -/
theorem final : (dats m 0 c).arrAt 2 cfg0.N
    = productT (m ((c : Thread nD τ).loc main_arg0)) (m ((c : Thread nD τ).loc main_arg1)) := by
  refine ((dats m 0 c).arrAt_eq_of_coversWhere 2 (productT (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t _ k _ ?_) <;>
    (blk_simp [idx t]; dsimp only; omega)

/-- The reference's result. -/
theorem reference_at (x : FVec Ideal S8192x2048 .bf16) (w : FVec Ideal S4096x2048 .bf16) :
    Cert.Reference9Ideal.Read.val_main_v5 (F := Ideal) x w = productT x w := by
  funext i
  rw [pair i]
  pointwise [Cert.Reference9Ideal.Read.val_main_v5, Cert.Reference9Ideal.Read.val_main_v4, Cert.Reference9Ideal.Read.val_main_v3, Cert.Reference9Ideal.Read.val_main_v1]
  rfl

end Cert.Kernel9Ideal.Mul

end
-- ==== Proof.WGrad.lean ====
/- The gradients of the output projections' weights: the kernels' results and the references'. -/
module

public import proofs.«01_k».proof.Proof.Blocks
public import proofs.«01_k».proof.Proof.Gen.Kernel10Ideal.Frame
public import proofs.«01_k».proof.Proof.Gen.Reference10Ideal.Read
public import proofs.«01_k».proof.Proof.Gen.Kernel11Ideal.Frame
public import proofs.«01_k».proof.Proof.Gen.Reference11Ideal.Read
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! The weights with 2048 rows. -/
namespace Cert.Kernel10Ideal.Mul

open Cert.Kernel10Ideal Cert.Kernel10Ideal.Gen Cert.Mul

variable (m : (ℓ : Loc nD τ sig) → Buf (Elt Ideal) ℓ) (c : Dev nD)

/-- Which block of its array each window takes at each point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

section blocks

variable (t : Fin cfg0.N)

theorem blk0 (r : Fin 1024) (k : Fin 4096) (i : Fin 2048) (l : Fin 8192) (hi : i.val = 1024 * (t.val / 4) + r.val)
    (hl : l.val = 4096 * (t.val % 2) + k.val) : iblk m c 0 t (ix2 r k) = m ((c : Thread nD τ).loc main_arg0) (ix2 i l) := by
  obtain ⟨i, h⟩ := i
  obtain ⟨l, h'⟩ := l
  subst hi hl
  rw [← V_main_arg0 m c]; blk_ext [iblk, idx t]

theorem blk1 (k : Fin 4096) (n : Fin 1024) (l : Fin 8192) (j : Fin 2048) (hl : l.val = 4096 * (t.val % 2) + k.val)
    (hj : j.val = 1024 * (t.val / 2 % 2) + n.val) : iblk m c 1 t (ix2 k n) = m ((c : Thread nD τ).loc main_arg1) (ix2 l j) := by
  obtain ⟨j, h⟩ := j
  obtain ⟨l, h'⟩ := l
  subst hj hl
  rw [← V_main_arg1 m c]; blk_ext [iblk, idx t]

/-- The terms of a block. -/
theorem block_sum (r n : Fin 1024) (i : Fin 2048) (j : Fin 2048) (hi : i.val = 1024 * (t.val / 4) + r.val)
    (hj : j.val = 1024 * (t.val / 2 % 2) + n.val) : ∑ k, terms (iblk m c 0 t) (iblk m c 1 t) r n k
      = ∑ k : Fin 4096, terms (m ((c : Thread nD τ).loc main_arg0)) (m ((c : Thread nD τ).loc main_arg1)) i j
          ⟨4096 * (t.val % 2) + k.val, by omega⟩ :=
  Finset.sum_congr rfl fun k _ => congrArg₂ (· * ·) (blk0 m c t r k i _ hi rfl) (blk1 m c t k n _ j rfl hj)

/-- A block added. -/
theorem added_at (a : FVec Ideal S1024x1024 .f32) (x : FVec Ideal S1024x4096 .bf16) (y : FVec Ideal S4096x1024 .bf16) (r n : Fin 1024) :
    k0_pay2 a x y (ix2 r n) = a (ix2 r n) + ∑ k, terms x y r n k := by
  unfold k0_pay2
  rw [shapeCast_self]
  exact congrArg (a (ix2 r n) + ·) (plain_at (φ₁ := .bf16) (φ₂ := .bf16) none _ rfl x y r n)

/-- The sum after the first block. -/
theorem acc_first (h : t.val % 2 = 0) (r n : Fin 1024) :
    (outsAt0 m c t.val t.isLt).2 (ix2 r n) = ∑ k, terms (iblk m c 0 t) (iblk m c 1 t) r n k := by
  rw [outsAt0_A m c t h (by omega)]
  frame_out
  rw [added_at, show k0_pay1 (F := Ideal) (ix2 r n) = 0 from by unfold k0_pay1; rw [shapeCast_self]; exact zero_word, zero_add]

/-- The second block, and what is stored. -/
theorem out_last (h : t.val % 2 = 1) (r n : Fin 1024) : (outsAt0 m c t.val t.isLt).1 (ix2 r n)
    = (outsAt0 m c (t.val - 1) (by omega)).2 (ix2 r n) + ∑ k, terms (iblk m c 0 t) (iblk m c 1 t) r n k := by
  rw [outsAt0_B m c t (by omega) h]
  frame_out
  exact (added_at _ _ _ r n).trans (by rw [read_unread_whole])

/-- A block of the result. -/
theorem block_at (h : t.val % 2 = 1) (r n : Fin 1024) (i : Fin 2048) (j : Fin 2048) (hi : i.val = 1024 * (t.val / 4) + r.val)
    (hj : j.val = 1024 * (t.val / 2 % 2) + n.val) : (outsAt0 m c t.val t.isLt).1 (ix2 r n)
      = product (m ((c : Thread nD τ).loc main_arg0)) (m ((c : Thread nD τ).loc main_arg1)) (ix2 i j) := by
  have hp : t.val - 1 < cfg0.N := lt_of_le_of_lt (Nat.sub_le _ _) t.isLt
  refine (out_last m c t h r n).trans ((congrArg₂ (· + ·) ((acc_first m c ⟨t.val - 1, hp⟩ (by dsimp only; omega) r n).trans
    (block_sum m c ⟨t.val - 1, hp⟩ r n i j (by dsimp only; omega) (by dsimp only; omega))) (block_sum m c t r n i j hi hj)).trans ?_)
  refine (two_halves _ _ _ (by dsimp only; omega) (by omega)).trans ?_
  rfl

end blocks

/-- The kernel's result. -/
theorem final : (dats m 0 c).arrAt 2 cfg0.N
    = product (m ((c : Thread nD τ).loc main_arg0)) (m ((c : Thread nD τ).loc main_arg1)) := by
  refine ((dats m 0 c).arrAt_eq_of_coversWhere 2 (product (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (outsAt0 m c t.val t.isLt).1 (pair y)).trans ((block_at m c t ((flush0_2 t).1 hf) _ _ _ _ ?_ ?_).trans (congrArg _ (pair _).symm)) <;>
    (blk_simp [idx t]; dsimp only; omega)

/-- The reference's result. -/
theorem reference_at (x : FVec Ideal S2048x8192 .bf16) (w : FVec Ideal S8192x2048 .bf16) :
    Cert.Reference10Ideal.Read.val_main_v6 (F := Ideal) x w = product x w := by
  funext i
  rw [pair i]
  pointwise [Cert.Reference10Ideal.Read.val_main_v6, Cert.Reference10Ideal.Read.val_main_v5, Cert.Reference10Ideal.Read.val_main_v4, Cert.Reference10Ideal.Read.val_main_v1, Cert.Reference10Ideal.Read.val_main_v0]
  exact Finset.sum_congr rfl fun k _ => mul_comm _ _

end Cert.Kernel10Ideal.Mul

/-! The weights with 4096 rows. -/
namespace Cert.Kernel11Ideal.Mul

open Cert.Kernel11Ideal Cert.Kernel11Ideal.Gen Cert.Mul

variable (m : (ℓ : Loc nD τ sig) → Buf (Elt Ideal) ℓ) (c : Dev nD)

/-- Which block of its array each window takes at each point. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

section blocks

variable (t : Fin cfg0.N)

theorem blk0 (r : Fin 1024) (k : Fin 4096) (i : Fin 4096) (l : Fin 8192) (hi : i.val = 1024 * (t.val / 4) + r.val)
    (hl : l.val = 4096 * (t.val % 2) + k.val) : iblk m c 0 t (ix2 r k) = m ((c : Thread nD τ).loc main_arg0) (ix2 i l) := by
  obtain ⟨i, h⟩ := i
  obtain ⟨l, h'⟩ := l
  subst hi hl
  rw [← V_main_arg0 m c]; blk_ext [iblk, idx t]

theorem blk1 (k : Fin 4096) (n : Fin 1024) (l : Fin 8192) (j : Fin 2048) (hl : l.val = 4096 * (t.val % 2) + k.val)
    (hj : j.val = 1024 * (t.val / 2 % 2) + n.val) : iblk m c 1 t (ix2 k n) = m ((c : Thread nD τ).loc main_arg1) (ix2 l j) := by
  obtain ⟨j, h⟩ := j
  obtain ⟨l, h'⟩ := l
  subst hj hl
  rw [← V_main_arg1 m c]; blk_ext [iblk, idx t]

/-- The terms of a block. -/
theorem block_sum (r n : Fin 1024) (i : Fin 4096) (j : Fin 2048) (hi : i.val = 1024 * (t.val / 4) + r.val)
    (hj : j.val = 1024 * (t.val / 2 % 2) + n.val) : ∑ k, terms (iblk m c 0 t) (iblk m c 1 t) r n k
      = ∑ k : Fin 4096, terms (m ((c : Thread nD τ).loc main_arg0)) (m ((c : Thread nD τ).loc main_arg1)) i j
          ⟨4096 * (t.val % 2) + k.val, by omega⟩ :=
  Finset.sum_congr rfl fun k _ => congrArg₂ (· * ·) (blk0 m c t r k i _ hi rfl) (blk1 m c t k n _ j rfl hj)

/-- A block added. -/
theorem added_at (a : FVec Ideal S1024x1024 .f32) (x : FVec Ideal S1024x4096 .bf16) (y : FVec Ideal S4096x1024 .bf16) (r n : Fin 1024) :
    k0_pay2 a x y (ix2 r n) = a (ix2 r n) + ∑ k, terms x y r n k := by
  unfold k0_pay2
  rw [shapeCast_self]
  exact congrArg (a (ix2 r n) + ·) (plain_at (φ₁ := .bf16) (φ₂ := .bf16) none _ rfl x y r n)

/-- The sum after the first block. -/
theorem acc_first (h : t.val % 2 = 0) (r n : Fin 1024) :
    (outsAt0 m c t.val t.isLt).2 (ix2 r n) = ∑ k, terms (iblk m c 0 t) (iblk m c 1 t) r n k := by
  rw [outsAt0_A m c t h (by omega)]
  frame_out
  rw [added_at, show k0_pay1 (F := Ideal) (ix2 r n) = 0 from by unfold k0_pay1; rw [shapeCast_self]; exact zero_word, zero_add]

/-- The second block, and what is stored. -/
theorem out_last (h : t.val % 2 = 1) (r n : Fin 1024) : (outsAt0 m c t.val t.isLt).1 (ix2 r n)
    = (outsAt0 m c (t.val - 1) (by omega)).2 (ix2 r n) + ∑ k, terms (iblk m c 0 t) (iblk m c 1 t) r n k := by
  rw [outsAt0_B m c t (by omega) h]
  frame_out
  exact (added_at _ _ _ r n).trans (by rw [read_unread_whole])

/-- A block of the result. -/
theorem block_at (h : t.val % 2 = 1) (r n : Fin 1024) (i : Fin 4096) (j : Fin 2048) (hi : i.val = 1024 * (t.val / 4) + r.val)
    (hj : j.val = 1024 * (t.val / 2 % 2) + n.val) : (outsAt0 m c t.val t.isLt).1 (ix2 r n)
      = product (m ((c : Thread nD τ).loc main_arg0)) (m ((c : Thread nD τ).loc main_arg1)) (ix2 i j) := by
  have hp : t.val - 1 < cfg0.N := lt_of_le_of_lt (Nat.sub_le _ _) t.isLt
  refine (out_last m c t h r n).trans ((congrArg₂ (· + ·) ((acc_first m c ⟨t.val - 1, hp⟩ (by dsimp only; omega) r n).trans
    (block_sum m c ⟨t.val - 1, hp⟩ r n i j (by dsimp only; omega) (by dsimp only; omega))) (block_sum m c t r n i j hi hj)).trans ?_)
  refine (two_halves _ _ _ (by dsimp only; omega) (by omega)).trans ?_
  rfl

end blocks

/-- The kernel's result. -/
theorem final : (dats m 0 c).arrAt 2 cfg0.N
    = product (m ((c : Thread nD τ).loc main_arg0)) (m ((c : Thread nD τ).loc main_arg1)) := by
  refine ((dats m 0 c).arrAt_eq_of_coversWhere 2 (product (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (outsAt0 m c t.val t.isLt).1 (pair y)).trans ((block_at m c t ((flush0_2 t).1 hf) _ _ _ _ ?_ ?_).trans (congrArg _ (pair _).symm)) <;>
    (blk_simp [idx t]; dsimp only; omega)

/-- The reference's result. -/
theorem reference_at (x : FVec Ideal S4096x8192 .bf16) (w : FVec Ideal S8192x2048 .bf16) :
    Cert.Reference11Ideal.Read.val_main_v6 (F := Ideal) x w = product x w := by
  funext i
  rw [pair i]
  pointwise [Cert.Reference11Ideal.Read.val_main_v6, Cert.Reference11Ideal.Read.val_main_v5, Cert.Reference11Ideal.Read.val_main_v4, Cert.Reference11Ideal.Read.val_main_v1, Cert.Reference11Ideal.Read.val_main_v0]
  exact Finset.sum_congr rfl fun k _ => mul_comm _ _

end Cert.Kernel11Ideal.Mul

end
-- ==== Proof.Adam.lean ====
/- One step of the optimiser at an entry, and the step over the small weights. -/
module

public import proofs.«01_k».proof.Proof.Blocks
public import proofs.«01_k».proof.Proof.Gen.Kernel14Ideal.Frame
public import proofs.«01_k».proof.Proof.Gen.Reference14Ideal.Read

@[expose] public section

set_option maxRecDepth 16384

noncomputable section

open Idealize.ShloMosaic Idealize.ShloMosaic.TcCoe Idealize.SL.Sem
open Idealize.ShloMosaic.Pipeline (Dat)

namespace Cert.Adam

/-- The number a word stands for. -/
abbrev num (b : BitVec 32) : EReal := Ideal.ofBits .f32 b

/-- The new first moment of an entry, from its gradient and its first moment. -/
def first (g m : EReal) : EReal := num 0x3F666666#32 * m + num 0x3DCCCCCD#32 * g

/-- The new second moment of an entry, from its gradient and its second moment. -/
def second (g v : EReal) : EReal := num 0x3F7FBE77#32 * v + num 0x3A83126F#32 * (g * g)

/-- The change of an entry, from the entry, its gradient and its moments. -/
def change (w g m v : EReal) : EReal :=
  num 0xBA83126F#32 * (Ideal.div (Ideal.div (first g m) (num 0x3F26BD02#32))
    (Ideal.sqrt (Ideal.div (second g v) (num 0x3C231ACC#32)) + num 0x322BCC77#32) + num 0x3C23D70A#32 * w)

section

variable {s t : Shape} (h : s.ShapeCasts t) (h' : t.ShapeCasts s) (w g m v : s.Idx → EReal) (x : s.Idx)

/-- An entrywise value taken through another shape and back. -/
theorem through₂ (f : EReal → EReal → EReal) :
    shapeCast s (fun y => f (shapeCast t w h y) (shapeCast t g h y)) h' x = f (w x) (g x) :=
  congrArg₂ f (congrFun (shapeCast_shapeCast w h h') x) (congrFun (shapeCast_shapeCast g h h') x)

theorem through₄ (f : EReal → EReal → EReal → EReal → EReal) :
    shapeCast s (fun y => f (shapeCast t w h y) (shapeCast t g h y) (shapeCast t m h y) (shapeCast t v h y)) h' x
      = f (w x) (g x) (m x) (v x) := by
  show f (shapeCast s (shapeCast t w h) h' x) (shapeCast s (shapeCast t g h) h' x) (shapeCast s (shapeCast t m h) h' x)
    (shapeCast s (shapeCast t v h) h' x) = _
  rw [shapeCast_shapeCast, shapeCast_shapeCast, shapeCast_shapeCast, shapeCast_shapeCast]

end

end Cert.Adam

namespace Cert.Kernel14Ideal.Step

open Cert.Kernel14Ideal Cert.Kernel14Ideal.Gen Cert.Adam

variable (m : (ℓ : Loc nD τ sig) → Buf (Elt Ideal) ℓ) (c : Dev nD)

theorem change_at (w g a v : Vec Ideal S1x1x20736 .f32) (x : S1x1x20736.Idx) :
    k0_pay1 (F := Ideal) (k0_pay7 g a v w) x = change (w x) (g x) (a x) (v x) :=
  through₄ shapeCasts_S1x1x20736_S1x20736 shapeCasts_S1x20736_S1x1x20736 w g a v x change

theorem first_at (g a : Vec Ideal S1x1x20736 .f32) (x : S1x1x20736.Idx) :
    k0_pay2 (F := Ideal) (k0_pay5 g a) x = first (g x) (a x) :=
  through₂ shapeCasts_S1x1x20736_S1x20736 shapeCasts_S1x20736_S1x1x20736 g a x first

theorem second_at (g v : Vec Ideal S1x1x20736 .f32) (x : S1x1x20736.Idx) :
    k0_pay3 (F := Ideal) (k0_pay6 g v) x = second (g x) (v x) :=
  through₂ shapeCasts_S1x1x20736_S1x20736 shapeCasts_S1x20736_S1x1x20736 g v x second

theorem off : k0_off1 = fun _ => 0 := funext fun a => by fin_cases a <;> rfl

theorem out4 (w g a v : Vec Ideal S1x1x20736 .f32) (x : S1x1x20736.Idx) :
    out0_4 (F := Ideal) w g a v x = change (w x) (g x) (a x) (v x) := by
  unfold out0_4 r0_0
  rw [View.canon_unit_zero (S := S1x1x20736) off]
  simp only [View.ld_unit_zero (S := S1x1x20736) off]
  exact change_at w g a v x

theorem out5 (w g a v : Vec Ideal S1x1x20736 .f32) (x : S1x1x20736.Idx) : out0_5 (F := Ideal) w g a v x = first (g x) (a x) := by
  unfold out0_5 r0_0
  rw [View.canon_unit_zero (S := S1x1x20736) off]
  simp only [View.ld_unit_zero (S := S1x1x20736) off]
  exact first_at g a x

theorem out6 (w g a v : Vec Ideal S1x1x20736 .f32) (x : S1x1x20736.Idx) : out0_6 (F := Ideal) w g a v x = second (g x) (v x) := by
  unfold out0_6 r0_0
  rw [View.canon_unit_zero (S := S1x1x20736) off]
  simp only [View.ld_unit_zero (S := S1x1x20736) off]
  exact second_at g v x

/-- The change that the kernel leaves. -/
theorem final4 : (dats m 0 c).arrAt 4 cfg0.N = fun i => change (m ((c : Thread nD τ).loc main_arg0) i)
    (m ((c : Thread nD τ).loc main_arg1) i) (m ((c : Thread nD τ).loc main_arg2) i) (m ((c : Thread nD τ).loc main_arg3) i) := by
  refine ((dats m 0 c).arrAt_eq_of_coversWhere 4 (fun i => change (m ((c : Thread nD τ).loc main_arg0) i)
    (m ((c : Thread nD τ).loc main_arg1) i) (m ((c : Thread nD τ).loc main_arg2) i) (m ((c : Thread nD τ).loc main_arg3) i))
    (fun _ => True) (by decide +kernel) (fun t hf y => ?_) (fun j => Iff.rfl)).trans (funext fun i => if_pos trivial)
  exact (congrFun (after0_4 m c t) y).trans (out4 _ _ _ _ y)

/-- The first moments that it leaves. -/
theorem final5 : (dats m 0 c).arrAt 5 cfg0.N = fun i => first (m ((c : Thread nD τ).loc main_arg1) i) (m ((c : Thread nD τ).loc main_arg2) i) := by
  refine ((dats m 0 c).arrAt_eq_of_coversWhere 5 (fun i => first (m ((c : Thread nD τ).loc main_arg1) i) (m ((c : Thread nD τ).loc main_arg2) i))
    (fun _ => True) (by decide +kernel) (fun t hf y => ?_) (fun j => Iff.rfl)).trans (funext fun i => if_pos trivial)
  exact (congrFun (after0_5 m c t) y).trans (out5 _ _ _ _ y)

/-- The second moments that it leaves. -/
theorem final6 : (dats m 0 c).arrAt 6 cfg0.N = fun i => second (m ((c : Thread nD τ).loc main_arg1) i) (m ((c : Thread nD τ).loc main_arg3) i) := by
  refine ((dats m 0 c).arrAt_eq_of_coversWhere 6 (fun i => second (m ((c : Thread nD τ).loc main_arg1) i) (m ((c : Thread nD τ).loc main_arg3) i))
    (fun _ => True) (by decide +kernel) (fun t hf y => ?_) (fun j => Iff.rfl)).trans (funext fun i => if_pos trivial)
  exact (congrFun (after0_6 m c t) y).trans (out6 _ _ _ _ y)

/-- The reference's three results. -/
theorem reference4 (w g a v : FVec Ideal S1x1x20736 .f32) :
    Cert.Reference14Ideal.Read.val_main_v23 (F := Ideal) w g a v = fun i => change (w i) (g i) (a i) (v i) := rfl

theorem reference5 (g a : FVec Ideal S1x1x20736 .f32) :
    Cert.Reference14Ideal.Read.val_main_v4 (F := Ideal) g a = fun i => first (g i) (a i) := rfl

theorem reference6 (g v : FVec Ideal S1x1x20736 .f32) :
    Cert.Reference14Ideal.Read.val_main_v10 (F := Ideal) g v = fun i => second (g i) (v i) := rfl

end Cert.Kernel14Ideal.Step

end
-- ==== Proof.AdamLoops.lean ====
/- The step of the optimiser over the large weights, a strip of eight rows at a time. -/
module

public import proofs.«01_k».proof.Proof.Adam
public import proofs.«01_k».proof.Proof.Gen.Kernel12Ideal.Frame
public import proofs.«01_k».proof.Proof.Gen.Reference12Ideal.Read
public import proofs.«01_k».proof.Proof.Gen.Kernel13Ideal.Frame
public import proofs.«01_k».proof.Proof.Gen.Reference13Ideal.Read

@[expose] public section

set_option maxRecDepth 16384

noncomputable section

open Idealize.ShloMosaic Idealize.ShloMosaic.TcCoe Idealize.SL.Sem
open Idealize.ShloMosaic.Pipeline (Dat)

namespace Cert.Adam

variable {s : Shape} {e : EltTy}

/-- Every piece of a list holds the values of one function where it lies. -/
def Agree (L : List (View.Piece (Elt Ideal) s e)) (G : s.Idx → Elt Ideal e) : Prop :=
  ∀ p ∈ L, ∀ x : p.1.shape.Idx, p.2 x = G (p.1.emb x)

theorem agree_nil (G : s.Idx → Elt Ideal e) : Agree [] G := fun p hp => absurd hp List.not_mem_nil

theorem agree_append {L L' : List (View.Piece (Elt Ideal) s e)} {G : s.Idx → Elt Ideal e} (h : Agree L G) (h' : Agree L' G) :
    Agree (L ++ L') G :=
  fun p hp => (List.mem_append.mp hp).elim (h p) (h' p)

/-- A buffer that such pieces fill reads as the function. -/
theorem read_agree {sig : RefSig} {k : Kind} {sp : Space} (b : View sig k sp s e) (f : b.ty.Contents (Elt Ideal))
    {L : List (View.Piece (Elt Ideal) s e)} {G : s.Idx → Elt Ideal e} (h : Agree L G) (y : s.Idx) (hy : ∃ p ∈ L, y ∈ p.1.set) :
    b.read (Elt Ideal) (b.writes (Elt Ideal) f L) y = G y :=
  View.read_writes_apply_of_pieces b f G L h y hy

/-- The pieces of the three results hold the changes and the new moments. -/
def Steps (L L' L'' : List (View.Piece (Elt Ideal) s .f32)) (w g m v : s.Idx → EReal) : Prop :=
  Agree L (fun y => change (w y) (g y) (m y) (v y)) ∧ Agree L' (fun y => first (g y) (m y)) ∧ Agree L'' (fun y => second (g y) (v y))

end Cert.Adam

/-! The weights with 512 rows. -/
namespace Cert.Kernel12Ideal.Step

open Cert.Kernel12Ideal Cert.Kernel12Ideal.Gen Cert.Adam

variable (m : (ℓ : Loc nD τ sig) → Buf (Elt Ideal) ℓ) (c : Dev nD)

theorem change_at (w g a v : Vec Ideal S1x8x2048 .f32) (x : S1x8x2048.Idx) :
    k0_pay1 (F := Ideal) (k0_pay7 g a v w) x = change (w x) (g x) (a x) (v x) :=
  through₄ shapeCasts_S1x8x2048_S8x2048 shapeCasts_S8x2048_S1x8x2048 w g a v x change

theorem first_at (g a : Vec Ideal S1x8x2048 .f32) (x : S1x8x2048.Idx) :
    k0_pay2 (F := Ideal) (k0_pay5 g a) x = first (g x) (a x) :=
  through₂ shapeCasts_S1x8x2048_S8x2048 shapeCasts_S8x2048_S1x8x2048 g a x first

theorem second_at (g v : Vec Ideal S1x8x2048 .f32) (x : S1x8x2048.Idx) :
    k0_pay3 (F := Ideal) (k0_pay6 g v) x = second (g x) (v x) :=
  through₂ shapeCasts_S1x8x2048_S8x2048 shapeCasts_S8x2048_S1x8x2048 g v x second

section

variable (i : grid0.Coords) (arg1 : Memref sig .tc .vmem S1x128x2048 .f32) (harg1 : arg1.IsWhole) (arg2 : Memref sig .tc .vmem S1x128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)

/-- What one trip stores. -/
theorem trip_steps (k : Fin k0_t1_loop.trips) :
    Steps (tripL_k0_t1 (F := Ideal) Variants.none c none i arg1 harg1 arg2 harg2 arg3 harg3 arg4 harg4 arg5 harg5 arg6 harg6 arg7 harg7 X1 X2 X3 X4 k).1
      (tripL_k0_t1 (F := Ideal) Variants.none c none i arg1 harg1 arg2 harg2 arg3 harg3 arg4 harg4 arg5 harg5 arg6 harg6 arg7 harg7 X1 X2 X3 X4 k).2.1
      (tripL_k0_t1 (F := Ideal) Variants.none c none i arg1 harg1 arg2 harg2 arg3 harg3 arg4 harg4 arg5 harg5 arg6 harg6 arg7 harg7 X1 X2 X3 X4 k).2.2
      (arg1.view.read (Elt Ideal) X1) (arg2.view.read (Elt Ideal) X2) (arg3.view.read (Elt Ideal) X3) (arg4.view.read (Elt Ideal) X4) := by
  unfold tripL_k0_t1 trip_k0_t1
  refine ⟨fun p hp x => ?_, fun p hp x => ?_, fun p hp x => ?_⟩ <;> obtain rfl := List.mem_singleton.mp hp
  · exact change_at _ _ _ _ x
  · exact first_at _ _ x
  · exact second_at _ _ x

/-- What the first trips store. -/
theorem trips_steps (n : ℕ) (hn : n ≤ k0_t1_loop.trips) :
    Steps (pb_k0_t1 (F := Ideal) Variants.none c none i arg1 harg1 arg2 harg2 arg3 harg3 arg4 harg4 arg5 harg5 arg6 harg6 arg7 harg7 X1 X2 X3 X4 n).1
      (pb_k0_t1 (F := Ideal) Variants.none c none i arg1 harg1 arg2 harg2 arg3 harg3 arg4 harg4 arg5 harg5 arg6 harg6 arg7 harg7 X1 X2 X3 X4 n).2.1
      (pb_k0_t1 (F := Ideal) Variants.none c none i arg1 harg1 arg2 harg2 arg3 harg3 arg4 harg4 arg5 harg5 arg6 harg6 arg7 harg7 X1 X2 X3 X4 n).2.2
      (arg1.view.read (Elt Ideal) X1) (arg2.view.read (Elt Ideal) X2) (arg3.view.read (Elt Ideal) X3) (arg4.view.read (Elt Ideal) X4) := by
  induction n with
  | zero => exact ⟨agree_nil _, agree_nil _, agree_nil _⟩
  | succ n ih =>
    obtain ⟨h1, h2, h3⟩ := ih (Nat.le_of_succ_le hn)
    obtain ⟨t1, t2, t3⟩ := trip_steps c i arg1 harg1 arg2 harg2 arg3 harg3 arg4 harg4 arg5 harg5 arg6 harg6 arg7 harg7 X1 X2 X3 X4 ⟨n, hn⟩
    rw [pb_k0_t1_succ Variants.none c none i arg1 harg1 arg2 harg2 arg3 harg3 arg4 harg4 arg5 harg5 arg6 harg6 arg7 harg7 X1 X2 X3 X4 ⟨n, hn⟩]
    exact ⟨agree_append t1 h1, agree_append t2 h2, agree_append t3 h3⟩

variable (w g a v : Vec Ideal S1x128x2048 .f32) (y : S1x128x2048.Idx)

/-- What the loop stores. -/
theorem run_steps : Steps (kernelRun0_A (F := Ideal) c i arg1 harg1 arg2 harg2 arg3 harg3 arg4 harg4 arg5 harg5 arg6 harg6 arg7 harg7 w g a v).1 (kernelRun0_A (F := Ideal) c i arg1 harg1 arg2 harg2 arg3 harg3 arg4 harg4 arg5 harg5 arg6 harg6 arg7 harg7 w g a v).2.1
    (kernelRun0_A (F := Ideal) c i arg1 harg1 arg2 harg2 arg3 harg3 arg4 harg4 arg5 harg5 arg6 harg6 arg7 harg7 w g a v).2.2.1 w g a v := by
  have h := trips_steps c i arg1 harg1 arg2 harg2 arg3 harg3 arg4 harg4 arg5 harg5 arg6 harg6 arg7 harg7 (harg1.unread w) (harg2.unread g) (harg3.unread a) (harg4.unread v) _ le_rfl
  rw [harg1.read_unread, harg2.read_unread, harg3.read_unread, harg4.read_unread] at h
  exact h

/-- A block of each result. -/
theorem out4 : out0_A_4 (F := Ideal) c i arg1 harg1 arg2 harg2 arg3 harg3 arg4 harg4 arg5 harg5 arg6 harg6 arg7 harg7 w g a v y = change (w y) (g y) (a y) (v y) :=
  read_agree _ _ (run_steps c i arg1 harg1 arg2 harg2 arg3 harg3 arg4 harg4 arg5 harg5 arg6 harg6 arg7 harg7 w g a v).1 y (cover0_A_4 c i arg1 harg1 arg2 harg2 arg3 harg3 arg4 harg4 arg5 harg5 arg6 harg6 arg7 harg7 w g a v y)

theorem out5 : out0_A_5 (F := Ideal) c i arg1 harg1 arg2 harg2 arg3 harg3 arg4 harg4 arg5 harg5 arg6 harg6 arg7 harg7 w g a v y = first (g y) (a y) :=
  read_agree _ _ (run_steps c i arg1 harg1 arg2 harg2 arg3 harg3 arg4 harg4 arg5 harg5 arg6 harg6 arg7 harg7 w g a v).2.1 y (cover0_A_5 c i arg1 harg1 arg2 harg2 arg3 harg3 arg4 harg4 arg5 harg5 arg6 harg6 arg7 harg7 w g a v y)

theorem out6 : out0_A_6 (F := Ideal) c i arg1 harg1 arg2 harg2 arg3 harg3 arg4 harg4 arg5 harg5 arg6 harg6 arg7 harg7 w g a v y = second (g y) (v y) :=
  read_agree _ _ (run_steps c i arg1 harg1 arg2 harg2 arg3 harg3 arg4 harg4 arg5 harg5 arg6 harg6 arg7 harg7 w g a v).2.2 y (cover0_A_6 c i arg1 harg1 arg2 harg2 arg3 harg3 arg4 harg4 arg5 harg5 arg6 harg6 arg7 harg7 w g a v y)

end

/-- The change that the kernel leaves. -/
theorem final4 : (dats m 0 c).arrAt 4 cfg0.N = fun i => change (m ((c : Thread nD τ).loc main_arg0) i)
    (m ((c : Thread nD τ).loc main_arg1) i) (m ((c : Thread nD τ).loc main_arg2) i) (m ((c : Thread nD τ).loc main_arg3) i) := by
  refine ((dats m 0 c).arrAt_eq_of_coversWhere 4 (fun i => change (m ((c : Thread nD τ).loc main_arg0) i)
    (m ((c : Thread nD τ).loc main_arg1) i) (m ((c : Thread nD τ).loc main_arg2) i) (m ((c : Thread nD τ).loc main_arg3) i))
    (fun _ => True) (by decide +kernel) (fun t hf y => ?_) (fun j => Iff.rfl)).trans (funext fun i => if_pos trivial)
  exact (congrFun (after0_4 m c t) y).trans (out4 ..)

/-- The first moments that it leaves. -/
theorem final5 : (dats m 0 c).arrAt 5 cfg0.N = fun i => first (m ((c : Thread nD τ).loc main_arg1) i) (m ((c : Thread nD τ).loc main_arg2) i) := by
  refine ((dats m 0 c).arrAt_eq_of_coversWhere 5 (fun i => first (m ((c : Thread nD τ).loc main_arg1) i) (m ((c : Thread nD τ).loc main_arg2) i))
    (fun _ => True) (by decide +kernel) (fun t hf y => ?_) (fun j => Iff.rfl)).trans (funext fun i => if_pos trivial)
  exact (congrFun (after0_5 m c t) y).trans (out5 ..)

/-- The second moments that it leaves. -/
theorem final6 : (dats m 0 c).arrAt 6 cfg0.N = fun i => second (m ((c : Thread nD τ).loc main_arg1) i) (m ((c : Thread nD τ).loc main_arg3) i) := by
  refine ((dats m 0 c).arrAt_eq_of_coversWhere 6 (fun i => second (m ((c : Thread nD τ).loc main_arg1) i) (m ((c : Thread nD τ).loc main_arg3) i))
    (fun _ => True) (by decide +kernel) (fun t hf y => ?_) (fun j => Iff.rfl)).trans (funext fun i => if_pos trivial)
  exact (congrFun (after0_6 m c t) y).trans (out6 ..)

/-- The reference's three results. -/
theorem reference4 (w g a v : FVec Ideal S1x512x2048 .f32) :
    Cert.Reference12Ideal.Read.val_main_v23 (F := Ideal) w g a v = fun i => change (w i) (g i) (a i) (v i) := rfl

theorem reference5 (g a : FVec Ideal S1x512x2048 .f32) :
    Cert.Reference12Ideal.Read.val_main_v4 (F := Ideal) g a = fun i => first (g i) (a i) := rfl

theorem reference6 (g v : FVec Ideal S1x512x2048 .f32) :
    Cert.Reference12Ideal.Read.val_main_v10 (F := Ideal) g v = fun i => second (g i) (v i) := rfl

end Cert.Kernel12Ideal.Step

/-! The weights with 1024 rows. -/
namespace Cert.Kernel13Ideal.Step

open Cert.Kernel13Ideal Cert.Kernel13Ideal.Gen Cert.Adam

variable (m : (ℓ : Loc nD τ sig) → Buf (Elt Ideal) ℓ) (c : Dev nD)

theorem change_at (w g a v : Vec Ideal S1x8x2048 .f32) (x : S1x8x2048.Idx) :
    k0_pay1 (F := Ideal) (k0_pay7 g a v w) x = change (w x) (g x) (a x) (v x) :=
  through₄ shapeCasts_S1x8x2048_S8x2048 shapeCasts_S8x2048_S1x8x2048 w g a v x change

theorem first_at (g a : Vec Ideal S1x8x2048 .f32) (x : S1x8x2048.Idx) :
    k0_pay2 (F := Ideal) (k0_pay5 g a) x = first (g x) (a x) :=
  through₂ shapeCasts_S1x8x2048_S8x2048 shapeCasts_S8x2048_S1x8x2048 g a x first

theorem second_at (g v : Vec Ideal S1x8x2048 .f32) (x : S1x8x2048.Idx) :
    k0_pay3 (F := Ideal) (k0_pay6 g v) x = second (g x) (v x) :=
  through₂ shapeCasts_S1x8x2048_S8x2048 shapeCasts_S8x2048_S1x8x2048 g v x second

section

variable (i : grid0.Coords) (arg1 : Memref sig .tc .vmem S1x128x2048 .f32) (harg1 : arg1.IsWhole) (arg2 : Memref sig .tc .vmem S1x128x2048 .f32) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x128x2048 .f32) (harg5 : arg5.IsWhole) (arg6 : Memref sig .tc .vmem S1x128x2048 .f32) (harg6 : arg6.IsWhole) (arg7 : Memref sig .tc .vmem S1x128x2048 .f32) (harg7 : arg7.IsWhole)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)

/-- What one trip stores. -/
theorem trip_steps (k : Fin k0_t1_loop.trips) :
    Steps (tripL_k0_t1 (F := Ideal) Variants.none c none i arg1 harg1 arg2 harg2 arg3 harg3 arg4 harg4 arg5 harg5 arg6 harg6 arg7 harg7 X1 X2 X3 X4 k).1
      (tripL_k0_t1 (F := Ideal) Variants.none c none i arg1 harg1 arg2 harg2 arg3 harg3 arg4 harg4 arg5 harg5 arg6 harg6 arg7 harg7 X1 X2 X3 X4 k).2.1
      (tripL_k0_t1 (F := Ideal) Variants.none c none i arg1 harg1 arg2 harg2 arg3 harg3 arg4 harg4 arg5 harg5 arg6 harg6 arg7 harg7 X1 X2 X3 X4 k).2.2
      (arg1.view.read (Elt Ideal) X1) (arg2.view.read (Elt Ideal) X2) (arg3.view.read (Elt Ideal) X3) (arg4.view.read (Elt Ideal) X4) := by
  unfold tripL_k0_t1 trip_k0_t1
  refine ⟨fun p hp x => ?_, fun p hp x => ?_, fun p hp x => ?_⟩ <;> obtain rfl := List.mem_singleton.mp hp
  · exact change_at _ _ _ _ x
  · exact first_at _ _ x
  · exact second_at _ _ x

/-- What the first trips store. -/
theorem trips_steps (n : ℕ) (hn : n ≤ k0_t1_loop.trips) :
    Steps (pb_k0_t1 (F := Ideal) Variants.none c none i arg1 harg1 arg2 harg2 arg3 harg3 arg4 harg4 arg5 harg5 arg6 harg6 arg7 harg7 X1 X2 X3 X4 n).1
      (pb_k0_t1 (F := Ideal) Variants.none c none i arg1 harg1 arg2 harg2 arg3 harg3 arg4 harg4 arg5 harg5 arg6 harg6 arg7 harg7 X1 X2 X3 X4 n).2.1
      (pb_k0_t1 (F := Ideal) Variants.none c none i arg1 harg1 arg2 harg2 arg3 harg3 arg4 harg4 arg5 harg5 arg6 harg6 arg7 harg7 X1 X2 X3 X4 n).2.2
      (arg1.view.read (Elt Ideal) X1) (arg2.view.read (Elt Ideal) X2) (arg3.view.read (Elt Ideal) X3) (arg4.view.read (Elt Ideal) X4) := by
  induction n with
  | zero => exact ⟨agree_nil _, agree_nil _, agree_nil _⟩
  | succ n ih =>
    obtain ⟨h1, h2, h3⟩ := ih (Nat.le_of_succ_le hn)
    obtain ⟨t1, t2, t3⟩ := trip_steps c i arg1 harg1 arg2 harg2 arg3 harg3 arg4 harg4 arg5 harg5 arg6 harg6 arg7 harg7 X1 X2 X3 X4 ⟨n, hn⟩
    rw [pb_k0_t1_succ Variants.none c none i arg1 harg1 arg2 harg2 arg3 harg3 arg4 harg4 arg5 harg5 arg6 harg6 arg7 harg7 X1 X2 X3 X4 ⟨n, hn⟩]
    exact ⟨agree_append t1 h1, agree_append t2 h2, agree_append t3 h3⟩

variable (w g a v : Vec Ideal S1x128x2048 .f32) (y : S1x128x2048.Idx)

/-- What the loop stores. -/
theorem run_steps : Steps (kernelRun0_A (F := Ideal) c i arg1 harg1 arg2 harg2 arg3 harg3 arg4 harg4 arg5 harg5 arg6 harg6 arg7 harg7 w g a v).1 (kernelRun0_A (F := Ideal) c i arg1 harg1 arg2 harg2 arg3 harg3 arg4 harg4 arg5 harg5 arg6 harg6 arg7 harg7 w g a v).2.1
    (kernelRun0_A (F := Ideal) c i arg1 harg1 arg2 harg2 arg3 harg3 arg4 harg4 arg5 harg5 arg6 harg6 arg7 harg7 w g a v).2.2.1 w g a v := by
  have h := trips_steps c i arg1 harg1 arg2 harg2 arg3 harg3 arg4 harg4 arg5 harg5 arg6 harg6 arg7 harg7 (harg1.unread w) (harg2.unread g) (harg3.unread a) (harg4.unread v) _ le_rfl
  rw [harg1.read_unread, harg2.read_unread, harg3.read_unread, harg4.read_unread] at h
  exact h

/-- A block of each result. -/
theorem out4 : out0_A_4 (F := Ideal) c i arg1 harg1 arg2 harg2 arg3 harg3 arg4 harg4 arg5 harg5 arg6 harg6 arg7 harg7 w g a v y = change (w y) (g y) (a y) (v y) :=
  read_agree _ _ (run_steps c i arg1 harg1 arg2 harg2 arg3 harg3 arg4 harg4 arg5 harg5 arg6 harg6 arg7 harg7 w g a v).1 y (cover0_A_4 c i arg1 harg1 arg2 harg2 arg3 harg3 arg4 harg4 arg5 harg5 arg6 harg6 arg7 harg7 w g a v y)

theorem out5 : out0_A_5 (F := Ideal) c i arg1 harg1 arg2 harg2 arg3 harg3 arg4 harg4 arg5 harg5 arg6 harg6 arg7 harg7 w g a v y = first (g y) (a y) :=
  read_agree _ _ (run_steps c i arg1 harg1 arg2 harg2 arg3 harg3 arg4 harg4 arg5 harg5 arg6 harg6 arg7 harg7 w g a v).2.1 y (cover0_A_5 c i arg1 harg1 arg2 harg2 arg3 harg3 arg4 harg4 arg5 harg5 arg6 harg6 arg7 harg7 w g a v y)

theorem out6 : out0_A_6 (F := Ideal) c i arg1 harg1 arg2 harg2 arg3 harg3 arg4 harg4 arg5 harg5 arg6 harg6 arg7 harg7 w g a v y = second (g y) (v y) :=
  read_agree _ _ (run_steps c i arg1 harg1 arg2 harg2 arg3 harg3 arg4 harg4 arg5 harg5 arg6 harg6 arg7 harg7 w g a v).2.2 y (cover0_A_6 c i arg1 harg1 arg2 harg2 arg3 harg3 arg4 harg4 arg5 harg5 arg6 harg6 arg7 harg7 w g a v y)

end

/-- The change that the kernel leaves. -/
theorem final4 : (dats m 0 c).arrAt 4 cfg0.N = fun i => change (m ((c : Thread nD τ).loc main_arg0) i)
    (m ((c : Thread nD τ).loc main_arg1) i) (m ((c : Thread nD τ).loc main_arg2) i) (m ((c : Thread nD τ).loc main_arg3) i) := by
  refine ((dats m 0 c).arrAt_eq_of_coversWhere 4 (fun i => change (m ((c : Thread nD τ).loc main_arg0) i)
    (m ((c : Thread nD τ).loc main_arg1) i) (m ((c : Thread nD τ).loc main_arg2) i) (m ((c : Thread nD τ).loc main_arg3) i))
    (fun _ => True) (by decide +kernel) (fun t hf y => ?_) (fun j => Iff.rfl)).trans (funext fun i => if_pos trivial)
  exact (congrFun (after0_4 m c t) y).trans (out4 ..)

/-- The first moments that it leaves. -/
theorem final5 : (dats m 0 c).arrAt 5 cfg0.N = fun i => first (m ((c : Thread nD τ).loc main_arg1) i) (m ((c : Thread nD τ).loc main_arg2) i) := by
  refine ((dats m 0 c).arrAt_eq_of_coversWhere 5 (fun i => first (m ((c : Thread nD τ).loc main_arg1) i) (m ((c : Thread nD τ).loc main_arg2) i))
    (fun _ => True) (by decide +kernel) (fun t hf y => ?_) (fun j => Iff.rfl)).trans (funext fun i => if_pos trivial)
  exact (congrFun (after0_5 m c t) y).trans (out5 ..)

/-- The second moments that it leaves. -/
theorem final6 : (dats m 0 c).arrAt 6 cfg0.N = fun i => second (m ((c : Thread nD τ).loc main_arg1) i) (m ((c : Thread nD τ).loc main_arg3) i) := by
  refine ((dats m 0 c).arrAt_eq_of_coversWhere 6 (fun i => second (m ((c : Thread nD τ).loc main_arg1) i) (m ((c : Thread nD τ).loc main_arg3) i))
    (fun _ => True) (by decide +kernel) (fun t hf y => ?_) (fun j => Iff.rfl)).trans (funext fun i => if_pos trivial)
  exact (congrFun (after0_6 m c t) y).trans (out6 ..)

/-- The reference's three results. -/
theorem reference4 (w g a v : FVec Ideal S1x1024x2048 .f32) :
    Cert.Reference13Ideal.Read.val_main_v23 (F := Ideal) w g a v = fun i => change (w i) (g i) (a i) (v i) := rfl

theorem reference5 (g a : FVec Ideal S1x1024x2048 .f32) :
    Cert.Reference13Ideal.Read.val_main_v4 (F := Ideal) g a = fun i => first (g i) (a i) := rfl

theorem reference6 (g v : FVec Ideal S1x1024x2048 .f32) :
    Cert.Reference13Ideal.Read.val_main_v10 (F := Ideal) g v = fun i => second (g i) (v i) := rfl

end Cert.Kernel13Ideal.Step

end
-- ==== Proof.Norm.lean ====
/- The reciprocal root mean square of a row, and the gradient of the norm in the two forms the programs compute it in. -/
module

public import proofs.«01_k».proof.Proof.Lift

@[expose] public section

noncomputable section

open Idealize.ShloMosaic

namespace Cert.Norm

open Cert.Ret (eps eps_pos lit_eps)

theorem lit_2048 : Ideal.ofBits .f32 0x45000000#32 = ((2048 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- A nonnegative real goes into a sum. -/
theorem coe_mul_sum {n : ℕ} {r : ℝ} (hr : 0 ≤ r) (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (EReal.coe_nonneg.mpr hr) (EReal.coe_ne_top r), ih]

theorem square_nonneg (x : EReal) : 0 ≤ x * x := by
  induction x with
  | bot => simp
  | coe x => exact_mod_cast mul_self_nonneg x
  | top => simp

/-- The mean of the squares of a row, and the small constant. -/
def msq (x : Fin 2048 → EReal) : EReal := Ideal.div (∑ k, x k * x k) ((2048 : ℝ) : EReal) + (eps : EReal)

/-- It is infinite or a positive real. -/
theorem msq_cases (x : Fin 2048 → EReal) : msq x = ⊤ ∨ ∃ a : ℝ, 0 < a ∧ msq x = (a : EReal) := by
  have h : 0 ≤ ∑ k, x k * x k := Finset.sum_nonneg fun k _ => square_nonneg (x k)
  unfold msq
  rw [Ideal.div_coe (by norm_num)]
  induction hs : ∑ k, x k * x k with
  | bot => rw [hs] at h; simp at h
  | coe s =>
    rw [hs] at h
    have h' : 0 ≤ s := EReal.coe_nonneg.mp h
    refine Or.inr ⟨s * (1 / 2048) + eps, by have := eps_pos; positivity, ?_⟩
    push_cast
    rfl
  | top =>
    refine Or.inl ?_
    rw [EReal.top_mul_coe_of_pos (by norm_num), EReal.top_add_coe]

/-- The reciprocal root. -/
def inv (x : Fin 2048 → EReal) : EReal := Ideal.rsqrt (msq x)

/-- The gradient as the kernel computes it: of the scaled gradient `D` at the row `x`. -/
def pull (x D : Fin 2048 → EReal) (j : Fin 2048) : EReal :=
  inv x * (D j - x j * inv x * Ideal.div (∑ k, D k * (x k * inv x)) ((2048 : ℝ) : EReal))

/-- The factor of the row in the gradient as the reference computes it. -/
def factor (x D : Fin 2048 → EReal) : EReal :=
  Ideal.div ((∑ k, x k * D k) * (((-(1 / 2) : ℝ) : EReal) * Ideal.div (inv x) (msq x))) ((2048 : ℝ) : EReal)

theorem twice (y : EReal) (q : ℝ) : y * (q : EReal) + y * (q : EReal) = y * ((2 * q : ℝ) : EReal) := by
  have h : (((1 : ℝ) : EReal) + ((1 : ℝ) : EReal)) * (y * (q : EReal)) = y * (q : EReal) + y * (q : EReal) := by
    rw [EReal.right_distrib_of_nonneg (by simp) (by simp), EReal.coe_one, one_mul]
  rw [← h, ← EReal.coe_add, one_add_one_eq_two, EReal.coe_mul]
  ac_rfl

/-- The two forms are equal. -/
theorem pull_eq (x D : Fin 2048 → EReal) (j : Fin 2048) :
    pull x D j = D j * inv x + x j * factor x D + factor x D * x j := by
  unfold pull factor
  rcases msq_cases x with h | ⟨a, ha, h⟩
  · have hi : inv x = 0 := by unfold inv; rw [h, Ideal.rsqrt_top]
    have hd : Ideal.div 0 (⊤ : EReal) = 0 := by simp [Ideal.div]
    rw [h, hi, hd, mul_zero, mul_zero]
    simp [Ideal.div_coe]
  · obtain ⟨r, hr⟩ : ∃ r : ℝ, r = (Real.sqrt a)⁻¹ := ⟨_, rfl⟩
    have hi : inv x = (r : EReal) := by unfold inv; rw [h, Cert.Ret.rsqrt_real a ha, hr]
    have h0 : 0 ≤ r := by rw [hr]; positivity
    have h2 : r * r = a⁻¹ := by rw [hr, ← mul_inv, Real.mul_self_sqrt ha.le]
    have hsum : ∑ k, D k * (x k * (r : EReal)) = (r : EReal) * ∑ k, x k * D k := by
      rw [coe_mul_sum h0]
      exact Finset.sum_congr rfl fun k _ => by rw [← mul_assoc, mul_comm, mul_comm (D k)]
    generalize hS : ∑ k, x k * D k = S at hsum ⊢
    rw [h, hi, hsum, Cert.Ret.div_real r a ha.ne', Ideal.div_coe (by norm_num), Ideal.div_coe (by norm_num), ← EReal.coe_mul, sub_eq_add_neg,
      EReal.left_distrib_of_nonneg_of_ne_top (EReal.coe_nonneg.mpr h0) (EReal.coe_ne_top r), add_assoc, mul_comm (D j)]
    congr 1
    generalize x j = y
    have hl : (r : EReal) * -(y * (r : EReal) * ((r : EReal) * S * ((1 / 2048 : ℝ) : EReal)))
        = y * S * ((-(r * r * r * (1 / 2048)) : ℝ) : EReal) := by
      push_cast
      rw [mul_neg, mul_neg]
      congr 1
      ac_rfl
    have hq : y * (S * ((-(1 / 2) * (r / a) : ℝ) : EReal) * ((1 / 2048 : ℝ) : EReal))
        = y * S * ((-(1 / 2) * (r / a) * (1 / 2048) : ℝ) : EReal) := by
      rw [EReal.coe_mul _ (1 / 2048)]
      ac_rfl
    rw [hl, mul_comm _ y, hq, twice]
    congr 2
    rw [h2]
    field_simp

end Cert.Norm

end
-- ==== Proof.NormFwd.lean ====
/- The root mean square norm of the input: a strip of sixteen rows at a time, and the transposed copy. -/
module

public import proofs.«01_k».proof.Proof.Norm
public import proofs.«01_k».proof.Proof.AdamLoops
public import proofs.«01_k».proof.Proof.Blocks
public import proofs.«01_k».proof.Proof.Gen.Kernel15Ideal.Frame
public import proofs.«01_k».proof.Proof.Gen.Reference15Ideal.Read

@[expose] public section

set_option maxRecDepth 16384

noncomputable section

open Idealize.ShloMosaic Idealize.ShloMosaic.TcCoe Idealize.SL.Sem
open Idealize.ShloMosaic.Pipeline (Dat)

namespace Cert.Norm

open Cert.Adam (Agree read_agree)

variable {M N : ℕ} {e : EltTy}

/-- A row of a matrix. -/
def row (X : (⟨2, ![M, N]⟩ : Shape).Idx → EReal) (l : Fin M) (k : Fin N) : EReal := X (ix2 l k)

/-- A strip of whole rows keeps the columns. -/
theorem strip_emb {S : ℕ} {off : Fin 2 → ℕ} (h : off 1 = 0) (inb : ∀ a, off a + (![S, N] : Fin 2 → ℕ) a ≤ (![M, N] : Fin 2 → ℕ) a)
    (x : (⟨2, ![S, N]⟩ : Shape).Idx) (k : Fin N) :
    (Rect.unit (s := ⟨2, ![M, N]⟩) off ![S, N] inb).emb (ix2 (x 0) k) = ix2 ((Rect.unit (s := ⟨2, ![M, N]⟩) off ![S, N] inb).emb x 0) k := by
  funext a
  fin_cases a
  · rfl
  · refine Fin.ext ?_
    show off 1 + 1 * k.val = k.val
    omega

/-- A load of a whole buffer that such pieces fill. -/
theorem cov_agree [∀ e, Nonempty (Elt Ideal e)] {sig : RefSig} {κ : Kind} {sp : Space} (b : View sig κ sp ⟨2, ![M, N]⟩ e)
    {L : List (View.Piece (Elt Ideal) ⟨2, ![M, N]⟩ e)} {G : (⟨2, ![M, N]⟩ : Shape).Idx → Elt Ideal e} (h : Agree L G)
    (hc : ∀ y, ∃ p ∈ L, y ∈ p.1.set) (inb : ∀ a, (![0, 0] : Fin 2 → ℕ) a + (![M, N] : Fin 2 → ℕ) a ≤ (![M, N] : Fin 2 → ℕ) a) :
    b.readCov L (Rect.unit (s := ⟨2, ![M, N]⟩) ![0, 0] ![M, N] inb).toLoadRect = G := by
  funext j
  have hj : (Rect.unit (s := ⟨2, ![M, N]⟩) ![0, 0] ![M, N] inb).toLoadRect.idx j = j := by
    funext a
    refine Fin.ext ?_
    fin_cases a
    · show 0 + 1 * (j 0).val = (j 0).val; omega
    · show 0 + 1 * (j 1).val = (j 1).val; omega
  exact (read_agree b b.junk h _ (hc _)).trans (congrArg G hj)

/-- A row of the norm, scaled by the weights. -/
def fwd (x w : Fin 2048 → EReal) (j : Fin 2048) : EReal := x j * inv x * w j

end Cert.Norm

namespace Cert.Kernel15Ideal.Step

open Cert.Kernel15Ideal Cert.Kernel15Ideal.Gen Cert.Norm Cert.Adam
open Cert.Ret (eps lit_eps)
open Cert.Mul (pair)

variable (m : (ℓ : Loc nD τ sig) → Buf (Elt Ideal) ℓ) (c : Dev nD)

/-- The norm of every row. -/
def norm {M : ℕ} (X : (⟨2, ![M, 2048]⟩ : Shape).Idx → EReal) (W : (⟨2, ![1, 2048]⟩ : Shape).Idx → EReal) (y : (⟨2, ![M, 2048]⟩ : Shape).Idx) : EReal :=
  fwd (row X (y 0)) (row W 0) (y 1)

/-- The norm, transposed. -/
def flip {M : ℕ} (X : (⟨2, ![M, 2048]⟩ : Shape).Idx → EReal) (W : (⟨2, ![1, 2048]⟩ : Shape).Idx → EReal) (y : (⟨2, ![2048, M]⟩ : Shape).Idx) : EReal :=
  fwd (row X (y 1)) (row W 0) (y 0)

theorem fwd_at (x : Vec Ideal S16x2048 .f32) (w : Vec Ideal S1x2048 .f32) (l : Fin 16) (j : Fin 2048) :
    k0_pay1 (F := Ideal) x w (ix2 l j) = fwd (row x l) (row w 0) j := by
  pointwise [k0_pay1]
  rw [lit_eps, lit_2048]
  rfl

theorem flip_at (x : Vec Ideal S256x2048 .bf16) (l : Fin 2048) (j : Fin 256) : k0_pay2 (F := Ideal) x (ix2 l j) = x (ix2 j l) := by
  pointwise [k0_pay2]

theorem flip_norm (x : Vec Ideal S256x2048 .f32) (w : Vec Ideal S1x2048 .f32) (y : S2048x256.Idx) : k0_pay2 (F := Ideal) (norm x w) y = flip x w y := by
  exact (congrArg _ (pair y)).trans (flip_at _ _ _)

section

variable (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S2048x256 .bf16) (harg4 : arg4.IsWhole)
  (X1 : BufTy.Contents (Elt Ideal) arg1.view.ty) (X2 : BufTy.Contents (Elt Ideal) arg2.view.ty)

/-- What one trip stores. -/
theorem trip_norm (k : Fin k0_t1_loop.trips) :
    Agree (tripL_k0_t1 (F := Ideal) Variants.none c none i arg1 harg1 arg2 harg2 arg3 harg3 arg4 harg4 X1 X2 k)
      (norm (arg1.view.read (Elt Ideal) X1) (arg2.view.read (Elt Ideal) X2)) := by
  unfold tripL_k0_t1 trip_k0_t1
  intro p hp x
  obtain rfl := List.mem_singleton.mp hp
  have h1 : k0_off1 k 1 = 0 := by rw [k0_off1_eq]; rfl
  refine (congrArg _ (pair x)).trans ((fwd_at _ _ _ _).trans ?_)
  unfold norm
  refine congr (congrArg₂ fwd (funext fun j => ?_) (funext fun j => ?_)) ?_
  · exact congrArg (arg1.view.read (Elt Ideal) X1) (strip_emb h1 _ x j)
  · exact congrArg (arg2.view.read (Elt Ideal) X2) (strip_emb rfl _ (ix2 0 j) j)
  · refine Fin.ext ?_
    show (x 1).val = k0_off1 k 1 + 1 * (x 1).val
    omega

/-- What the first trips store. -/
theorem trips_norm (n : ℕ) (hn : n ≤ k0_t1_loop.trips) :
    Agree (pb_k0_t1 (F := Ideal) Variants.none c none i arg1 harg1 arg2 harg2 arg3 harg3 arg4 harg4 X1 X2 n)
      (norm (arg1.view.read (Elt Ideal) X1) (arg2.view.read (Elt Ideal) X2)) := by
  induction n with
  | zero => exact agree_nil _
  | succ n ih =>
    rw [pb_k0_t1_succ Variants.none c none i arg1 harg1 arg2 harg2 arg3 harg3 arg4 harg4 X1 X2 ⟨n, hn⟩]
    exact agree_append (trip_norm c i arg1 harg1 arg2 harg2 arg3 harg3 arg4 harg4 X1 X2 ⟨n, hn⟩) (ih (Nat.le_of_succ_le hn))

variable (x : Vec Ideal S256x2048 .f32) (w : Vec Ideal S1x2048 .f32)

/-- What the loop stores. -/
theorem run_norm : Agree (kernelRun0_A (F := Ideal) c i arg1 harg1 arg2 harg2 arg3 harg3 arg4 harg4 x w).1 (norm x w) := by
  have h := trips_norm c i arg1 harg1 arg2 harg2 arg3 harg3 arg4 harg4 (harg1.unread x) (harg2.unread w) _ le_rfl
  rw [harg1.read_unread, harg2.read_unread] at h
  exact h

/-- A block of the norm. -/
theorem out2 (y : S256x2048.Idx) : out0_A_2 (F := Ideal) c i arg1 harg1 arg2 harg2 arg3 harg3 arg4 harg4 x w y = norm x w y :=
  read_agree _ _ (run_norm c i arg1 harg1 arg2 harg2 arg3 harg3 arg4 harg4 x w) y (cover0_A_2 c i arg1 harg1 arg2 harg2 arg3 harg3 arg4 harg4 x w y)

/-- What the kernel stores of the transposed copy. -/
theorem run_flip : Agree (kernelRun0_A (F := Ideal) c i arg1 harg1 arg2 harg2 arg3 harg3 arg4 harg4 x w).2.1 (flip x w) := by
  intro p hp y
  obtain rfl := List.mem_singleton.mp hp
  show k0_pay2 (F := Ideal) (arg3.view.readCov (kernelRun0_A (F := Ideal) c i arg1 harg1 arg2 harg2 arg3 harg3 arg4 harg4 x w).1
    (Rect.unit (s := S256x2048) ![0, 0] S256x2048.size inb_S256x2048_S256x2048_0_0).toLoadRect) y = _
  rw [cov_agree arg3.view (run_norm c i arg1 harg1 arg2 harg2 arg3 harg3 arg4 harg4 x w)
    (cover0_A_2 c i arg1 harg1 arg2 harg2 arg3 harg3 arg4 harg4 x w) inb_S256x2048_S256x2048_0_0]
  refine (flip_norm x w y).trans (congrArg (flip x w) (funext fun a => Fin.ext ?_))
  fin_cases a
  · show (y 0).val = 0 + 1 * (y 0).val; omega
  · show (y 1).val = 0 + 1 * (y 1).val; omega

/-- A block of the transposed copy. -/
theorem out3 (y : S2048x256.Idx) : out0_A_3 (F := Ideal) c i arg1 harg1 arg2 harg2 arg3 harg3 arg4 harg4 x w y = flip x w y :=
  read_agree _ _ (run_flip c i arg1 harg1 arg2 harg2 arg3 harg3 arg4 harg4 x w) y (cover0_A_3 c i arg1 harg1 arg2 harg2 arg3 harg3 arg4 harg4 x w y)

end

/-- Which block of its array each window takes at each point. -/
theorem idx : ∀ t : Fin cfg0.N, win0_0.index t = ![t.val, 0] ∧ win0_1.index t = ![0, 0] ∧ win0_2.index t = ![t.val, 0] ∧ win0_3.index t = ![0, t.val] :=
  (by decide +kernel : ∀ t : Fin grid0.N, _)

theorem blk0 (t : Fin cfg0.N) (r : Fin 256) (k : Fin 2048) (i : Fin 8192) (hi : i.val = 256 * t.val + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (r : Fin 1) (k : Fin 2048) : iblk m c 1 t (ix2 r k) = m ((c : Thread nD τ).loc main_arg1) (ix2 r k) := by
  rw [← V_main_arg1 m c]; blk_ext [iblk, idx t]

/-- The kernel's norm. -/
theorem final2 : (dats m 0 c).arrAt 2 cfg0.N = norm (m ((c : Thread nD τ).loc main_arg0)) (m ((c : Thread nD τ).loc main_arg1)) := by
  refine ((dats m 0 c).arrAt_eq_of_coversWhere 2 (norm (m ((c : Thread nD τ).loc main_arg0)) (m ((c : Thread nD τ).loc main_arg1)))
    (fun _ => True) (by decide +kernel) (fun t hf y => ?_) (fun j => Iff.rfl)).trans (funext fun i => if_pos trivial)
  refine (congrFun (after0_2 m c t) y).trans ((out2 ..).trans ?_)
  unfold norm
  refine congr (congrArg₂ fwd (funext fun k => blk0 m c t _ k _ ?_) (funext fun k => blk1 m c t 0 k)) (Fin.ext ?_) <;>
    (blk_simp [idx t]; try (dsimp only; omega))

/-- What the transposed copy's buffer holds after a block is what the body leaves in it. -/
theorem held3 (t : Fin cfg0.N) : (dats m 0 c).after 3 t = out0_A_3 c (grid0.coords t) (ms0_0 t)
    (hs0_0 t) (ms0_1 t) (hs0_1 t) (ms0_2 t) (hs0_2 t) (ms0_3 t) (hs0_3 t) (iblk m c 0 t)
    (iblk m c 1 t) := by
  refine (after0_3 m c t).trans ?_
  with_reducible unfold outsAt0
  with_reducible rfl

/-- What the transposed copy's buffer holds after a block, from the block's inputs. -/
theorem after3 (t : Fin cfg0.N) (y : S2048x256.Idx) :
    (dats m 0 c).after 3 t y = flip (M := 256) (iblk m c 0 t) (iblk m c 1 t) y := by
  have h := out3 c (grid0.coords t) (ms0_0 t) (hs0_0 t) (ms0_1 t) (hs0_1 t) (ms0_2 t) (hs0_2 t)
    (ms0_3 t) (hs0_3 t) (iblk m c 0 t) (iblk m c 1 t) y
  rw [held3, h]

/-- The kernel's transposed copy. -/
theorem final3 : (dats m 0 c).arrAt 3 cfg0.N
    = flip (m ((c : Thread nD τ).loc main_arg0)) (m ((c : Thread nD τ).loc main_arg1)) := by
  refine ((dats m 0 c).arrAt_eq_of_coversWhere 3
    (flip (m ((c : Thread nD τ).loc main_arg0)) (m ((c : Thread nD τ).loc main_arg1)))
    (fun _ => True) (by decide +kernel) (fun t hf y => ?_) (fun j => Iff.rfl)).trans
      (funext fun i => if_pos trivial)
  refine (after3 m c t y).trans ?_
  unfold flip
  refine congr (congrArg₂ fwd (funext fun k => blk0 m c t _ k _ ?_)
    (funext fun k => blk1 m c t 0 k)) (Fin.ext ?_) <;>
    (blk_simp [idx t]; try (dsimp only; omega))

open Cert.Reference15Ideal.Read

/-- The reference's norm. -/
theorem reference2 (x : FVec Ideal S8192x2048 .f32) (w : FVec Ideal S1x2048 .f32) : val_main_v12 (F := Ideal) x w = norm x w := by
  funext i
  rw [pair i]
  pointwise [val_main_v12, val_main_v11, val_main_v10, val_main_v9, val_main_v8, val_main_v7, val_main_v6, val_main_v5, val_main_cst_1,
    val_main_v4, val_main_v3, val_main_cst_0, val_main_v2, val_main_v1, val_main_cst, val_main_v0]
  rw [lit_eps, lit_2048]
  exact congrArg (· * _ * _) (congrArg x (pair i))

/-- The reference's transposed copy. -/
theorem reference3 (x : FVec Ideal S8192x2048 .f32) (w : FVec Ideal S1x2048 .f32) :
    val_main_v13 (F := Ideal) x w = flip x w := by
  funext i
  rw [val_main_v13_apply, reference2]
  rfl

end Cert.Kernel15Ideal.Step

end
-- ==== Proof.NormBwd.lean ====
/- The gradient of the root mean square norm of the input, a strip of sixteen rows at a time, beside the gradient that passes it by. -/
module

public import proofs.«01_k».proof.Proof.NormFwd
public import proofs.«01_k».proof.Proof.NormFrame
public import proofs.«01_k».proof.Proof.Gen.Reference17Ideal.Read

@[expose] public section

set_option maxRecDepth 16384

noncomputable section

open Idealize.ShloMosaic Idealize.ShloMosaic.TcCoe Idealize.SL.Sem
open Idealize.ShloMosaic.Pipeline (Dat)

namespace Cert.Norm

/-- A row of the input's gradient. -/
def bwd (x w h t : Fin 2048 → EReal) (j : Fin 2048) : EReal := t j + pull x (fun k => h k * w k) j

end Cert.Norm

namespace Cert.Kernel17Ideal.Step

open Cert.Kernel17Ideal Cert.Kernel17Ideal.Gen Cert.Norm Cert.Adam
open Cert.Ret (eps lit_eps)
open Cert.Mul (pair)

variable (m : (ℓ : Loc nD τ sig) → Buf (Elt Ideal) ℓ) (c : Dev nD)

/-- The gradient of every row. -/
def back {M : ℕ} (X : (⟨2, ![M, 2048]⟩ : Shape).Idx → EReal) (W : (⟨2, ![1, 2048]⟩ : Shape).Idx → EReal)
    (H T : (⟨2, ![M, 2048]⟩ : Shape).Idx → EReal) (y : (⟨2, ![M, 2048]⟩ : Shape).Idx) : EReal :=
  bwd (row X (y 0)) (row W 0) (row H (y 0)) (row T (y 0)) (y 1)

theorem inv_at (x : Vec Ideal S16x2048 .f32) (l : Fin 16) (z : Fin 1) : k0_pay3 (F := Ideal) x (ix2 l z) = inv (row x l) := by
  pointwise [k0_pay3]
  rw [lit_eps, lit_2048]
  rfl

theorem scaled_at (x : Vec Ideal S16x2048 .f32) (l : Fin 16) (j : Fin 2048) : k0_pay4 (F := Ideal) x (ix2 l j) = x (ix2 l j) * inv (row x l) := by
  pointwise [k0_pay4]
  rw [inv_at]

theorem back_at (x : Vec Ideal S16x2048 .f32) (h : Vec Ideal S16x2048 .bf16) (w : Vec Ideal S1x2048 .f32) (t : Vec Ideal S16x2048 .f32)
    (l : Fin 16) (j : Fin 2048) : k0_pay6 (F := Ideal) x h w t (ix2 l j) = bwd (row x l) (row w 0) (row h l) (row t l) j := by
  pointwise [k0_pay6]
  simp only [inv_at, scaled_at]
  rw [lit_2048]
  rfl

section

variable (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1x2048 .f32) (harg6 : arg6.IsWhole) (arg7 : Memref sig .tc .vmem S16x2048 .f32) (harg7 : arg7.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (f : BufTy.Contents (Elt Ideal) arg5.view.ty) (g : BufTy.Contents (Elt Ideal) arg7.view.ty)

/-- What one trip stores. -/
theorem trip_back (k : Fin k0_t1_loop.trips) :
    Agree (tripL_k0_t1 (F := Ideal) Variants.none c none i arg1 harg1 arg2 harg2 arg3 harg3 arg4 harg4 arg5 harg5 arg6 harg6 arg7 harg7 X1 X2 X3 X4 k f g).1
      (back (arg1.view.read (Elt Ideal) X1) (arg2.view.read (Elt Ideal) X2) (arg3.view.read (Elt Ideal) X3) (arg4.view.read (Elt Ideal) X4)) := by
  unfold tripL_k0_t1 trip_k0_t1
  intro p hp x
  obtain rfl := List.mem_singleton.mp hp
  have h1 : k0_off1 k 1 = 0 := by rw [k0_off1_eq]; rfl
  refine (congrArg _ (pair x)).trans ((back_at _ _ _ _ _ _).trans ?_)
  unfold back
  refine congr (congr (congr (congrArg₂ bwd (funext fun j => ?_) (funext fun j => ?_)) (funext fun j => ?_)) (funext fun j => ?_)) ?_
  · exact congrArg (arg1.view.read (Elt Ideal) X1) (strip_emb h1 _ x j)
  · exact congrArg (arg2.view.read (Elt Ideal) X2) (strip_emb rfl _ (ix2 0 j) j)
  · exact congrArg (arg3.view.read (Elt Ideal) X3) (strip_emb h1 _ x j)
  · exact congrArg (arg4.view.read (Elt Ideal) X4) (strip_emb h1 _ x j)
  · refine Fin.ext ?_
    show (x 1).val = k0_off1 k 1 + 1 * (x 1).val
    omega

/-- What the first trips store. -/
theorem trips_back (n : ℕ) (hn : n ≤ k0_t1_loop.trips) :
    Agree (pb_k0_t1 (F := Ideal) Variants.none c none i arg1 harg1 arg2 harg2 arg3 harg3 arg4 harg4 arg5 harg5 arg6 harg6 arg7 harg7 X1 X2 X3 X4 f g n).1
      (back (arg1.view.read (Elt Ideal) X1) (arg2.view.read (Elt Ideal) X2) (arg3.view.read (Elt Ideal) X3) (arg4.view.read (Elt Ideal) X4)) := by
  induction n with
  | zero => exact agree_nil _
  | succ n ih =>
    rw [pb_k0_t1_succ Variants.none c none i arg1 harg1 arg2 harg2 arg3 harg3 arg4 harg4 arg5 harg5 arg6 harg6 arg7 harg7 X1 X2 X3 X4 f g ⟨n, hn⟩]
    exact agree_append (trip_back c i arg1 harg1 arg2 harg2 arg3 harg3 arg4 harg4 arg5 harg5 arg6 harg6 arg7 harg7 X1 X2 X3 X4 _ _ ⟨n, hn⟩) (ih (Nat.le_of_succ_le hn))

variable (x : Vec Ideal S256x2048 .f32) (w : Vec Ideal S1x2048 .f32) (h : Vec Ideal S256x2048 .bf16) (t : Vec Ideal S256x2048 .f32) (s : Vec Ideal S16x2048 .f32)

/-- What the loop stores, whatever the sums are. -/
theorem loop_back (n : ℕ) (hn : n ≤ k0_t1_loop.trips) :
    Agree (pb_k0_t1 (F := Ideal) Variants.none c none i arg1 harg1 arg2 harg2 arg3 harg3 arg4 harg4 arg5 harg5 arg6 harg6 arg7 harg7 (harg1.unread x) (harg2.unread w) (harg3.unread h) (harg4.unread t) f g n).1 (back x w h t) := by
  have e := trips_back c i arg1 harg1 arg2 harg2 arg3 harg3 arg4 harg4 arg5 harg5 arg6 harg6 arg7 harg7 (harg1.unread x) (harg2.unread w) (harg3.unread h) (harg4.unread t) f g n hn
  rw [harg1.read_unread, harg2.read_unread, harg3.read_unread, harg4.read_unread] at e
  exact e

/-- The block after the first point, -/
theorem out4_A (hc0 : cond0_0 i) (hc1 : ¬cond0_1 i) (y : S256x2048.Idx) :
    out0_A_4 (F := Ideal) c i arg1 harg1 arg2 harg2 arg3 harg3 arg4 harg4 arg5 harg5 arg6 harg6 arg7 harg7 hc0 hc1 x w h t y = back x w h t y :=
  read_agree _ _ (loop_back c i arg1 harg1 arg2 harg2 arg3 harg3 arg4 harg4 arg5 harg5 arg6 harg6 arg7 harg7 _ _ x w h t _ le_rfl) y (cover0_A_4 c i arg1 harg1 arg2 harg2 arg3 harg3 arg4 harg4 arg5 harg5 arg6 harg6 arg7 harg7 hc0 hc1 x w h t y)

/-- after a middle point, -/
theorem out4_B (hc0 : ¬cond0_0 i) (hc1 : ¬cond0_1 i) (y : S256x2048.Idx) :
    out0_B_4 (F := Ideal) c i arg1 harg1 arg2 harg2 arg3 harg3 arg4 harg4 arg5 harg5 arg6 harg6 arg7 harg7 hc0 hc1 x w h t s y = back x w h t y :=
  read_agree _ _ (loop_back c i arg1 harg1 arg2 harg2 arg3 harg3 arg4 harg4 arg5 harg5 arg6 harg6 arg7 harg7 _ _ x w h t _ le_rfl) y (cover0_B_4 c i arg1 harg1 arg2 harg2 arg3 harg3 arg4 harg4 arg5 harg5 arg6 harg6 arg7 harg7 hc0 hc1 x w h t s y)

/-- and after the last. -/
theorem out4_C (hc0 : ¬cond0_0 i) (hc1 : cond0_1 i) (y : S256x2048.Idx) :
    out0_C_4 (F := Ideal) c i arg1 harg1 arg2 harg2 arg3 harg3 arg4 harg4 arg5 harg5 arg6 harg6 arg7 harg7 hc0 hc1 x w h t s y = back x w h t y :=
  read_agree _ _ (loop_back c i arg1 harg1 arg2 harg2 arg3 harg3 arg4 harg4 arg5 harg5 arg6 harg6 arg7 harg7 _ _ x w h t _ le_rfl) y (cover0_C_4 c i arg1 harg1 arg2 harg2 arg3 harg3 arg4 harg4 arg5 harg5 arg6 harg6 arg7 harg7 hc0 hc1 x w h t s y)

end

/-- Which block of its array each window takes at each point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)

theorem blk0 (t : Fin cfg0.N) (r : Fin 256) (k : Fin 2048) (i : Fin 8192) (hi : i.val = 256 * t.val + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (r : Fin 1) (k : Fin 2048) : iblk m c 1 t (ix2 r k) = m ((c : Thread nD τ).loc main_arg1) (ix2 r k) := by
  rw [← V_main_arg1 m c]; blk_ext [iblk, idx t]

theorem blk2 (t : Fin cfg0.N) (r : Fin 256) (k : Fin 2048) (i : Fin 8192) (hi : i.val = 256 * t.val + r.val) :
    iblk m c 2 t (ix2 r k) = m ((c : Thread nD τ).loc main_arg2) (ix2 i k) := by
  obtain ⟨i, h⟩ := i
  subst hi
  rw [← V_main_arg2 m c]; blk_ext [iblk, idx t]

theorem blk3 (t : Fin cfg0.N) (r : Fin 256) (k : Fin 2048) (i : Fin 8192) (hi : i.val = 256 * t.val + r.val) :
    iblk m c 3 t (ix2 r k) = m ((c : Thread nD τ).loc main_arg3) (ix2 i k) := by
  obtain ⟨i, h⟩ := i
  subst hi
  rw [← V_main_arg3 m c]; blk_ext [iblk, idx t]

/-- What the gradient's buffer holds after a point, from the point's inputs. -/
theorem after4 (t : Fin cfg0.N) (y : S256x2048.Idx) :
    (dats m 0 c).after 4 t y = back (M := 256) (iblk m c 0 t) (iblk m c 1 t) (iblk m c 2 t) (iblk m c 3 t) y := by
  rw [after0_4]
  by_cases h0 : t.val % 32 = 0
  · have h1 : ¬t.val % 32 = 31 := by omega
    rw [outsAt0_A m c t h0 h1]
    exact out4_A ..
  · by_cases h1 : t.val % 32 = 31
    · rw [outsAt0_C m c t h0 h1]
      exact out4_C ..
    · rw [outsAt0_B m c t h0 h1]
      exact out4_B ..

/-- The kernel's gradient. -/
theorem final4 : (dats m 0 c).arrAt 4 cfg0.N = back (m ((c : Thread nD τ).loc main_arg0)) (m ((c : Thread nD τ).loc main_arg1))
    (m ((c : Thread nD τ).loc main_arg2)) (m ((c : Thread nD τ).loc main_arg3)) := by
  refine ((dats m 0 c).arrAt_eq_of_coversWhere 4 (back (m ((c : Thread nD τ).loc main_arg0)) (m ((c : Thread nD τ).loc main_arg1))
    (m ((c : Thread nD τ).loc main_arg2)) (m ((c : Thread nD τ).loc main_arg3)))
    (fun _ => True) (by decide +kernel) (fun t hf y => ?_) (fun j => Iff.rfl)).trans (funext fun i => if_pos trivial)
  refine (after4 m c t y).trans ?_
  unfold back
  refine congr (congr (congr (congrArg₂ bwd (funext fun k => blk0 m c t _ k _ ?_) (funext fun k => blk1 m c t 0 k))
    (funext fun k => blk2 m c t _ k _ ?_)) (funext fun k => blk3 m c t _ k _ ?_)) (Fin.ext ?_) <;>
    (blk_simp [idx t]; try (dsimp only; omega))

open Cert.Reference17Ideal.Read

/-- The reference's gradient at an entry, in the form it computes it in. -/
theorem reference_at (x : FVec Ideal S8192x2048 .f32) (w : FVec Ideal S1x2048 .f32) (h : FVec Ideal S8192x2048 .bf16) (t : FVec Ideal S8192x2048 .f32)
    (l : Fin 8192) (j : Fin 2048) (D : Fin 2048 → EReal) (hD : ∀ k, D k = h (ix2 l k) * w (ix2 0 k)) :
    val_main_v32 (F := Ideal) x w h t (ix2 l j)
      = t (ix2 l j) + (D j * inv (row x l) + row x l j * factor (row x l) D + factor (row x l) D * row x l j) := by
  obtain rfl : D = fun k => h (ix2 l k) * w (ix2 0 k) := funext hD
  pointwise [val_main_v32, val_main_v31, val_main_v30, val_main_v29, val_main_v28, val_main_v27, val_main_v26, val_main_cst_5, val_main_v25,
    val_main_v24, val_main_cst_4, val_main_v23, val_main_v22, val_main_v21, val_main_v20, val_main_v19, val_main_cst_3, val_main_v18,
    val_main_v17, val_main_v16, val_main_v15, val_main_v10, val_main_v9, val_main_cst_2, val_main_v8, val_main_v7, val_main_v6,
    val_main_v5, val_main_cst_1, val_main_v4, val_main_v3, val_main_cst_0, val_main_v2, val_main_v1, val_main_cst, val_main_v0]
  simp only [Fin.sum_univ_one, lit_eps, lit_2048, lit_neg_half]
  rfl

/-- The reference's gradient. -/
theorem reference4 (x : FVec Ideal S8192x2048 .f32) (w : FVec Ideal S1x2048 .f32) (h : FVec Ideal S8192x2048 .bf16) (t : FVec Ideal S8192x2048 .f32) :
    val_main_v32 (F := Ideal) x w h t = back x w h t := by
  funext i
  refine (congrArg _ (pair i)).trans ((reference_at x w h t (i 0) (i 1) (fun k => row h (i 0) k * row w 0 k) fun _ => rfl).trans ?_)
  refine congrArg₂ (· + ·) rfl ?_
  exact (pull_eq (row x (i 0)) (fun k => row h (i 0) k * row w 0 k) (i 1)).symm

end Cert.Kernel17Ideal.Step

end
-- ==== Proof.ProjDt.lean ====
/- The dt columns of the input projection: the kernel's result and the reference's. -/
module

public import proofs.«01_k».proof.Proof.Blocks
public import proofs.«01_k».proof.Proof.Gen.Kernel18Ideal.Frame
public import proofs.«01_k».proof.Proof.Gen.Reference18Ideal.Read

@[expose] public section

set_option maxRecDepth 16384

noncomputable section

open Idealize.ShloMosaic Idealize.ShloMosaic.TcCoe Idealize.SL.Sem
open Idealize.ShloMosaic.Pipeline (Dat)

namespace Cert.Kernel18Ideal.Mul

open Cert.Kernel18Ideal Cert.Kernel18Ideal.Gen Cert.Mul

variable (m : (ℓ : Loc nD τ sig) → Buf (Elt Ideal) ℓ) (c : Dev nD)

/-- Which block of its array each window takes at each point. -/
theorem idx : ∀ t : Fin cfg0.N, win0_0.index t = ![t.val, 0] ∧ win0_1.index t = ![0, 0]
    ∧ win0_2.index t = ![t.val, 0] :=
  (by decide +kernel : ∀ t : Fin grid0.N, _)

theorem blk0 (t : Fin cfg0.N) (r : Fin 1024) (k : Fin 2048) (i : Fin 8192) (hi : i.val = 1024 * t.val + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (k : Fin 2048) (n : Fin 128) (j : Fin 128) (hj : j.val = n.val) :
    iblk m c 1 t (ix2 k n) = m ((c : Thread nD τ).loc main_arg1) (ix2 k j) := by
  obtain ⟨j, h⟩ := j
  subst hj
  rw [← V_main_arg1 m c]; blk_ext [iblk, idx t]

/-- A block of the result. -/
theorem out_at (x : Vec Ideal S1024x2048 .bf16) (w : Vec Ideal S2048x128 .bf16) (r : Fin 1024) (n : Fin 128) :
    out0_2 (F := Ideal) x w (ix2 r n) = ∑ k, terms x w r n k := by
  unfold out0_2 k0_pay1
  rw [View.canon_unit_zero (S := S1024x128) origin, View.ld_unit_zero (S := S1024x2048) origin, View.ld_unit_zero (S := S2048x128) origin]
  exact plain_at (φ₁ := .bf16) (φ₂ := .bf16) none _ rfl x w r n

/-- The kernel's result. -/
theorem final : (dats m 0 c).arrAt 2 cfg0.N
    = product (m ((c : Thread nD τ).loc main_arg0)) (m ((c : Thread nD τ).loc main_arg1)) := by
  refine ((dats m 0 c).arrAt_eq_of_coversWhere 2 (product (m ((c : Thread nD τ).loc main_arg0)) (m ((c : Thread nD τ).loc main_arg1)))
    (fun _ => True) (by decide +kernel) (fun t hf y => ?_) (fun j => Iff.rfl)).trans (funext fun i => if_pos trivial)
  blk_simp
  rw [after0_2]
  refine (congrArg (out0_2 (F := Ideal) (iblk m c 0 t) (iblk m c 1 t)) (pair y)).trans ((out_at _ _ _ _).trans ?_)
  refine Finset.sum_congr rfl fun k _ => congrArg₂ (· * ·) (blk0 m c t _ k _ ?_) (blk1 m c t k _ _ ?_) <;>
    (blk_simp [idx t]; try (dsimp only; omega))

/-- The reference's result. -/
theorem reference_at (x : FVec Ideal S8192x2048 .bf16) (w : FVec Ideal S2048x128 .bf16) :
    Cert.Reference18Ideal.Read.val_main_v2 (F := Ideal) x w = product x w := by
  funext i
  rw [pair i]
  pointwise [Cert.Reference18Ideal.Read.val_main_v2, Cert.Reference18Ideal.Read.val_main_v1, Cert.Reference18Ideal.Read.val_main_v0]
  rfl

end Cert.Kernel18Ideal.Mul

end
-- ==== Proof.Merge.lean ====
/- The merge of the two branches by their gates: a strip of sixteen rows at a time, and the transposed copy. -/
module

public import proofs.«01_k».proof.Proof.NormFwd
public import proofs.«01_k».proof.Proof.Refer
public import proofs.«01_k».proof.Proof.Blocks
public import proofs.«01_k».proof.Proof.Gen.Kernel16Ideal.Frame
public import proofs.«01_k».proof.Proof.Gen.Reference16Ideal.Read

@[expose] public section

set_option maxRecDepth 16384

noncomputable section

open Idealize.ShloMosaic Idealize.ShloMosaic.TcCoe Idealize.SL.Sem
open Idealize.ShloMosaic.Pipeline (Dat)

namespace Cert.Merge

variable {M N : ℕ}

/-- The columns of an array from one of them on. -/
def cols (d : ℕ) (h : d + 2048 ≤ N) (G : (⟨2, ![M, N]⟩ : Shape).Idx → EReal) (y : (⟨2, ![M, 2048]⟩ : Shape).Idx) : EReal :=
  G (ix2 (y 0) ⟨d + (y 1).val, Nat.lt_of_lt_of_le (Nat.add_lt_add_left (y 1).isLt d) h⟩)

/-- Two branches, merged by a gate each. -/
def merge (P Q A B : (⟨2, ![M, 2048]⟩ : Shape).Idx → EReal) (y : (⟨2, ![M, 2048]⟩ : Shape).Idx) : EReal :=
  Ideal.logistic (A y) * P y + Ideal.logistic (B y) * Q y

/-- An array, transposed. -/
def turn (f : (⟨2, ![M, 2048]⟩ : Shape).Idx → EReal) (y : (⟨2, ![2048, M]⟩ : Shape).Idx) : EReal := f (ix2 (y 1) (y 0))

/-- A strip of rows of some columns, in the strip of the same rows of all. -/
theorem strip_cols {S : ℕ} {d : ℕ} (h : d + 2048 ≤ N) (G : (⟨2, ![M, N]⟩ : Shape).Idx → EReal) {off off' : Fin 2 → ℕ}
    (h0 : off 0 = off' 0) (h1 : off 1 = d) (h1' : off' 1 = 0)
    (inb : ∀ a, off a + (![S, 2048] : Fin 2 → ℕ) a ≤ (![M, N] : Fin 2 → ℕ) a)
    (inb' : ∀ a, off' a + (![S, 2048] : Fin 2 → ℕ) a ≤ (![M, 2048] : Fin 2 → ℕ) a) (x : (⟨2, ![S, 2048]⟩ : Shape).Idx) :
    G ((Rect.unit (s := ⟨2, ![M, N]⟩) off ![S, 2048] inb).emb x)
      = cols d h G ((Rect.unit (s := ⟨2, ![M, 2048]⟩) off' ![S, 2048] inb').emb x) := by
  refine congrArg G (funext fun a => Fin.ext ?_)
  fin_cases a
  · show off 0 + 1 * (x 0).val = off' 0 + 1 * (x 0).val
    omega
  · show off 1 + 1 * (x 1).val = d + (off' 1 + 1 * (x 1).val)
    omega

end Cert.Merge

namespace Cert.Kernel16Ideal.Step

open Cert.Kernel16Ideal Cert.Kernel16Ideal.Gen Cert.Merge Cert.Adam
open Cert.Norm (cov_agree)
open Cert.Mul (pair)

variable (m : (ℓ : Loc nD τ sig) → Buf (Elt Ideal) ℓ) (c : Dev nD)

theorem merge_at (a b p q : Vec Ideal S16x2048 .bf16) (x : S16x2048.Idx) :
    k0_pay1 (F := Ideal) a b p q x = merge (M := 16) p q a b x := rfl

theorem flip_at (x : Vec Ideal S256x2048 .bf16) (l : Fin 2048) (j : Fin 256) : k0_pay2 (F := Ideal) x (ix2 l j) = x (ix2 j l) := by
  pointwise [k0_pay2]

section

variable (i : grid0.Coords) (arg1 : Memref sig .tc .vmem S256x2048 .bf16) (harg1 : arg1.IsWhole) (arg2 : Memref sig .tc .vmem S256x2048 .bf16) (harg2 : arg2.IsWhole) (arg3 : Memref sig .tc .vmem S256x4096 .bf16) (harg3 : arg3.IsWhole) (arg4 : Memref sig .tc .vmem S256x2048 .bf16) (harg4 : arg4.IsWhole) (arg5 : Memref sig .tc .vmem S2048x256 .bf16) (harg5 : arg5.IsWhole)
  (X1 : BufTy.Contents (Elt Ideal) arg1.view.ty) (X2 : BufTy.Contents (Elt Ideal) arg2.view.ty) (X3 : BufTy.Contents (Elt Ideal) arg3.view.ty)

/-- The merge of a block: the gates are the two halves of a row of the third array. -/
def blend {M : ℕ} (P Q : (⟨2, ![M, 2048]⟩ : Shape).Idx → EReal) (G : (⟨2, ![M, 4096]⟩ : Shape).Idx → EReal) :
    (⟨2, ![M, 2048]⟩ : Shape).Idx → EReal :=
  merge P Q (cols 0 (by omega) G) (cols 2048 (by omega) G)

/-- What one trip stores. -/
theorem trip_merge (k : Fin k0_t1_loop.trips) :
    Agree (tripL_k0_t1 (F := Ideal) Variants.none c none i arg1 harg1 arg2 harg2 arg3 harg3 arg4 harg4 arg5 harg5 X1 X2 X3 k)
      (blend (arg1.view.read (Elt Ideal) X1) (arg2.view.read (Elt Ideal) X2) (arg3.view.read (Elt Ideal) X3)) := by
  unfold tripL_k0_t1 trip_k0_t1
  intro p hp x
  obtain rfl := List.mem_singleton.mp hp
  have h1 := k0_off1_eq k
  have h2 := k0_off2_eq k
  have h3 := k0_off3_eq k
  refine (merge_at _ _ _ _ x).trans ?_
  unfold blend merge
  refine congrArg₂ (· + ·) (congrArg₂ (· * ·) (congrArg Ideal.logistic ?_) rfl) (congrArg₂ (· * ·) (congrArg Ideal.logistic ?_) rfl)
  · exact strip_cols _ (arg3.view.read (Elt Ideal) X3) (by rw [h1, h3]) (by rw [h1]; rfl) (by rw [h3]; rfl) _ (k0_off3_inb k) x
  · exact strip_cols _ (arg3.view.read (Elt Ideal) X3) (by rw [h2, h3]; rfl) (by rw [h2]; rfl) (by rw [h3]; rfl) _ (k0_off3_inb k) x

/-- What the first trips store. -/
theorem trips_merge (n : ℕ) (hn : n ≤ k0_t1_loop.trips) :
    Agree (pb_k0_t1 (F := Ideal) Variants.none c none i arg1 harg1 arg2 harg2 arg3 harg3 arg4 harg4 arg5 harg5 X1 X2 X3 n)
      (blend (arg1.view.read (Elt Ideal) X1) (arg2.view.read (Elt Ideal) X2) (arg3.view.read (Elt Ideal) X3)) := by
  induction n with
  | zero => exact agree_nil _
  | succ n ih =>
    rw [pb_k0_t1_succ Variants.none c none i arg1 harg1 arg2 harg2 arg3 harg3 arg4 harg4 arg5 harg5 X1 X2 X3 ⟨n, hn⟩]
    exact agree_append (trip_merge c i arg1 harg1 arg2 harg2 arg3 harg3 arg4 harg4 arg5 harg5 X1 X2 X3 ⟨n, hn⟩) (ih (Nat.le_of_succ_le hn))

variable (p q : Vec Ideal S256x2048 .bf16) (g : Vec Ideal S256x4096 .bf16)

/-- What the loop stores. -/
theorem run_merge : Agree (kernelRun0_A (F := Ideal) c i arg1 harg1 arg2 harg2 arg3 harg3 arg4 harg4 arg5 harg5 p q g).1 (blend p q g) := by
  have h := trips_merge c i arg1 harg1 arg2 harg2 arg3 harg3 arg4 harg4 arg5 harg5 (harg1.unread p) (harg2.unread q) (harg3.unread g) _ le_rfl
  rw [harg1.read_unread, harg2.read_unread, harg3.read_unread] at h
  exact h

/-- A block of the merge. -/
theorem out3 (y : S256x2048.Idx) : out0_A_3 (F := Ideal) c i arg1 harg1 arg2 harg2 arg3 harg3 arg4 harg4 arg5 harg5 p q g y = blend p q g y :=
  read_agree _ _ (run_merge c i arg1 harg1 arg2 harg2 arg3 harg3 arg4 harg4 arg5 harg5 p q g) y (cover0_A_3 c i arg1 harg1 arg2 harg2 arg3 harg3 arg4 harg4 arg5 harg5 p q g y)

/-- What the kernel stores of the transposed copy. -/
theorem run_flip : Agree (kernelRun0_A (F := Ideal) c i arg1 harg1 arg2 harg2 arg3 harg3 arg4 harg4 arg5 harg5 p q g).2.1 (turn (blend p q g)) := by
  intro a ha y
  obtain rfl := List.mem_singleton.mp ha
  show k0_pay2 (F := Ideal) (arg4.view.readCov (kernelRun0_A (F := Ideal) c i arg1 harg1 arg2 harg2 arg3 harg3 arg4 harg4 arg5 harg5 p q g).1
    (Rect.unit (s := S256x2048) ![0, 0] S256x2048.size inb_S256x2048_S256x2048_0_0).toLoadRect) y = _
  rw [cov_agree arg4.view (run_merge c i arg1 harg1 arg2 harg2 arg3 harg3 arg4 harg4 arg5 harg5 p q g) (cover0_A_3 c i arg1 harg1 arg2 harg2 arg3 harg3 arg4 harg4 arg5 harg5 p q g) inb_S256x2048_S256x2048_0_0]
  refine ((congrArg _ (pair y)).trans (flip_at _ _ _)).trans (congrArg (blend p q g) ?_)
  refine congrArg₂ ix2 (Fin.ext ?_) (Fin.ext ?_)
  · show (y 1).val = 0 + 1 * (y 1).val; omega
  · show (y 0).val = 0 + 1 * (y 0).val; omega

/-- A block of the transposed copy. -/
theorem out4 (y : S2048x256.Idx) : out0_A_4 (F := Ideal) c i arg1 harg1 arg2 harg2 arg3 harg3 arg4 harg4 arg5 harg5 p q g y = turn (blend p q g) y :=
  read_agree _ _ (run_flip c i arg1 harg1 arg2 harg2 arg3 harg3 arg4 harg4 arg5 harg5 p q g) y (cover0_A_4 c i arg1 harg1 arg2 harg2 arg3 harg3 arg4 harg4 arg5 harg5 p q g y)

end

/-- Which block of its array each window takes at each point. -/
theorem idx : ∀ t : Fin cfg0.N, win0_0.index t = ![t.val, 0] ∧ win0_1.index t = ![t.val, 0] ∧ win0_2.index t = ![t.val, 3] ∧ win0_3.index t = ![t.val, 0] ∧ win0_4.index t = ![0, t.val] :=
  (by decide +kernel : ∀ t : Fin grid0.N, _)

/-- The merge of the arguments: the gates are the last columns of the third one. -/
def whole (m : (ℓ : Loc nD τ sig) → Buf (Elt Ideal) ℓ) (c : Dev nD) : S8192x2048.Idx → EReal :=
  merge (M := 8192) (m ((c : Thread nD τ).loc main_arg0)) (m ((c : Thread nD τ).loc main_arg1))
    (cols (N := 16384) 12288 (by omega) (m ((c : Thread nD τ).loc main_arg2)))
    (cols (N := 16384) 14336 (by omega) (m ((c : Thread nD τ).loc main_arg2)))

theorem blk0 (t : Fin cfg0.N) (r : Fin 256) (k : Fin 2048) (i : Fin 8192) (hi : i.val = 256 * t.val + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (r : Fin 256) (k : Fin 2048) (i : Fin 8192) (hi : i.val = 256 * t.val + r.val) :
    iblk m c 1 t (ix2 r k) = m ((c : Thread nD τ).loc main_arg1) (ix2 i k) := by
  obtain ⟨i, h⟩ := i
  subst hi
  rw [← V_main_arg1 m c]; blk_ext [iblk, idx t]

theorem blk2 (t : Fin cfg0.N) (r : Fin 256) (k : Fin 4096) (i : Fin 8192) (j : Fin 16384)
    (hi : i.val = 256 * t.val + r.val) (hj : j.val = 12288 + k.val) :
    iblk m c 2 t (ix2 r k) = m ((c : Thread nD τ).loc main_arg2) (ix2 i j) := by
  obtain ⟨i, h⟩ := i
  obtain ⟨j, h'⟩ := j
  subst hi hj
  rw [← V_main_arg2 m c]; blk_ext [iblk, idx t]

/-- A block of the arguments' merge. -/
theorem block (t : Fin cfg0.N) (r : Fin 256) (k : Fin 2048) (i : Fin 8192) (j : Fin 2048) (hi : i.val = 256 * t.val + r.val) (hj : j.val = k.val) :
    blend (M := 256) (iblk m c 0 t) (iblk m c 1 t) (iblk m c 2 t) (ix2 r k) = whole m c (ix2 i j) := by
  obtain rfl := Fin.ext hj
  unfold blend whole merge
  refine congrArg₂ (· + ·) (congrArg₂ (· * ·) (congrArg Ideal.logistic ?_) (blk0 m c t r _ i hi)) (congrArg₂ (· * ·) (congrArg Ideal.logistic ?_) (blk1 m c t r _ i hi))
  · refine blk2 m c t r _ i _ hi ?_
    show 12288 + j.val = 12288 + (0 + j.val)
    omega
  · refine blk2 m c t r _ i _ hi ?_
    show 14336 + j.val = 12288 + (2048 + j.val)
    omega

/-- What the merge's buffer holds after a block is what the body leaves in it. -/
theorem held3 (t : Fin cfg0.N) : (dats m 0 c).after 3 t = out0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by
  refine (after0_3 m c t).trans ?_
  with_reducible unfold outsAt0
  with_reducible rfl

/-- What the transposed copy's buffer holds. -/
theorem held4 (t : Fin cfg0.N) : (dats m 0 c).after 4 t = out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) := by
  refine (after0_4 m c t).trans ?_
  with_reducible unfold outsAt0
  with_reducible rfl

theorem after3 (t : Fin cfg0.N) (y : S256x2048.Idx) :
    (dats m 0 c).after 3 t y = blend (M := 256) (iblk m c 0 t) (iblk m c 1 t) (iblk m c 2 t) y := by
  have h := out3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y
  rw [held3, h]

theorem after4 (t : Fin cfg0.N) (y : S2048x256.Idx) :
    (dats m 0 c).after 4 t y = turn (blend (M := 256) (iblk m c 0 t) (iblk m c 1 t) (iblk m c 2 t)) y := by
  have h := out4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y
  rw [held4, h]

/-- The kernel's merge. -/
theorem final3 : (dats m 0 c).arrAt 3 cfg0.N = whole m c := by
  refine ((dats m 0 c).arrAt_eq_of_coversWhere 3 (whole m c)
    (fun _ => True) (by decide +kernel) (fun t hf y => ?_) (fun j => Iff.rfl)).trans (funext fun i => if_pos trivial)
  refine (after3 m c t y).trans ((congrArg _ (pair y)).trans ((block m c t _ _ _ _ ?_ ?_).trans (congrArg _ (pair _).symm))) <;>
    (blk_simp [idx t]; try (dsimp only; omega))

/-- The kernel's transposed copy. -/
theorem final4 : (dats m 0 c).arrAt 4 cfg0.N = turn (whole m c) := by
  refine ((dats m 0 c).arrAt_eq_of_coversWhere 4 (turn (whole m c))
    (fun _ => True) (by decide +kernel) (fun t hf y => ?_) (fun j => Iff.rfl)).trans (funext fun i => if_pos trivial)
  refine (after4 m c t y).trans (block m c t _ _ _ _ ?_ ?_) <;>
    (blk_simp [idx t]; try (dsimp only; omega))

open Cert.Reference16Ideal.Read

/-- The reference's merge. -/
theorem reference3 (p q : FVec Ideal S8192x2048 .bf16) (g : FVec Ideal S8192x16384 .bf16) :
    val_main_v21 (F := Ideal) p q g = merge (M := 8192) p q (cols (N := 16384) 12288 (by omega) g) (cols (N := 16384) 14336 (by omega) g) := by
  funext i
  rw [pair i]
  pointwise [val_main_v21, val_main_v20, val_main_v19, val_main_v18, val_main_v17, val_main_v16, val_main_cst_2, val_main_v15, val_main_v14,
    val_main_cst_1, val_main_v13, val_main_v12, val_main_v11, val_main_v10, val_main_v9, val_main_v8, val_main_cst_0, val_main_v7, val_main_v6,
    val_main_cst, val_main_v5, val_main_v4, val_main_v3, val_main_v2, val_main_v1, val_main_v0]
  unfold merge cols Ideal.logistic
  simp only [← Nat.add_assoc]

/-- The reference's transposed copy. -/
theorem reference4 (p q : FVec Ideal S8192x2048 .bf16) (g : FVec Ideal S8192x16384 .bf16) :
    val_main_v22 (F := Ideal) p q g = turn (merge (M := 8192) p q (cols (N := 16384) 12288 (by omega) g) (cols (N := 16384) 14336 (by omega) g)) := by
  funext i
  rw [val_main_v22_apply, reference3]
  exact congrArg _ (pair _)

end Cert.Kernel16Ideal.Step

end
-- ==== Proof.Loss.lean ====
/- The loss of one example: the sum of the mean squared errors of the normed rows, a strip of sixteen rows at a time. -/
module

public import proofs.«01_k».proof.Proof.NormFwd
public import proofs.«01_k».proof.Proof.LossFrame
public import proofs.«01_k».proof.Proof.Gen.Reference20Ideal.Read
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Norm

/-- The mean squared error of one row: the norm of `x + h`, scaled by `w`, against `t`. -/
def miss (x h t w : Fin 2048 → EReal) : EReal :=
  Ideal.div (∑ k, (fwd (fun k => x k + h k) w k - t k) * (fwd (fun k => x k + h k) w k - t k)) ((2048 : ℝ) : EReal)

/-- The mean squared error of a row of a matrix, and nothing past its last row. -/
def mark {M : ℕ} (X H T : (⟨2, ![M, 2048]⟩ : Shape).Idx → EReal) (W : (⟨2, ![1, 2048]⟩ : Shape).Idx → EReal) (n : ℕ) : EReal :=
  if h : n < M then miss (row X ⟨n, h⟩) (row H ⟨n, h⟩) (row T ⟨n, h⟩) (row W 0) else 0

/-- A strip of whole rows, entry by entry. -/
theorem strip_at {M S N o : ℕ} {off : Fin 2 → ℕ} (h0 : off 0 = o) (h1 : off 1 = 0) (inb : ∀ a, off a + (![S, N] : Fin 2 → ℕ) a ≤ (![M, N] : Fin 2 → ℕ) a)
    (l : Fin S) (j : Fin N) (h : o + l.val < M) :
    (Rect.unit (s := ⟨2, ![M, N]⟩) off ![S, N] inb).emb (ix2 l j) = ix2 ⟨o + l.val, h⟩ j := by
  funext a
  refine Fin.ext ?_
  fin_cases a
  · show off 0 + 1 * l.val = o + l.val
    omega
  · show off 1 + 1 * j.val = j.val
    omega

/-- Rows counted sixteen at a time. -/
theorem sum_strips (g : ℕ → EReal) (n : ℕ) : ∑ l : Fin 16, ∑ s ∈ Finset.range n, g (16 * s + l.val) = ∑ i ∈ Finset.range (16 * n), g i := by
  induction n with
  | zero => simp
  | succ n ih =>
    rw [Nat.mul_succ, Finset.sum_range_add, ← ih, Finset.sum_range (n := 16), ← Finset.sum_add_distrib]
    exact Finset.sum_congr rfl fun l _ => Finset.sum_range_succ _ n

end Cert.Norm

namespace Cert.Kernel20Ideal.Step

open Cert.Kernel20Ideal Cert.Kernel20Ideal.Gen Cert.Norm Cert.Adam
open Cert.Ret (eps lit_eps)
open Cert.Mul (pair)

variable (m : (ℓ : Loc nD τ sig) → Buf (Elt Ideal) ℓ) (c : Dev nD)

theorem added_at (x : Vec Ideal S16x2048 .f32) (h : Vec Ideal S16x2048 .bf16) (l : Fin 16) (j : Fin 2048) :
    k0_pay8 (F := Ideal) x h (ix2 l j) = row x l j + row h l j := by
  pointwise [k0_pay8]
  rfl

theorem inv_at (x : Vec Ideal S16x2048 .f32) (h : Vec Ideal S16x2048 .bf16) (l : Fin 16) (z : Fin 1) :
    k0_pay9 (F := Ideal) x h (ix2 l z) = inv (fun k => row x l k + row h l k) := by
  pointwise [k0_pay9]
  simp only [added_at]
  rw [lit_eps, lit_2048]
  rfl

theorem off_at (x : Vec Ideal S16x2048 .f32) (h : Vec Ideal S16x2048 .bf16) (w : Vec Ideal S1x2048 .f32) (t : Vec Ideal S16x2048 .f32)
    (l : Fin 16) (j : Fin 2048) : k0_pay11 (F := Ideal) x h w t (ix2 l j) = fwd (fun k => row x l k + row h l k) (row w 0) j - row t l j := by
  pointwise [k0_pay11, k0_pay10]
  rw [added_at, inv_at]
  rfl

theorem strip_sum (x : Vec Ideal S16x2048 .f32) (h : Vec Ideal S16x2048 .bf16) (w : Vec Ideal S1x2048 .f32) (t : Vec Ideal S16x2048 .f32)
    (a : Vec Ideal S16x1 .f32) (l : Fin 16) (z : Fin 1) :
    k0_pay12 (F := Ideal) x h w t a (ix2 l z) = a (ix2 l z) + miss (row x l) (row h l) (row t l) (row w 0) := by
  pointwise [k0_pay12]
  simp only [off_at]
  rw [lit_2048]
  rfl

theorem total_at (a : Vec Ideal S16x1 .f32) (z z' : Fin 1) :
    k0_pay7 (F := Ideal) a (ix2 z z') = Ideal.ofBits .f32 0x3F000000#32 * ∑ l : Fin 16, a (ix2 l 0) := by
  pointwise [k0_pay7]

theorem zero_at (y : S16x1.Idx) : k0_pay2 (F := Ideal) y = 0 := by
  rw [pair y]
  pointwise [k0_pay2]

section

variable (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x1 .f32) (harg7 : arg7.IsWhole) (arg8 : Memref sig .tc .vmem S1x2048 .f32) (harg8 : arg8.IsWhole) (arg9 : Memref sig .tc .vmem S16x2048 .f32) (harg9 : arg9.IsWhole) (arg10 : Memref sig .tc .vmem S16x1 .f32) (harg10 : arg10.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (f : BufTy.Contents (Elt Ideal) arg5.view.ty) (e : BufTy.Contents (Elt Ideal) arg6.view.ty) (g : BufTy.Contents (Elt Ideal) arg9.view.ty) (a : BufTy.Contents (Elt Ideal) arg10.view.ty)

/-- What one trip adds to the sums. -/
theorem trip_sum (k : Fin k0_t1_loop.trips) (l : Fin 16) (z : Fin 1) :
    arg10.view.read (Elt Ideal) (arg10.view.writes (Elt Ideal) a (tripL_k0_t1 (F := Ideal) Variants.none c none i arg1 harg1 arg2 harg2 arg3 harg3 arg4 harg4 arg5 harg5 arg6 harg6 arg7 harg7 arg8 harg8 arg9 harg9 arg10 harg10 X1 X2 X3 X4 k f e g a).2.2.2) (ix2 l z)
      = arg10.view.read (Elt Ideal) a (ix2 l z)
        + mark (arg1.view.read (Elt Ideal) X1) (arg2.view.read (Elt Ideal) X2) (arg3.view.read (Elt Ideal) X3) (arg4.view.read (Elt Ideal) X4) (16 * k.val + l.val) := by
  have hk : k.val < 16 := Nat.lt_of_lt_of_le k.isLt k0_t1_abs.2.1
  have h0 : k0_off1 k 0 = 16 * k.val := by rw [k0_off1_eq]; rfl
  have h1 : k0_off1 k 1 = 0 := by rw [k0_off1_eq]; rfl
  have hl : 16 * k.val + l.val < 256 := by omega
  unfold tripL_k0_t1 trip_k0_t1
  refine (congrFun (View.read_writes_full arg10.view a _ _ []) (ix2 l z)).trans ((strip_sum _ _ _ _ _ _ _).trans (congrArg₂ (· + ·) ?_ ?_))
  · exact congrFun (View.readAt_full arg10.view a _) (ix2 l z)
  · unfold mark
    rw [dif_pos hl]
    refine congr (congr (congrArg₂ miss (funext fun j => ?_) (funext fun j => ?_)) (funext fun j => ?_)) (funext fun j => ?_)
    · exact congrArg (arg1.view.read (Elt Ideal) X1) (strip_at h0 h1 _ l j hl)
    · exact congrArg (arg2.view.read (Elt Ideal) X2) (strip_at h0 h1 _ l j hl)
    · exact congrArg (arg3.view.read (Elt Ideal) X3) (strip_at h0 h1 _ l j hl)
    · exact congrArg (arg4.view.read (Elt Ideal) X4) (strip_at (o := 0) rfl rfl _ 0 j (by decide))

/-- What the first trips add. -/
theorem trips_sum (l : Fin 16) (z : Fin 1) (n : ℕ) (hn : n ≤ k0_t1_loop.trips) :
    arg10.view.read (Elt Ideal) (arg10.view.writes (Elt Ideal) a (pb_k0_t1 (F := Ideal) Variants.none c none i arg1 harg1 arg2 harg2 arg3 harg3 arg4 harg4 arg5 harg5 arg6 harg6 arg7 harg7 arg8 harg8 arg9 harg9 arg10 harg10 X1 X2 X3 X4 f e g a n).2.2.2) (ix2 l z)
      = arg10.view.read (Elt Ideal) a (ix2 l z)
        + ∑ s ∈ Finset.range n, mark (arg1.view.read (Elt Ideal) X1) (arg2.view.read (Elt Ideal) X2) (arg3.view.read (Elt Ideal) X3) (arg4.view.read (Elt Ideal) X4) (16 * s + l.val) := by
  induction n with
  | zero =>
    rw [Finset.range_zero, Finset.sum_empty, add_zero]
    rfl
  | succ n ih =>
    rw [pb_k0_t1_succ Variants.none c none i arg1 harg1 arg2 harg2 arg3 harg3 arg4 harg4 arg5 harg5 arg6 harg6 arg7 harg7 arg8 harg8 arg9 harg9 arg10 harg10 X1 X2 X3 X4 f e g a ⟨n, hn⟩, Finset.sum_range_succ, ← add_assoc, ← ih (Nat.le_of_succ_le hn)]
    exact (congrFun (congrArg (arg10.view.read (Elt Ideal)) (View.writes_append arg10.view a _ _)) _).trans
      (trip_sum c i arg1 harg1 arg2 harg2 arg3 harg3 arg4 harg4 arg5 harg5 arg6 harg6 arg7 harg7 arg8 harg8 arg9 harg9 arg10 harg10 X1 X2 X3 X4 _ _ _ _ ⟨n, hn⟩ l z)

variable (x : Vec Ideal S256x2048 .f32) (h : Vec Ideal S256x2048 .bf16) (t : Vec Ideal S256x2048 .f32) (w : Vec Ideal S1x2048 .f32)
  (s : Vec Ideal S16x2048 .f32) (b : Vec Ideal S16x1 .f32)

/-- What the loop adds, whatever the outputs are. -/
theorem loop_sum (l : Fin 16) (z : Fin 1) :
    arg10.view.read (Elt Ideal) (arg10.view.writes (Elt Ideal) a (pb_k0_t1 (F := Ideal) Variants.none c none i arg1 harg1 arg2 harg2 arg3 harg3 arg4 harg4 arg5 harg5 arg6 harg6 arg7 harg7 arg8 harg8 arg9 harg9 arg10 harg10 (harg1.unread x) (harg2.unread h) (harg3.unread t) (harg4.unread w) f e g a k0_t1_loop.trips).2.2.2) (ix2 l z)
      = arg10.view.read (Elt Ideal) a (ix2 l z) + ∑ s ∈ Finset.range 16, mark x h t w (16 * s + l.val) := by
  have q := trips_sum c i arg1 harg1 arg2 harg2 arg3 harg3 arg4 harg4 arg5 harg5 arg6 harg6 arg7 harg7 arg8 harg8 arg9 harg9 arg10 harg10 (harg1.unread x) (harg2.unread h) (harg3.unread t) (harg4.unread w) f e g a l z k0_t1_loop.trips le_rfl
  rw [harg1.read_unread, harg2.read_unread, harg3.read_unread, harg4.read_unread] at q
  exact q

/-- The sums after the first point, -/
theorem sum_A (hc0 : cond0_0 i) (hc1 : ¬cond0_1 i) (l : Fin 16) (z : Fin 1) :
    sout0_A_1 (F := Ideal) c i arg1 harg1 arg2 harg2 arg3 harg3 arg4 harg4 arg5 harg5 arg6 harg6 arg7 harg7 arg8 harg8 arg9 harg9 arg10 harg10 hc0 hc1 x h t w (ix2 l z) = ∑ s ∈ Finset.range 16, mark x h t w (16 * s + l.val) := by
  refine (View.read_writes_apply_eq VS0_1 _ arg10.view arg10.view.junk (ix2 l z) _ (scover0_A_1 c i arg1 harg1 arg2 harg2 arg3 harg3 arg4 harg4 arg5 harg5 arg6 harg6 arg7 harg7 arg8 harg8 arg9 harg9 arg10 harg10 hc0 hc1 x h t w (ix2 l z))).trans ?_
  refine (congrFun (congrArg (arg10.view.read (Elt Ideal)) (View.writes_append arg10.view arg10.view.junk _ _)) _).trans ?_
  refine (loop_sum c i arg1 harg1 arg2 harg2 arg3 harg3 arg4 harg4 arg5 harg5 arg6 harg6 arg7 harg7 arg8 harg8 arg9 harg9 arg10 harg10 _ _ _ _ x h t w l z).trans ?_
  refine (congrArg₂ (· + ·) ((congrFun (View.read_writes_full arg10.view arg10.view.junk _ _ []) (ix2 l z)).trans (zero_at _)) rfl).trans (zero_add _)

/-- after a middle point, -/
theorem sum_B (hc0 : ¬cond0_0 i) (hc1 : ¬cond0_1 i) (l : Fin 16) (z : Fin 1) :
    sout0_B_1 (F := Ideal) c i arg1 harg1 arg2 harg2 arg3 harg3 arg4 harg4 arg5 harg5 arg6 harg6 arg7 harg7 arg8 harg8 arg9 harg9 arg10 harg10 hc0 hc1 x h t w s b (ix2 l z) = b (ix2 l z) + ∑ s ∈ Finset.range 16, mark x h t w (16 * s + l.val) := by
  refine (View.read_writes_apply_eq VS0_1 _ arg10.view (harg10.unread b) (ix2 l z) _ (scover0_B_1 c i arg1 harg1 arg2 harg2 arg3 harg3 arg4 harg4 arg5 harg5 arg6 harg6 arg7 harg7 arg8 harg8 arg9 harg9 arg10 harg10 hc0 hc1 x h t w s b (ix2 l z))).trans ?_
  refine (loop_sum c i arg1 harg1 arg2 harg2 arg3 harg3 arg4 harg4 arg5 harg5 arg6 harg6 arg7 harg7 arg8 harg8 arg9 harg9 arg10 harg10 _ _ _ _ x h t w l z).trans ?_
  rw [harg10.read_unread]

/-- and the loss after the last. -/
theorem loss_C (hc0 : ¬cond0_0 i) (hc1 : cond0_1 i) (z z' : Fin 1) :
    out0_C_6 (F := Ideal) c i arg1 harg1 arg2 harg2 arg3 harg3 arg4 harg4 arg5 harg5 arg6 harg6 arg7 harg7 arg8 harg8 arg9 harg9 arg10 harg10 hc0 hc1 x h t w s b (ix2 z z')
      = Ideal.ofBits .f32 0x3F000000#32 * ∑ l : Fin 16, (b (ix2 l 0) + ∑ s ∈ Finset.range 16, mark x h t w (16 * s + l.val)) := by
  refine (congrFun (View.read_writes_full VO0_6 _ _ _ []) (ix2 z z')).trans ((total_at _ _ _).trans ?_)
  refine congrArg₂ (· * ·) rfl (Finset.sum_congr rfl fun l _ => ?_)
  refine (congrFun (View.readAt_full arg10.view _ _) (ix2 l 0)).trans ((loop_sum c i arg1 harg1 arg2 harg2 arg3 harg3 arg4 harg4 arg5 harg5 arg6 harg6 arg7 harg7 arg8 harg8 arg9 harg9 arg10 harg10 _ _ _ _ x h t w l 0).trans ?_)
  rw [harg10.read_unread]

end

/-- Which block of its array each window takes at each point. -/
theorem idx : ∀ t : Fin cfg0.N, win0_0.index t = ![t.val, 0] ∧ win0_1.index t = ![t.val, 0] ∧ win0_2.index t = ![t.val, 0] ∧ win0_3.index t = ![0, 0] ∧ win0_6.index t = ![0, 0] :=
  (by decide +kernel : ∀ t : Fin grid0.N, _)

theorem blk0 (t : Fin cfg0.N) (r : Fin 256) (k : Fin 2048) (i : Fin 8192) (hi : i.val = 256 * t.val + r.val) :
    iblk m c 0 t (ix2 r k) = m ((c : Thread nD τ).loc main_arg0) (ix2 i k) := by
  obtain ⟨i, h⟩ := i
  subst hi
  rw [← V_main_arg0 m c]; blk_ext [iblk, idx t]

theorem blk1 (t : Fin cfg0.N) (r : Fin 256) (k : Fin 2048) (i : Fin 8192) (hi : i.val = 256 * t.val + r.val) :
    iblk m c 1 t (ix2 r k) = m ((c : Thread nD τ).loc main_arg1) (ix2 i k) := by
  obtain ⟨i, h⟩ := i
  subst hi
  rw [← V_main_arg1 m c]; blk_ext [iblk, idx t]

theorem blk2 (t : Fin cfg0.N) (r : Fin 256) (k : Fin 2048) (i : Fin 8192) (hi : i.val = 256 * t.val + r.val) :
    iblk m c 2 t (ix2 r k) = m ((c : Thread nD τ).loc main_arg2) (ix2 i k) := by
  obtain ⟨i, h⟩ := i
  subst hi
  rw [← V_main_arg2 m c]; blk_ext [iblk, idx t]

theorem blk3 (t : Fin cfg0.N) (r : Fin 1) (k : Fin 2048) : iblk m c 3 t (ix2 r k) = m ((c : Thread nD τ).loc main_arg3) (ix2 r k) := by
  rw [← V_main_arg3 m c]; blk_ext [iblk, idx t]

/-- The mean squared error of a row of the arguments. -/
def err (n : ℕ) : EReal :=
  mark (M := 8192) (m ((c : Thread nD τ).loc main_arg0)) (m ((c : Thread nD τ).loc main_arg1)) (m ((c : Thread nD τ).loc main_arg2)) (m ((c : Thread nD τ).loc main_arg3)) n

/-- A row of a point's blocks is a row of the arguments. -/
theorem err_block (t : Fin cfg0.N) (n : ℕ) (hn : n < 256) :
    mark (M := 256) (iblk m c 0 t) (iblk m c 1 t) (iblk m c 2 t) (iblk m c 3 t) n = err m c (256 * t.val + n) := by
  have ht : t.val < 32 := Nat.lt_of_lt_of_eq t.isLt N_0
  have h : 256 * t.val + n < 8192 := by omega
  unfold err mark
  rw [dif_pos hn, dif_pos h]
  exact congr (congr (congrArg₂ miss (funext fun k => blk0 m c t ⟨n, hn⟩ k ⟨_, h⟩ rfl) (funext fun k => blk1 m c t ⟨n, hn⟩ k ⟨_, h⟩ rfl))
    (funext fun k => blk2 m c t ⟨n, hn⟩ k ⟨_, h⟩ rfl)) (funext fun k => blk3 m c t 0 k)

/-- What one point adds to one of the sixteen sums. -/
theorem err_point (t : Fin cfg0.N) (l : Fin 16) :
    ∑ s ∈ Finset.range 16, mark (M := 256) (iblk m c 0 t) (iblk m c 1 t) (iblk m c 2 t) (iblk m c 3 t) (16 * s + l.val)
      = ∑ s ∈ Finset.range 16, err m c (16 * (16 * t.val + s) + l.val) := by
  refine Finset.sum_congr rfl fun s hs => ?_
  have hs : s < 16 := Finset.mem_range.mp hs
  rw [err_block m c t _ (by omega)]
  exact congrArg (err m c) (by omega)

/-- One of the sixteen sums after a point, from the sum before it. -/
theorem sums_next (n : ℕ) (l : Fin 16) :
    ∑ s ∈ Finset.range (16 * n), err m c (16 * s + l.val) + ∑ s ∈ Finset.range 16, err m c (16 * (16 * n + s) + l.val)
      = ∑ s ∈ Finset.range (16 * (n + 1)), err m c (16 * s + l.val) := by
  rw [Nat.mul_succ, Finset.sum_range_add]

/-- The sixteen sums after any point but the last. -/
theorem sums : ∀ (n : ℕ) (hn : n < cfg0.N) (h : n ≠ 31) (l : Fin 16) (z : Fin 1),
    (outsAt0 m c n hn).2.2.2.2.2 (ix2 l z) = ∑ s ∈ Finset.range (16 * (n + 1)), err m c (16 * s + l.val) := by
  intro n
  induction n with
  | zero =>
    intro hn h l z
    refine (congrArg (fun p => p.2.2.2.2.2 (ix2 l z)) (outsAt0_A m c ⟨0, hn⟩ (Nat.zero_mod _) (by show ¬0 % 32 = 31; decide))).trans ((sum_A ..).trans ?_)
    rw [err_point, ← sums_next, Nat.mul_zero, Finset.range_zero, Finset.sum_empty, zero_add]
  | succ n ih =>
    intro hn h l z
    have hN : n + 1 < 32 := Nat.lt_of_lt_of_eq hn N_0
    refine (congrArg (fun p => p.2.2.2.2.2 (ix2 l z)) (outsAt0_B m c ⟨n + 1, hn⟩ (by show ¬(n + 1) % 32 = 0; omega) (by show ¬(n + 1) % 32 = 31; omega))).trans ((sum_B ..).trans ?_)
    rw [err_point, ← sums_next]
    exact congrArg₂ (· + ·) (ih _ (by omega) l z) rfl

/-- The loss of the arguments. -/
def loss : EReal := Ideal.ofBits .f32 0x3F000000#32 * ∑ i ∈ Finset.range 8192, err m c i

/-- What the loss's buffer holds after the last point. -/
theorem after6 (t : Fin cfg0.N) (ht : t.val % 32 = 31) (z z' : Fin 1) : (dats m 0 c).after 6 t (ix2 z z') = loss m c := by
  have hN : t.val < 32 := Nat.lt_of_lt_of_eq t.isLt N_0
  have h0 : ¬t.val % 32 = 0 := by omega
  rw [after0_6]
  refine (congrArg (fun p => p.2.2.1 (ix2 z z')) (outsAt0_C m c t h0 ht)).trans ((loss_C (hc0 := fun h => h0 ((hcond0_0 t).mp h)) (hc1 := (hcond0_1 t).mpr ht) ..).trans ?_)
  refine congrArg₂ (· * ·) rfl ((Finset.sum_congr rfl fun l _ => ?_).trans (sum_strips (err m c) 512))
  rw [err_point, sums m c (t.val - 1) _ (by omega) l 0, show t.val - 1 + 1 = t.val by omega, sums_next, show 16 * (t.val + 1) = 512 by omega]

/-- The kernel's loss. -/
theorem final6 : (dats m 0 c).arrAt 6 cfg0.N = fun _ => loss m c := by
  refine ((dats m 0 c).arrAt_eq_of_coversWhere 6 (fun _ => loss m c)
    (fun _ => True) (by decide +kernel) (fun t hf y => ?_) (fun j => Iff.rfl)).trans (funext fun i => if_pos trivial)
  exact (congrArg ((dats m 0 c).after 6 t) (pair y)).trans (after6 m c t ((flush0_6 t).1 hf) _ _)

open Cert.Reference20Ideal.Read

/-- The reference's mean squared error of a row. -/
theorem reference_row (x : FVec Ideal S8192x2048 .f32) (h : FVec Ideal S8192x2048 .bf16) (t : FVec Ideal S8192x2048 .f32) (w : FVec Ideal S1x2048 .f32)
    (l : Fin 8192) : val_main_v18 (F := Ideal) x h t w (ix1 l) = mark x h t w l.val := by
  have e : mark x h t w l.val = miss (row x l) (row h l) (row t l) (row w 0) := by
    unfold mark
    exact dif_pos l.isLt
  rw [e]
  pointwise [val_main_v18, val_main_v17, val_main_cst_3, val_main_v16, val_main_cst_2, val_main_v15, val_main_v14, val_main_v13, val_main_v12,
    val_main_v11, val_main_v10, val_main_v9, val_main_v8, val_main_v7, val_main_cst_1, val_main_v6, val_main_v5, val_main_cst_0, val_main_v4,
    val_main_v3, val_main_cst, val_main_v2, val_main_v1, val_main_v0]
  rw [lit_eps, lit_2048]
  rfl

/-- A sum over the places of a vector. -/
theorem sum_places {n : ℕ} (f : (⟨1, ![n]⟩ : Shape).Idx → EReal) : ∑ j, f j = ∑ i : Fin n, f (ix1 i) :=
  (Fintype.sum_equiv ⟨fun i => ix1 i, fun j => j 0, fun _ => rfl, fun j => (eq_ix1 j).symm⟩ _ _ fun _ => rfl).symm

/-- The reference's loss. -/
theorem reference6 (x : FVec Ideal S8192x2048 .f32) (h : FVec Ideal S8192x2048 .bf16) (t : FVec Ideal S8192x2048 .f32) (w : FVec Ideal S1x2048 .f32) :
    val_main_v23 (F := Ideal) x h t w = fun _ => Ideal.ofBits .f32 0x3F000000#32 * ∑ i ∈ Finset.range 8192, mark x h t w i := by
  funext i
  rw [val_main_v23_apply, val_main_v22_apply, val_main_cst_5_apply, val_main_v21_apply, val_main_v20_apply, val_main_v19_apply, val_main_cst_4_apply]
  refine congrArg₂ (· * ·) rfl ?_
  rw [show FloatOps.ofBits (F := Ideal) .f32 0x00000000#32 = (0 : EReal) from Ideal.ofBits_zero_f32, zero_add, Finset.sum_range]
  exact (sum_places (n := 8192) _).trans (Finset.sum_congr rfl fun l _ => reference_row x h t w l)

end Cert.Kernel20Ideal.Step

end
-- ==== Proof.Results.lean ====
/- Each kernel but the first and its reference end with the same result. -/
module

public import proofs.«01_k».proof.Defs
public import proofs.«01_k».proof.Proof.Runs
public import proofs.«01_k».proof.Proof.Frames
public import proofs.«01_k».proof.Proof.DH
public import proofs.«01_k».proof.Proof.ProjMain
public import proofs.«01_k».proof.Proof.ProjXbc
public import proofs.«01_k».proof.Proof.GWin
public import proofs.«01_k».proof.Proof.Branch
public import proofs.«01_k».proof.Proof.DBranch
public import proofs.«01_k».proof.Proof.WGrad
public import proofs.«01_k».proof.Proof.Adam
public import proofs.«01_k».proof.Proof.AdamLoops
public import proofs.«01_k».proof.Proof.NormFwd
public import proofs.«01_k».proof.Proof.NormBwd
public import proofs.«01_k».proof.Proof.ProjDt
public import proofs.«01_k».proof.Proof.GWinDt
public import proofs.«01_k».proof.Proof.Merge
public import proofs.«01_k».proof.Proof.Loss

@[expose] public section

set_option maxRecDepth 16384

noncomputable section

namespace Cert.Proof

open Idealize.ShloMosaic Idealize.ShloMosaic.TcCoe Idealize.SL.Sem

open Cert.Runs

attribute [local instance] Cert.Kernel2.Gen.facts Cert.Kernel2Ideal.Gen.facts Cert.Reference2Ideal.Gen.facts Cert.Kernel3.Gen.facts Cert.Kernel3Ideal.Gen.facts Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts Cert.Kernel8.Gen.facts Cert.Kernel8Ideal.Gen.facts Cert.Reference8Ideal.Gen.facts Cert.Kernel9.Gen.facts Cert.Kernel9Ideal.Gen.facts Cert.Reference9Ideal.Gen.facts Cert.Kernel10.Gen.facts Cert.Kernel10Ideal.Gen.facts Cert.Reference10Ideal.Gen.facts Cert.Kernel11.Gen.facts Cert.Kernel11Ideal.Gen.facts Cert.Reference11Ideal.Gen.facts Cert.Kernel12.Gen.facts Cert.Kernel12Ideal.Gen.facts Cert.Reference12Ideal.Gen.facts Cert.Kernel13.Gen.facts Cert.Kernel13Ideal.Gen.facts Cert.Reference13Ideal.Gen.facts Cert.Kernel14.Gen.facts Cert.Kernel14Ideal.Gen.facts Cert.Reference14Ideal.Gen.facts Cert.Kernel15.Gen.facts Cert.Kernel15Ideal.Gen.facts Cert.Reference15Ideal.Gen.facts Cert.Kernel16.Gen.facts Cert.Kernel16Ideal.Gen.facts Cert.Reference16Ideal.Gen.facts Cert.Kernel17.Gen.facts Cert.Kernel17Ideal.Gen.facts Cert.Reference17Ideal.Gen.facts Cert.Kernel18.Gen.facts Cert.Kernel18Ideal.Gen.facts Cert.Reference18Ideal.Gen.facts Cert.Kernel19.Gen.facts Cert.Kernel19Ideal.Gen.facts Cert.Reference19Ideal.Gen.facts Cert.Kernel20.Gen.facts Cert.Kernel20Ideal.Gen.facts Cert.Reference20Ideal.Gen.facts half_facts half_dt_facts

theorem same_result2 : Cert.algebraic_Kernel2Ideal_Reference2Ideal := by
  intro m g m' g' _ hagree
  refine ⟨_, with_kept (Cert.Kernel2Ideal.Gen.run_main m g) (fun r h c => ((h c).1 4).trans (Cert.Kernel2Ideal.Mul.final m c)) (Cert.Kernel2Ideal.Gen.unchanged m g),
    named (Cert.Reference2Ideal.Value.run m' g') fun c => ?_⟩
  obtain ⟨e0, e1, e2, e3⟩ := hagree c
  rw [e0, e1, e2, e3]
  exact Cert.Kernel2Ideal.Mul.reference_at _ _ _ _

theorem same_result3 : Cert.algebraic_Kernel3Ideal_Reference3Ideal := by
  intro m g m' g' _ hagree
  refine ⟨_, with_kept (Cert.Kernel3Ideal.Gen.run_main m g) (fun r h c => ((h c).1 2).trans (Cert.Kernel3Ideal.Mul.final m c)) (Cert.Kernel3Ideal.Gen.unchanged m g),
    named (Cert.Reference3Ideal.Value.run m' g') fun c => ?_⟩
  obtain ⟨e0, e1⟩ := hagree c
  rw [e0, e1]
  exact Cert.Kernel3Ideal.Mul.reference_at _ _

theorem same_result4 : Cert.algebraic_Kernel4Ideal_Reference4Ideal := by
  intro m g m' g' _ hagree
  refine ⟨_, with_kept (Cert.Kernel4Ideal.Gen.run_main m g) (fun r h c => ((h c).1 2).trans (Cert.Kernel4Ideal.Mul.final m c)) (Cert.Kernel4Ideal.Gen.unchanged m g),
    named (Cert.Reference4Ideal.Value.run m' g') fun c => ?_⟩
  obtain ⟨e0, e1⟩ := hagree c
  rw [e0, e1]
  exact Cert.Kernel4Ideal.Mul.reference_at _ _

theorem same_result5 : Cert.algebraic_Kernel5Ideal_Reference5Ideal := by
  intro m g m' g' hp hagree
  obtain ⟨h, hw⟩ := Cert.Kernel5Ideal.Mul.half_of_pre _ _ _ (hp 0)
  have hO := Cert.Kernel5Ideal.Mul.ok m h hw
  refine ⟨_, with_kept (Cert.Kernel5Ideal.Gen.run_main m g hO) (fun r e c => ((e c).1 2).trans (Cert.Kernel5Ideal.Mul.final m hO h hw c)) (Cert.Kernel5Ideal.Gen.unchanged m g hO),
    named (Cert.Reference5Ideal.Value.run m' g') fun c => ?_⟩
  obtain ⟨e0, e1, e2⟩ := hagree c
  rw [e0, e1, e2]
  obtain rfl : c = 0 := Subsingleton.elim _ _
  exact Cert.Kernel5Ideal.Mul.reference_at h _ _ _ hw

theorem same_result6 : Cert.algebraic_Kernel6Ideal_Reference6Ideal := by
  intro m g m' g' _ hagree
  refine ⟨_, with_kept (Cert.Kernel6Ideal.Gen.run_main m g) (fun r h c => ((h c).1 2).trans (Cert.Kernel6Ideal.Mul.final m c)) (Cert.Kernel6Ideal.Gen.unchanged m g),
    named (Cert.Reference6Ideal.Value.run m' g') fun c => ?_⟩
  obtain ⟨e0, e1⟩ := hagree c
  rw [e0, e1]
  exact Cert.Kernel6Ideal.Mul.reference_at _ _

theorem same_result7 : Cert.algebraic_Kernel7Ideal_Reference7Ideal := by
  intro m g m' g' _ hagree
  refine ⟨_, with_kept (Cert.Kernel7Ideal.Gen.run_main m g) (fun r h c => ((h c).1 2).trans (Cert.Kernel7Ideal.Mul.final m c)) (Cert.Kernel7Ideal.Gen.unchanged m g),
    named (Cert.Reference7Ideal.Value.run m' g') fun c => ?_⟩
  obtain ⟨e0, e1⟩ := hagree c
  rw [e0, e1]
  exact Cert.Kernel7Ideal.Mul.reference_at _ _

theorem same_result8 : Cert.algebraic_Kernel8Ideal_Reference8Ideal := by
  intro m g m' g' _ hagree
  refine ⟨_, with_kept (Cert.Kernel8Ideal.Gen.run_main m g) (fun r h c => ((h c).1 2).trans (Cert.Kernel8Ideal.Mul.final m c)) (Cert.Kernel8Ideal.Gen.unchanged m g),
    named (Cert.Reference8Ideal.Value.run m' g') fun c => ?_⟩
  obtain ⟨e0, e1⟩ := hagree c
  rw [e0, e1]
  exact Cert.Kernel8Ideal.Mul.reference_at _ _

theorem same_result9 : Cert.algebraic_Kernel9Ideal_Reference9Ideal := by
  intro m g m' g' _ hagree
  refine ⟨_, with_kept (Cert.Kernel9Ideal.Gen.run_main m g) (fun r h c => ((h c).1 2).trans (Cert.Kernel9Ideal.Mul.final m c)) (Cert.Kernel9Ideal.Gen.unchanged m g),
    named (Cert.Reference9Ideal.Value.run m' g') fun c => ?_⟩
  obtain ⟨e0, e1⟩ := hagree c
  rw [e0, e1]
  exact Cert.Kernel9Ideal.Mul.reference_at _ _

theorem same_result10 : Cert.algebraic_Kernel10Ideal_Reference10Ideal := by
  intro m g m' g' _ hagree
  refine ⟨_, with_kept (Cert.Kernel10Ideal.Gen.run_main m g) (fun r h c => ((h c).1 2).trans (Cert.Kernel10Ideal.Mul.final m c)) (Cert.Kernel10Ideal.Gen.unchanged m g),
    named (Cert.Reference10Ideal.Value.run m' g') fun c => ?_⟩
  obtain ⟨e0, e1⟩ := hagree c
  rw [e0, e1]
  exact Cert.Kernel10Ideal.Mul.reference_at _ _

theorem same_result11 : Cert.algebraic_Kernel11Ideal_Reference11Ideal := by
  intro m g m' g' _ hagree
  refine ⟨_, with_kept (Cert.Kernel11Ideal.Gen.run_main m g) (fun r h c => ((h c).1 2).trans (Cert.Kernel11Ideal.Mul.final m c)) (Cert.Kernel11Ideal.Gen.unchanged m g),
    named (Cert.Reference11Ideal.Value.run m' g') fun c => ?_⟩
  obtain ⟨e0, e1⟩ := hagree c
  rw [e0, e1]
  exact Cert.Kernel11Ideal.Mul.reference_at _ _

theorem same_result12 : Cert.algebraic_Kernel12Ideal_Reference12Ideal := by
  intro m g m' g' _ hagree
  refine ⟨_, _, _, with_kept₃ (Cert.Kernel12Ideal.Gen.run_main m g)
      (fun r h c => ⟨((h c).1 4).trans (Cert.Kernel12Ideal.Step.final4 m c), ((h c).1 5).trans (Cert.Kernel12Ideal.Step.final5 m c),
        ((h c).1 6).trans (Cert.Kernel12Ideal.Step.final6 m c)⟩) (Cert.Kernel12Ideal.Gen.unchanged m g),
    named₃ (Cert.Reference12Ideal.Value.run m' g') fun c => ?_⟩
  obtain ⟨e0, e1, e2, e3⟩ := hagree c
  rw [e0, e1, e2, e3]
  exact ⟨Cert.Kernel12Ideal.Step.reference4 _ _ _ _, Cert.Kernel12Ideal.Step.reference5 _ _, Cert.Kernel12Ideal.Step.reference6 _ _⟩

theorem same_result13 : Cert.algebraic_Kernel13Ideal_Reference13Ideal := by
  intro m g m' g' _ hagree
  refine ⟨_, _, _, with_kept₃ (Cert.Kernel13Ideal.Gen.run_main m g)
      (fun r h c => ⟨((h c).1 4).trans (Cert.Kernel13Ideal.Step.final4 m c), ((h c).1 5).trans (Cert.Kernel13Ideal.Step.final5 m c),
        ((h c).1 6).trans (Cert.Kernel13Ideal.Step.final6 m c)⟩) (Cert.Kernel13Ideal.Gen.unchanged m g),
    named₃ (Cert.Reference13Ideal.Value.run m' g') fun c => ?_⟩
  obtain ⟨e0, e1, e2, e3⟩ := hagree c
  rw [e0, e1, e2, e3]
  exact ⟨Cert.Kernel13Ideal.Step.reference4 _ _ _ _, Cert.Kernel13Ideal.Step.reference5 _ _, Cert.Kernel13Ideal.Step.reference6 _ _⟩

theorem same_result14 : Cert.algebraic_Kernel14Ideal_Reference14Ideal := by
  intro m g m' g' _ hagree
  refine ⟨_, _, _, with_kept₃ (Cert.Kernel14Ideal.Gen.run_main m g)
      (fun r h c => ⟨((h c).1 4).trans (Cert.Kernel14Ideal.Step.final4 m c), ((h c).1 5).trans (Cert.Kernel14Ideal.Step.final5 m c),
        ((h c).1 6).trans (Cert.Kernel14Ideal.Step.final6 m c)⟩) (Cert.Kernel14Ideal.Gen.unchanged m g),
    named₃ (Cert.Reference14Ideal.Value.run m' g') fun c => ?_⟩
  obtain ⟨e0, e1, e2, e3⟩ := hagree c
  rw [e0, e1, e2, e3]
  exact ⟨Cert.Kernel14Ideal.Step.reference4 _ _ _ _, Cert.Kernel14Ideal.Step.reference5 _ _, Cert.Kernel14Ideal.Step.reference6 _ _⟩

theorem same_result15 : Cert.algebraic_Kernel15Ideal_Reference15Ideal := by
  intro m g m' g' _ hagree
  refine ⟨_, _, with_kept₂ (Cert.Kernel15Ideal.Gen.run_main m g)
      (fun r h c => ⟨((h c).1 2).trans (Cert.Kernel15Ideal.Step.final2 m c), ((h c).1 3).trans (Cert.Kernel15Ideal.Step.final3 m c)⟩)
      (Cert.Kernel15Ideal.Gen.unchanged m g),
    named₂ (Cert.Reference15Ideal.Value.run m' g') fun c => ?_⟩
  obtain ⟨e0, e1⟩ := hagree c
  rw [e0, e1]
  exact ⟨Cert.Kernel15Ideal.Step.reference2 _ _, Cert.Kernel15Ideal.Step.reference3 _ _⟩

theorem same_result16 : Cert.algebraic_Kernel16Ideal_Reference16Ideal := by
  intro m g m' g' _ hagree
  refine ⟨_, _, with_kept₂ (Cert.Kernel16Ideal.Gen.run_main m g)
      (fun r h c => ⟨((h c).1 3).trans (Cert.Kernel16Ideal.Step.final3 m c), ((h c).1 4).trans (Cert.Kernel16Ideal.Step.final4 m c)⟩)
      (Cert.Kernel16Ideal.Gen.unchanged m g),
    named₂ (Cert.Reference16Ideal.Value.run m' g') fun c => ?_⟩
  obtain ⟨e0, e1, e2⟩ := hagree c
  rw [e0, e1, e2]
  exact ⟨Cert.Kernel16Ideal.Step.reference3 _ _ _, Cert.Kernel16Ideal.Step.reference4 _ _ _⟩

theorem same_result17 : Cert.algebraic_Kernel17Ideal_Reference17Ideal := by
  intro m g m' g' _ hagree
  refine ⟨_, with_kept (Cert.Kernel17Ideal.Gen.run_main m g) (fun r h c => ((h c).1 4).trans (Cert.Kernel17Ideal.Step.final4 m c))
      (Cert.Kernel17Ideal.Gen.unchanged m g),
    named (Cert.Reference17Ideal.Value.run m' g') fun c => ?_⟩
  obtain ⟨e0, e1, e2, e3⟩ := hagree c
  rw [e0, e1, e2, e3]
  exact Cert.Kernel17Ideal.Step.reference4 _ _ _ _

theorem same_result18 : Cert.algebraic_Kernel18Ideal_Reference18Ideal := by
  intro m g m' g' _ hagree
  refine ⟨_, with_kept (Cert.Kernel18Ideal.Gen.run_main m g) (fun r h c => ((h c).1 2).trans (Cert.Kernel18Ideal.Mul.final m c)) (Cert.Kernel18Ideal.Gen.unchanged m g),
    named (Cert.Reference18Ideal.Value.run m' g') fun c => ?_⟩
  obtain ⟨e0, e1⟩ := hagree c
  rw [e0, e1]
  exact Cert.Kernel18Ideal.Mul.reference_at _ _

theorem same_result19 : Cert.algebraic_Kernel19Ideal_Reference19Ideal := by
  intro m g m' g' hp hagree
  obtain ⟨h, hw⟩ := Cert.Kernel19Ideal.Mul.half_of_pre _ _ _ (hp 0)
  have hO := Cert.Kernel19Ideal.Mul.ok m h hw
  refine ⟨_, with_kept (Cert.Kernel19Ideal.Gen.run_main m g hO) (fun r e c => ((e c).1 2).trans (Cert.Kernel19Ideal.Mul.final m hO h hw c)) (Cert.Kernel19Ideal.Gen.unchanged m g hO),
    named (Cert.Reference19Ideal.Value.run m' g') fun c => ?_⟩
  obtain ⟨e0, e1, e2⟩ := hagree c
  rw [e0, e1, e2]
  obtain rfl : c = 0 := Subsingleton.elim _ _
  exact Cert.Kernel19Ideal.Mul.reference_at h _ _ _ hw

theorem same_result20 : Cert.algebraic_Kernel20Ideal_Reference20Ideal := by
  intro m g m' g' _ hagree
  refine ⟨_, with_kept (Cert.Kernel20Ideal.Gen.run_main m g) (fun r h c => ((h c).1 6).trans (Cert.Kernel20Ideal.Step.final6 m c))
      (Cert.Kernel20Ideal.Gen.unchanged m g),
    named (Cert.Reference20Ideal.Value.run m' g') fun c => ?_⟩
  obtain ⟨e0, e1, e2, e3⟩ := hagree c
  rw [e0, e1, e2, e3]
  exact Cert.Kernel20Ideal.Step.reference6 _ _ _ _

end Cert.Proof

end
-- ==== Proof.lean ====
/- The proof of the claims of `Defs.lean`.
   Both kernel frames are the one run of the kernel's generated region proof, at bit patterns and at the extended reals. The value
   claim sets the region's result (`Proof/Final.lean`, over the arrays `Proof/Host.lean` reads) beside the reference's
   (`Proof/Refer.lean`): each is the same function of the real data `Proof/Args.lean` takes from the arguments.
   The other calls' frames and results are in `Proof/Frames.lean` and `Proof/Results.lean`. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Frame.Runs
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20Ideal.Frame.Runs
public import proofs.«01_k».proof.Proof.Gen.Reference20Ideal
public import proofs.«01_k».proof.Proof.Gen.Reference20Ideal.Run
public import proofs.«01_k».proof.Proof.Gen.Reference20Ideal.Read
public import proofs.«01_k».proof.Proof.Same
public import proofs.«01_k».proof.Proof.Host
public import proofs.«01_k».proof.Proof.Args
public import proofs.«01_k».proof.Proof.Frames
public import proofs.«01_k».proof.Proof.Results
public import Idealize.ShloMosaic.Adequacy
public import Idealize.ShloMosaic.Init

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Ret.pre_facts

/-- The kernel over the extended reals. -/
theorem frame_ideal : Cert.quiescent_KernelIdeal := fun m ρ _ => Cert.KernelIdeal.Gen.frame (F := Ideal) m ρ

/-- The reference's frame. -/
theorem frame_reference : Cert.quiescent_ReferenceIdeal :=
  fun m g _ => (θ_run Cert.ReferenceIdeal.defs _ _).mono
    (fun r h => ⟨fun c => (h c).2, sem_eq_zero_of_no_sems rfl _⟩) (Cert.ReferenceIdeal.Value.run (F := Ideal) m g)

/-- What both programs compute of the arguments on a device. -/
def result (x0 : FVec Ideal Cert.KernelIdeal.S8192x16384 .bf16) (x1 : IVec Cert.KernelIdeal.S8192 32)
    (x2 : FVec Ideal Cert.KernelIdeal.S8192x2048 .bf16) (x3 : FVec Ideal Cert.KernelIdeal.S8192x22528 .bf16) :
    FVec Ideal Cert.KernelIdeal.S8192x22528 .bf16 := fun i =>
  if (i 1).val < 8192 then ((Cert.Ret.passOf x0 x1 x2).res (i 0) ⟨(i 1).val % 8192, Nat.mod_lt _ (by norm_num)⟩ : EReal) else x3 i

/-- The reference's result. -/
theorem reference_result (hp : Cert.Pre_finite.Facts) (x0 x1 x2 x3) (h : Cert.Pre_finite.fn (F := Ideal) x0 x1 x2 x3 = fun _ => 1#1) :
    Cert.ReferenceIdeal.Read.val_main_v209 (F := Ideal) x0 x1 x2 x3 = result x0 x1 x2 x3 := by
  obtain ⟨h0, h2⟩ := Cert.Ret.reals hp x0 x1 x2 x3 h
  funext i
  rw [show i = ix2 (i 0) (i 1) from funext fun k => by fin_cases k <;> rfl]
  exact Cert.Ret.v209_at x3 (Cert.Ret.data x0 x1 x2 h0 h2) (i 0) (i 1)

section

open Cert.KernelIdeal Cert.KernelIdeal.Gen Cert.KernelIdeal.Ret

/-- The kernel's result. -/
theorem kernel_result (hp : Cert.Pre_finite.Facts) (m : (ℓ : Loc nD τ sig) → Buf (Elt Ideal) ℓ) (c : Dev nD)
    (h : Cert.Pre_finite.fn (F := Ideal) (arg0 m c) (arg1 m c) (arg2 m c) (m ((c : Thread nD τ).loc main_arg3)) = fun _ => 1#1) :
    (dats m 0 c).arrAt 10 cfg0.N = result (arg0 m c) (arg1 m c) (arg2 m c) (m ((c : Thread nD τ).loc main_arg3)) := by
  obtain ⟨h0, h2⟩ := Cert.Ret.reals hp _ _ _ _ h
  rw [final (feeds (Cert.Ret.data _ _ _ h0 h2)), V234]
  rfl

end

section

open Cert.ReferenceIdeal

/-- The reference's run, its result named. -/
theorem run_reference (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v209)
          = Read.val_main_v209 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => And.intro ((h c).1.trans (Read.val_main_v209_eq (StableHlo.launchContents m c))) (h c).2)
    (Value.run (F := Ideal) m g)

end

/-- The two programs give the same result. -/
theorem same_result : Cert.algebraic_KernelIdeal_ReferenceIdeal_pre_finite := by
  intro m g m' g' hpre hagree
  refine ⟨fun c => result (Cert.KernelIdeal.Ret.arg0 m c) (Cert.KernelIdeal.Ret.arg1 m c) (Cert.KernelIdeal.Ret.arg2 m c)
    (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks (F := Ideal) m g)
    exact ⟨(h c).1.trans (kernel_result Cert.Ret.pre_facts m c (hpre c)), (h c).2⟩
  · refine (θ_run Cert.ReferenceIdeal.defs _ _).mono (fun r h c => ?_) (run_reference m' g')
    obtain ⟨hr, hk⟩ := h c
    obtain ⟨e0, e1, e2, e3⟩ := hagree c
    refine ⟨hr.trans ?_, hk⟩
    rw [e0, e1, e2, e3]
    exact reference_result Cert.Ret.pre_facts _ _ _ _ (hpre c)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Ret.pre_facts, half_facts, half_dt_facts,
  frame_kernel, frame_ideal, fun m g _ => frame_ideal m g trivial, frame_reference, fun m g _ => frame_reference m g trivial,
  frame_kernel2, frame_ideal2, frame_reference2,
  frame_kernel3, frame_ideal3, frame_reference3,
  frame_kernel4, frame_ideal4, frame_reference4,
  frame_kernel5, frame_ideal5, frame_reference5, fun m g _ => frame_reference5 m g trivial,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_reference19, fun m g _ => frame_reference19 m g trivial,
  frame_kernel20, frame_ideal20, frame_reference20,
  trivial, same_result,
  trivial, same_result2,
  trivial, same_result3,
  trivial, same_result4,
  trivial, same_result5,
  trivial, same_result6,
  trivial, same_result7,
  trivial, same_result8,
  trivial, same_result9,
  trivial, same_result10,
  trivial, same_result11,
  trivial, same_result12,
  trivial, same_result13,
  trivial, same_result14,
  trivial, same_result15,
  trivial, same_result16,
  trivial, same_result17,
  trivial, same_result18,
  trivial, same_result19,
  trivial, same_result20⟩

end Cert.Proof

end
